-- ==== Defs.lean ====
def Pre_Kernel [hPre_setup_ranges : Cert.Pre_setup_ranges.Facts] (m : (ℓ : Loc Cert.Kernel.nD Cert.Kernel.τ Cert.Kernel.sig) → Buf (Elt Bits) ℓ) : Prop :=
  ∀ c : Dev Cert.Kernel.nD,
    (Cert.Pre_setup_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))).1 = (fun _ => 1#1)
    ∧ (Cert.Pre_setup_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))).2.1 = (fun _ => 1#1)
    ∧ (Cert.Pre_setup_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))).2.2.1 = (fun _ => 1#1)
    ∧ (Cert.Pre_setup_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))).2.2.2.1 = (fun _ => 1#1)
    ∧ (Cert.Pre_setup_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))).2.2.2.2 = (fun _ => 1#1)

def Pre_KernelIdeal [hPre_setup_ranges : Cert.Pre_setup_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_setup_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_setup_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_setup_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_setup_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_setup_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup_ranges [hPre_setup_ranges : Cert.Pre_setup_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_setup_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_setup_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_setup_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_setup_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2 = (fun _ => 1#1)

def quiescent_Kernel [hKernel : Cert.Kernel.Facts] [hPre_setup_ranges : Cert.Pre_setup_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_setup_ranges : Cert.Pre_setup_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_setup_ranges [hReferenceIdeal : Cert.ReferenceIdeal.Facts] [hPre_setup_ranges : Cert.Pre_setup_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_setup_ranges : Cert.Pre_setup_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_setup_ranges : Cert.Pre_setup_ranges.Facts),
    quiescent_Kernel (hKernel := hKernel) (hPre_setup_ranges := hPre_setup_ranges)
    ∧ quiescent_KernelIdeal (hKernelIdeal := hKernelIdeal) (hPre_setup_ranges := hPre_setup_ranges)
    ∧ quiescent_ReferenceIdeal (hReferenceIdeal := hReferenceIdeal)
    ∧ quiescent_ReferenceIdeal_pre_setup_ranges (hReferenceIdeal := hReferenceIdeal) (hPre_setup_ranges := hPre_setup_ranges)
    ∧ preserves_Kernel_KernelIdeal
    ∧ algebraic_KernelIdeal_ReferenceIdeal (hKernelIdeal := hKernelIdeal) (hReferenceIdeal := hReferenceIdeal) (hPre_setup_ranges := hPre_setup_ranges)
-- ==== Pre_setup_ranges.lean ====
abbrev S10000x128 : Shape := ⟨2, ![10000, 128]⟩
abbrev S160000x16 : Shape := ⟨2, ![160000, 16]⟩
abbrev S128x32 : Shape := ⟨2, ![128, 32]⟩
abbrev S2x8192 : Shape := ⟨2, ![2, 8192]⟩
abbrev S129 : Shape := ⟨1, ![129]⟩
abbrev S17 : Shape := ⟨1, ![17]⟩
abbrev S8192 : Shape := ⟨1, ![8192]⟩
abbrev S129x64 : Shape := ⟨2, ![129, 64]⟩
abbrev S128x256 : Shape := ⟨2, ![128, 256]⟩
abbrev S256 : Shape := ⟨1, ![256]⟩
abbrev S16x256 : Shape := ⟨2, ![16, 256]⟩
abbrev S3x256x256 : Shape := ⟨3, ![3, 256, 256]⟩
abbrev S3x256 : Shape := ⟨2, ![3, 256]⟩
abbrev S_ : Shape := ⟨0, ![]⟩

class Facts : Prop where
  bcast_S_S128x32 : S_.BroadcastsInDim S128x32 (![] : Fin 0 → Fin S128x32.rank)
  bcast_S_S2x8192 : S_.BroadcastsInDim S2x8192 (![] : Fin 0 → Fin S2x8192.rank)
  bcast_S_S129 : S_.BroadcastsInDim S129 (![] : Fin 0 → Fin S129.rank)
  bcast_S_S17 : S_.BroadcastsInDim S17 (![] : Fin 0 → Fin S17.rank)
  bcast_S_S8192 : S_.BroadcastsInDim S8192 (![] : Fin 0 → Fin S8192.rank)

variable [Facts]

def fn_part1 {F : FTy → Type} [FloatOps F] (main_arg6 : IVec S8192 32) (main_v4 : IVec S128x32 1) (main_v9 : IVec S2x8192 1) (main_v13 : IVec S129 1) (main_v17 : IVec S17 1) : IVec S128x32 1 × IVec S2x8192 1 × IVec S129 1 × IVec S17 1 × IVec S8192 1 :=
  let main_c_5 : IVec S_ 32 := constantI S_ 32 0#32
  let main_v18 : IVec S8192 32 := broadcastInDim S8192 ![] bcast_S_S8192 main_c_5
  let main_v19 : IVec S8192 1 := cmpi .sge main_arg6 main_v18
  let main_c_6 : IVec S_ 32 := constantI S_ 32 160000#32
  let main_v20 : IVec S8192 32 := broadcastInDim S8192 ![] bcast_S_S8192 main_c_6
  let main_v21 : IVec S8192 1 := cmpi .slt main_arg6 main_v20
  let main_v22 : IVec S8192 1 := andi main_v19 main_v21
  (main_v4, main_v9, main_v13, main_v17, main_v22)

def fn {F : FTy → Type} [FloatOps F] (main_arg0 : FVec F S10000x128 .f32) (main_arg1 : FVec F S160000x16 .f32) (main_arg2 : IVec S128x32 32) (main_arg3 : IVec S2x8192 32) (main_arg4 : IVec S129 32) (main_arg5 : IVec S17 32) (main_arg6 : IVec S8192 32) (main_arg7 : FVec F S129x64 .f32) (main_arg8 : FVec F S128x256 .f32) (main_arg9 : FVec F S256 .f32) (main_arg10 : FVec F S16x256 .f32) (main_arg11 : FVec F S256 .f32) (main_arg12 : FVec F S3x256x256 .f32) (main_arg13 : FVec F S3x256 .f32) (main_arg14 : FVec F S3x256x256 .f32) (main_arg15 : FVec F S3x256 .f32) : IVec S128x32 1 × IVec S2x8192 1 × IVec S129 1 × IVec S17 1 × IVec S8192 1 :=
  let main_c : IVec S_ 32 := constantI S_ 32 0#32
  let main_v0 : IVec S128x32 32 := broadcastInDim S128x32 ![] bcast_S_S128x32 main_c
  let main_v1 : IVec S128x32 1 := cmpi .sge main_arg2 main_v0
  let main_c_0 : IVec S_ 32 := constantI S_ 32 10000#32
  let main_v2 : IVec S128x32 32 := broadcastInDim S128x32 ![] bcast_S_S128x32 main_c_0
  let main_v3 : IVec S128x32 1 := cmpi .slt main_arg2 main_v2
  let main_v4 : IVec S128x32 1 := andi main_v1 main_v3
  let main_c_1 : IVec S_ 32 := constantI S_ 32 0#32
  let main_v5 : IVec S2x8192 32 := broadcastInDim S2x8192 ![] bcast_S_S2x8192 main_c_1
  let main_v6 : IVec S2x8192 1 := cmpi .sge main_arg3 main_v5
  let main_c_2 : IVec S_ 32 := constantI S_ 32 32#32
  let main_v7 : IVec S2x8192 32 := broadcastInDim S2x8192 ![] bcast_S_S2x8192 main_c_2
  let main_v8 : IVec S2x8192 1 := cmpi .slt main_arg3 main_v7
  let main_v9 : IVec S2x8192 1 := andi main_v6 main_v8
  let main_v10 : IVec S129 32 := iotaInDim S129 32 0
  let main_c_3 : IVec S_ 32 := constantI S_ 32 64#32
  let main_v11 : IVec S129 32 := broadcastInDim S129 ![] bcast_S_S129 main_c_3
  let main_v12 : IVec S129 32 := muli main_v10 main_v11
  let main_v13 : IVec S129 1 := cmpi .eq main_arg4 main_v12
  let main_v14 : IVec S17 32 := iotaInDim S17 32 0
  let main_c_4 : IVec S_ 32 := constantI S_ 32 8#32
  let main_v15 : IVec S17 32 := broadcastInDim S17 ![] bcast_S_S17 main_c_4
  let main_v16 : IVec S17 32 := muli main_v14 main_v15
  let main_v17 : IVec S17 1 := cmpi .eq main_arg5 main_v16
  fn_part1 (F := F) main_arg6 main_v4 main_v9 main_v13 main_v17
-- ==== Kernel.lean ====
abbrev S10000x128 : Shape := ⟨2, ![10000, 128]⟩
abbrev S160000x16 : Shape := ⟨2, ![160000, 16]⟩
abbrev S128x32 : Shape := ⟨2, ![128, 32]⟩
abbrev S2x8192 : Shape := ⟨2, ![2, 8192]⟩
abbrev S129 : Shape := ⟨1, ![129]⟩
abbrev S17 : Shape := ⟨1, ![17]⟩
abbrev S8192 : Shape := ⟨1, ![8192]⟩
abbrev S129x64 : Shape := ⟨2, ![129, 64]⟩
abbrev S128x256 : Shape := ⟨2, ![128, 256]⟩
abbrev S256 : Shape := ⟨1, ![256]⟩
abbrev S16x256 : Shape := ⟨2, ![16, 256]⟩
abbrev S3x256x256 : Shape := ⟨3, ![3, 256, 256]⟩
abbrev S3x256 : Shape := ⟨2, ![3, 256]⟩
abbrev S4096 : Shape := ⟨1, ![4096]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S8192x16 : Shape := ⟨2, ![8192, 16]⟩
abbrev S128x16 : Shape := ⟨2, ![128, 16]⟩
abbrev S1x8192 : Shape := ⟨2, ![1, 8192]⟩
abbrev S16x1x512 : Shape := ⟨3, ![16, 1, 512]⟩
abbrev S16x8x32 : Shape := ⟨3, ![16, 8, 32]⟩
abbrev S136x64 : Shape := ⟨2, ![136, 64]⟩
abbrev S1x256 : Shape := ⟨2, ![1, 256]⟩
abbrev S3x1x256 : Shape := ⟨3, ![3, 1, 256]⟩
abbrev S16x1x64 : Shape := ⟨3, ![16, 1, 64]⟩
abbrev S16x1x256 : Shape := ⟨3, ![16, 1, 256]⟩
abbrev S256x128 : Shape := ⟨2, ![256, 128]⟩
abbrev S512x16 : Shape := ⟨2, ![512, 16]⟩
abbrev S1x1x512 : Shape := ⟨3, ![1, 1, 512]⟩
abbrev S1x8x32 : Shape := ⟨3, ![1, 8, 32]⟩
abbrev S1x1x64 : Shape := ⟨3, ![1, 1, 64]⟩
abbrev S1x1x256 : Shape := ⟨3, ![1, 1, 256]⟩
abbrev S256x256 : Shape := ⟨2, ![256, 256]⟩
abbrev S512x256 : Shape := ⟨2, ![512, 256]⟩
abbrev S1x512 : Shape := ⟨2, ![1, 512]⟩
abbrev S256x512 : Shape := ⟨2, ![256, 512]⟩
abbrev S1x256x256 : Shape := ⟨3, ![1, 256, 256]⟩
abbrev S8x32 : Shape := ⟨2, ![8, 32]⟩
abbrev S8 : Shape := ⟨1, ![8]⟩
abbrev S8x1 : Shape := ⟨2, ![8, 1]⟩
abbrev S8x136 : Shape := ⟨2, ![8, 136]⟩
abbrev S8x64 : Shape := ⟨2, ![8, 64]⟩
abbrev S64 : Shape := ⟨1, ![64]⟩
abbrev S1x64 : Shape := ⟨2, ![1, 64]⟩
abbrev S16x64 : Shape := ⟨2, ![16, 64]⟩
abbrev S16x320 : Shape := ⟨2, ![16, 320]⟩

abbrev nBuf : Table → Nat
  | .hbm => 38
  | .local .tc .vmem => 23
  | .local .scVector .vmem => 4
  | _ => 0

abbrev bufTy : (tb : Table) → Fin (nBuf tb) → BufTy
  | .hbm, ⟨0, _⟩ => ⟨S10000x128, .f32⟩
  | .hbm, ⟨1, _⟩ => ⟨S160000x16, .f32⟩
  | .hbm, ⟨2, _⟩ => ⟨S128x32, .i32⟩
  | .hbm, ⟨3, _⟩ => ⟨S2x8192, .i32⟩
  | .hbm, ⟨4, _⟩ => ⟨S129, .i32⟩
  | .hbm, ⟨5, _⟩ => ⟨S17, .i32⟩
  | .hbm, ⟨6, _⟩ => ⟨S8192, .i32⟩
  | .hbm, ⟨7, _⟩ => ⟨S129x64, .f32⟩
  | .hbm, ⟨8, _⟩ => ⟨S128x256, .f32⟩
  | .hbm, ⟨9, _⟩ => ⟨S256, .f32⟩
  | .hbm, ⟨10, _⟩ => ⟨S16x256, .f32⟩
  | .hbm, ⟨11, _⟩ => ⟨S256, .f32⟩
  | .hbm, ⟨12, _⟩ => ⟨S3x256x256, .f32⟩
  | .hbm, ⟨13, _⟩ => ⟨S3x256, .f32⟩
  | .hbm, ⟨14, _⟩ => ⟨S3x256x256, .f32⟩
  | .hbm, ⟨15, _⟩ => ⟨S3x256, .f32⟩
  | .hbm, ⟨16, _⟩ => ⟨S4096, .i32⟩
  | .hbm, ⟨17, _⟩ => ⟨S4096x128, .f32⟩
  | .hbm, ⟨18, _⟩ => ⟨S8192x16, .f32⟩
  | .hbm, ⟨19, _⟩ => ⟨S1x8192, .i32⟩
  | .hbm, ⟨20, _⟩ => ⟨S8192, .i32⟩
  | .hbm, ⟨21, _⟩ => ⟨S16x1x512, .i32⟩
  | .hbm, ⟨22, _⟩ => ⟨S1x8192, .i32⟩
  | .hbm, ⟨23, _⟩ => ⟨S8192, .i32⟩
  | .hbm, ⟨24, _⟩ => ⟨S16x1x512, .i32⟩
  | .hbm, ⟨25, _⟩ => ⟨S16x8x32, .i32⟩
  | .hbm, ⟨26, _⟩ => ⟨S_, .i32⟩
  | .hbm, ⟨27, _⟩ => ⟨S_, .f32⟩
  | .hbm, ⟨28, _⟩ => ⟨S136x64, .f32⟩
  | .hbm, ⟨29, _⟩ => ⟨S1x256, .f32⟩
  | .hbm, ⟨30, _⟩ => ⟨S1x256, .f32⟩
  | .hbm, ⟨31, _⟩ => ⟨S3x1x256, .f32⟩
  | .hbm, ⟨32, _⟩ => ⟨S3x1x256, .f32⟩
  | .hbm, ⟨33, _⟩ => ⟨S16x1x64, .f32⟩
  | .hbm, ⟨34, _⟩ => ⟨S16x1x256, .f32⟩
  | .hbm, ⟨35, _⟩ => ⟨S16x64, .f32⟩
  | .hbm, ⟨36, _⟩ => ⟨S16x256, .f32⟩
  | .hbm, ⟨37, _⟩ => ⟨S16x320, .f32⟩
  | .local .tc .vmem, ⟨0, _⟩ => ⟨S256x128, .f32⟩
  | .local .tc .vmem, ⟨1, _⟩ => ⟨S256x128, .f32⟩
  | .local .tc .vmem, ⟨2, _⟩ => ⟨S512x16, .f32⟩
  | .local .tc .vmem, ⟨3, _⟩ => ⟨S512x16, .f32⟩
  | .local .tc .vmem, ⟨4, _⟩ => ⟨S1x1x512, .i32⟩
  | .local .tc .vmem, ⟨5, _⟩ => ⟨S1x1x512, .i32⟩
  | .local .tc .vmem, ⟨6, _⟩ => ⟨S1x1x512, .i32⟩
  | .local .tc .vmem, ⟨7, _⟩ => ⟨S1x1x512, .i32⟩
  | .local .tc .vmem, ⟨8, _⟩ => ⟨S1x8x32, .i32⟩
  | .local .tc .vmem, ⟨9, _⟩ => ⟨S1x8x32, .i32⟩
  | .local .tc .vmem, ⟨10, _⟩ => ⟨S136x64, .f32⟩
  | .local .tc .vmem, ⟨11, _⟩ => ⟨S128x256, .f32⟩
  | .local .tc .vmem, ⟨12, _⟩ => ⟨S1x256, .f32⟩
  | .local .tc .vmem, ⟨13, _⟩ => ⟨S16x256, .f32⟩
  | .local .tc .vmem, ⟨14, _⟩ => ⟨S1x256, .f32⟩
  | .local .tc .vmem, ⟨15, _⟩ => ⟨S3x256x256, .f32⟩
  | .local .tc .vmem, ⟨16, _⟩ => ⟨S3x1x256, .f32⟩
  | .local .tc .vmem, ⟨17, _⟩ => ⟨S3x256x256, .f32⟩
  | .local .tc .vmem, ⟨18, _⟩ => ⟨S3x1x256, .f32⟩
  | .local .tc .vmem, ⟨19, _⟩ => ⟨S1x1x64, .f32⟩
  | .local .tc .vmem, ⟨20, _⟩ => ⟨S1x1x64, .f32⟩
  | .local .tc .vmem, ⟨21, _⟩ => ⟨S1x1x256, .f32⟩
  | .local .tc .vmem, ⟨22, _⟩ => ⟨S1x1x256, .f32⟩
  | .local .scVector .vmem, ⟨0, _⟩ => ⟨S128, .i32⟩
  | .local .scVector .vmem, ⟨1, _⟩ => ⟨S128x128, .f32⟩
  | .local .scVector .vmem, ⟨2, _⟩ => ⟨S128, .i32⟩
  | .local .scVector .vmem, ⟨3, _⟩ => ⟨S128x16, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_arg0_scv : Ref sig .scVector := ⟨.hbm, 0, rfl⟩
abbrev main_v0_scv : Ref sig .scVector := ⟨.hbm, 16, rfl⟩
abbrev main_v1_scv : Ref sig .scVector := ⟨.hbm, 17, rfl⟩
abbrev main_arg1_scv : Ref sig .scVector := ⟨.hbm, 1, rfl⟩
abbrev main_arg6_scv : Ref sig .scVector := ⟨.hbm, 6, rfl⟩
abbrev main_v2_scv : Ref sig .scVector := ⟨.hbm, 18, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg3_1 : Ref sig .tc := ⟨.vmem, 7, rfl⟩
abbrev cc2_stg4_0 : Ref sig .tc := ⟨.vmem, 8, rfl⟩
abbrev cc2_stg4_1 : Ref sig .tc := ⟨.vmem, 9, rfl⟩
abbrev cc2_stg5_0 : Ref sig .tc := ⟨.vmem, 10, rfl⟩
abbrev cc2_stg6_0 : Ref sig .tc := ⟨.vmem, 11, rfl⟩
abbrev cc2_stg7_0 : Ref sig .tc := ⟨.vmem, 12, rfl⟩
abbrev cc2_stg8_0 : Ref sig .tc := ⟨.vmem, 13, rfl⟩
abbrev cc2_stg9_0 : Ref sig .tc := ⟨.vmem, 14, rfl⟩
abbrev cc2_stg10_0 : Ref sig .tc := ⟨.vmem, 15, rfl⟩
abbrev cc2_stg11_0 : Ref sig .tc := ⟨.vmem, 16, rfl⟩
abbrev cc2_stg12_0 : Ref sig .tc := ⟨.vmem, 17, rfl⟩
abbrev cc2_stg13_0 : Ref sig .tc := ⟨.vmem, 18, rfl⟩
abbrev cc2_stg14_0 : Ref sig .tc := ⟨.vmem, 19, rfl⟩
abbrev cc2_stg14_1 : Ref sig .tc := ⟨.vmem, 20, rfl⟩
abbrev cc2_stg15_0 : Ref sig .tc := ⟨.vmem, 21, rfl⟩
abbrev cc2_stg15_1 : Ref sig .tc := ⟨.vmem, 22, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem11_0 : DmaSem sig := 24
abbrev cc2_sem12_0 : DmaSem sig := 25
abbrev cc2_sem13_0 : DmaSem sig := 26
abbrev cc2_sem14_0 : DmaSem sig := 27
abbrev cc2_sem14_1 : DmaSem sig := 28
abbrev cc2_sem15_0 : DmaSem sig := 29
abbrev cc2_sem15_1 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_9_r1 : BitVec 32 := 0#32
  ![v3.toNat, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_15 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x512 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x512 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x8x32 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S136x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S3x256x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S3x1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S3x256x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S3x1x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S1x1x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x1x256 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S10000x128 : Shape := ⟨2, ![10000, 128]⟩
abbrev S160000x16 : Shape := ⟨2, ![160000, 16]⟩
abbrev S128x32 : Shape := ⟨2, ![128, 32]⟩
abbrev S2x8192 : Shape := ⟨2, ![2, 8192]⟩
abbrev S129 : Shape := ⟨1, ![129]⟩
abbrev S17 : Shape := ⟨1, ![17]⟩
abbrev S8192 : Shape := ⟨1, ![8192]⟩
abbrev S129x64 : Shape := ⟨2, ![129, 64]⟩
abbrev S128x256 : Shape := ⟨2, ![128, 256]⟩
abbrev S256 : Shape := ⟨1, ![256]⟩
abbrev S16x256 : Shape := ⟨2, ![16, 256]⟩
abbrev S3x256x256 : Shape := ⟨3, ![3, 256, 256]⟩
abbrev S3x256 : Shape := ⟨2, ![3, 256]⟩
abbrev S_ : Shape := ⟨0, ![]⟩
abbrev S128 : Shape := ⟨1, ![128]⟩
abbrev S128x1 : Shape := ⟨2, ![128, 1]⟩
abbrev S1 : Shape := ⟨1, ![1]⟩
abbrev S1x1 : Shape := ⟨2, ![1, 1]⟩
abbrev S128x64 : Shape := ⟨2, ![128, 64]⟩
abbrev S4096 : Shape := ⟨1, ![4096]⟩
abbrev S4096x1 : Shape := ⟨2, ![4096, 1]⟩
abbrev S4096x128 : Shape := ⟨2, ![4096, 128]⟩
abbrev S8192x1 : Shape := ⟨2, ![8192, 1]⟩
abbrev S8192x16 : Shape := ⟨2, ![8192, 16]⟩
abbrev S127 : Shape := ⟨1, ![127]⟩
abbrev S1x8192 : Shape := ⟨2, ![1, 8192]⟩
abbrev S4096x256 : Shape := ⟨2, ![4096, 256]⟩
abbrev S1x256 : Shape := ⟨2, ![1, 256]⟩
abbrev S8192x256 : Shape := ⟨2, ![8192, 256]⟩
abbrev S1x256x256 : Shape := ⟨3, ![1, 256, 256]⟩
abbrev S256x256 : Shape := ⟨2, ![256, 256]⟩
abbrev S128x320 : Shape := ⟨2, ![128, 320]⟩
abbrev S16 : Shape := ⟨1, ![16]⟩
abbrev S15 : Shape := ⟨1, ![15]⟩
abbrev S16x1 : Shape := ⟨2, ![16, 1]⟩
abbrev S16x320 : Shape := ⟨2, ![16, 320]⟩

abbrev nBuf : Space → Nat
  | .hbm => 457
  | .vmem => 0
  | .smem => 0
  | _ => 0

abbrev hbmTy0_0 (i : Nat) : BufTy := match i % 128 with
  | 0 => ⟨S10000x128, .f32⟩
  | 1 => ⟨S160000x16, .f32⟩
  | 2 => ⟨S128x32, .i32⟩
  | 3 => ⟨S2x8192, .i32⟩
  | 4 => ⟨S129, .i32⟩
  | 5 => ⟨S17, .i32⟩
  | 6 => ⟨S8192, .i32⟩
  | 7 => ⟨S129x64, .f32⟩
  | 8 => ⟨S128x256, .f32⟩
  | 9 => ⟨S256, .f32⟩
  | 10 => ⟨S16x256, .f32⟩
  | 11 => ⟨S256, .f32⟩
  | 12 => ⟨S3x256x256, .f32⟩
  | 13 => ⟨S3x256, .f32⟩
  | 14 => ⟨S3x256x256, .f32⟩
  | 15 => ⟨S3x256, .f32⟩
  | 16 => ⟨S_, .i32⟩
  | 17 => ⟨S128, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S128, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i1⟩
  | 32 => ⟨S_, .i32⟩
  | 33 => ⟨S_, .i1⟩
  | 34 => ⟨S128, .i1⟩
  | 35 => ⟨S128, .i1⟩
  | 36 => ⟨S128, .i1⟩
  | 37 => ⟨S128, .i32⟩
  | 38 => ⟨S128, .i32⟩
  | 39 => ⟨S128, .i32⟩
  | 40 => ⟨S_, .i32⟩
  | 41 => ⟨S128, .i32⟩
  | 42 => ⟨S128, .i1⟩
  | 43 => ⟨S_, .i32⟩
  | 44 => ⟨S128, .i32⟩
  | 45 => ⟨S128, .i32⟩
  | 46 => ⟨S128, .i32⟩
  | 47 => ⟨S128x1, .i32⟩
  | 48 => ⟨S1, .i32⟩
  | 49 => ⟨S_, .i32⟩
  | 50 => ⟨S128x1, .i32⟩
  | 51 => ⟨S128x1, .i1⟩
  | 52 => ⟨S1x1, .i32⟩
  | 53 => ⟨S128x1, .i32⟩
  | 54 => ⟨S128x1, .i1⟩
  | 55 => ⟨S128x1, .i1⟩
  | 56 => ⟨S_, .i1⟩
  | 57 => ⟨S128, .i1⟩
  | 58 => ⟨S128x64, .f32⟩
  | 59 => ⟨S128x64, .i1⟩
  | 60 => ⟨S_, .f32⟩
  | 61 => ⟨S128x64, .f32⟩
  | 62 => ⟨S128x64, .f32⟩
  | 63 => ⟨S4096, .i32⟩
  | 64 => ⟨S_, .i32⟩
  | 65 => ⟨S4096, .i32⟩
  | 66 => ⟨S4096, .i1⟩
  | 67 => ⟨S_, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S1, .i32⟩
  | 80 => ⟨S_, .i32⟩
  | 81 => ⟨S4096x1, .i32⟩
  | 82 => ⟨S4096x1, .i1⟩
  | 83 => ⟨S1x1, .i32⟩
  | 84 => ⟨S4096x1, .i32⟩
  | 85 => ⟨S4096x1, .i1⟩
  | 86 => ⟨S4096x1, .i1⟩
  | 87 => ⟨S_, .i1⟩
  | 88 => ⟨S4096, .i1⟩
  | 89 => ⟨S4096x128, .f32⟩
  | 90 => ⟨S4096x128, .i1⟩
  | 91 => ⟨S_, .f32⟩
  | 92 => ⟨S4096x128, .f32⟩
  | 93 => ⟨S4096x128, .f32⟩
  | 94 => ⟨S4096x1, .i1⟩
  | 95 => ⟨S4096x1, .f32⟩
  | 96 => ⟨S4096x128, .f32⟩
  | 97 => ⟨S4096x128, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S1, .i32⟩
  | 107 => ⟨S_, .i32⟩
  | 108 => ⟨S8192x1, .i32⟩
  | 109 => ⟨S8192x1, .i1⟩
  | 110 => ⟨S1x1, .i32⟩
  | 111 => ⟨S8192x1, .i32⟩
  | 112 => ⟨S8192x1, .i1⟩
  | 113 => ⟨S8192x1, .i1⟩
  | 114 => ⟨S_, .i1⟩
  | 115 => ⟨S8192, .i1⟩
  | 116 => ⟨S8192x16, .f32⟩
  | 117 => ⟨S8192x16, .i1⟩
  | 118 => ⟨S_, .f32⟩
  | 119 => ⟨S8192x16, .f32⟩
  | 120 => ⟨S8192x16, .f32⟩
  | 121 => ⟨S128, .i32⟩
  | 122 => ⟨S128, .i32⟩
  | 123 => ⟨S128, .i32⟩
  | 124 => ⟨S128, .i32⟩
  | 125 => ⟨S1, .i32⟩
  | 126 => ⟨S127, .i32⟩
  | 127 => ⟨S128, .i32⟩
  | _ => ⟨S10000x128, .f32⟩

abbrev hbmTy0_1 (i : Nat) : BufTy := match i % 128 with
  | 0 => ⟨S_, .i32⟩
  | 1 => ⟨S1, .i32⟩
  | 2 => ⟨S_, .i32⟩
  | 3 => ⟨S128, .i32⟩
  | 4 => ⟨S_, .i32⟩
  | 5 => ⟨S_, .i32⟩
  | 6 => ⟨S128, .i32⟩
  | 7 => ⟨S_, .i32⟩
  | 8 => ⟨S8192, .i32⟩
  | 9 => ⟨S_, .i32⟩
  | 10 => ⟨S128, .i32⟩
  | 11 => ⟨S128, .i1⟩
  | 12 => ⟨S_, .i32⟩
  | 13 => ⟨S128, .i32⟩
  | 14 => ⟨S128, .i32⟩
  | 15 => ⟨S128, .i32⟩
  | 16 => ⟨S128x1, .i32⟩
  | 17 => ⟨S_, .i32⟩
  | 18 => ⟨S128, .i32⟩
  | 19 => ⟨S8192, .i32⟩
  | 20 => ⟨S_, .i32⟩
  | 21 => ⟨S_, .i32⟩
  | 22 => ⟨S8192, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S1, .i32⟩
  | 35 => ⟨S_, .i32⟩
  | 36 => ⟨S8192x1, .i32⟩
  | 37 => ⟨S8192x1, .i1⟩
  | 38 => ⟨S1x1, .i32⟩
  | 39 => ⟨S8192x1, .i32⟩
  | 40 => ⟨S8192x1, .i1⟩
  | 41 => ⟨S8192x1, .i1⟩
  | 42 => ⟨S_, .i1⟩
  | 43 => ⟨S8192, .i1⟩
  | 44 => ⟨S8192, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S1x8192, .i32⟩
  | 52 => ⟨S2x8192, .i32⟩
  | 53 => ⟨S2x8192, .i32⟩
  | 54 => ⟨S128, .i32⟩
  | 55 => ⟨S128x32, .i32⟩
  | 56 => ⟨S4096, .i32⟩
  | 57 => ⟨S4096x256, .f32⟩
  | 58 => ⟨S1x256, .f32⟩
  | 59 => ⟨S4096x256, .f32⟩
  | 60 => ⟨S4096x256, .f32⟩
  | 61 => ⟨S_, .f32⟩
  | 62 => ⟨S4096x256, .f32⟩
  | 63 => ⟨S4096x256, .f32⟩
  | 64 => ⟨S8192x256, .f32⟩
  | 65 => ⟨S1x256, .f32⟩
  | 66 => ⟨S8192x256, .f32⟩
  | 67 => ⟨S8192x256, .f32⟩
  | 68 => ⟨S1x8192, .i32⟩
  | 69 => ⟨S8192, .i32⟩
  | 70 => ⟨S1x8192, .i32⟩
  | 71 => ⟨S8192, .i32⟩
  | 72 => ⟨S_, .i32⟩
  | 73 => ⟨S8192, .i32⟩
  | 74 => ⟨S8192, .i1⟩
  | 75 => ⟨S_, .i32⟩
  | 76 => ⟨S8192, .i32⟩
  | 77 => ⟨S8192, .i32⟩
  | 78 => ⟨S8192, .i32⟩
  | 79 => ⟨S8192x1, .i32⟩
  | 80 => ⟨S1, .i32⟩
  | 81 => ⟨S_, .i32⟩
  | 82 => ⟨S8192x1, .i32⟩
  | 83 => ⟨S8192x1, .i1⟩
  | 84 => ⟨S1x1, .i32⟩
  | 85 => ⟨S8192x1, .i32⟩
  | 86 => ⟨S8192x1, .i1⟩
  | 87 => ⟨S8192x1, .i1⟩
  | 88 => ⟨S_, .i1⟩
  | 89 => ⟨S8192, .i1⟩
  | 90 => ⟨S8192x256, .f32⟩
  | 91 => ⟨S8192x256, .i1⟩
  | 92 => ⟨S_, .f32⟩
  | 93 => ⟨S8192x256, .f32⟩
  | 94 => ⟨S8192x256, .f32⟩
  | 95 => ⟨S8192x256, .f32⟩
  | 96 => ⟨S_, .f32⟩
  | 97 => ⟨S8192x256, .f32⟩
  | 98 => ⟨S8192x256, .f32⟩
  | 99 => ⟨S_, .f32⟩
  | 100 => ⟨S4096x256, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S4096x256, .f32⟩
  | 110 => ⟨S4096x256, .f32⟩
  | 111 => ⟨S1x256x256, .f32⟩
  | 112 => ⟨S256x256, .f32⟩
  | 113 => ⟨S4096x256, .f32⟩
  | 114 => ⟨S1x256, .f32⟩
  | 115 => ⟨S256, .f32⟩
  | 116 => ⟨S1x256, .f32⟩
  | 117 => ⟨S4096x256, .f32⟩
  | 118 => ⟨S4096x256, .f32⟩
  | 119 => ⟨S_, .f32⟩
  | 120 => ⟨S4096x256, .f32⟩
  | 121 => ⟨S4096x256, .f32⟩
  | 122 => ⟨S1x256x256, .f32⟩
  | 123 => ⟨S256x256, .f32⟩
  | 124 => ⟨S4096x256, .f32⟩
  | 125 => ⟨S1x256, .f32⟩
  | 126 => ⟨S256, .f32⟩
  | 127 => ⟨S1x256, .f32⟩
  | _ => ⟨S10000x128, .f32⟩

abbrev hbmTy0_2 (i : Nat) : BufTy := match i % 128 with
  | 0 => ⟨S4096x256, .f32⟩
  | 1 => ⟨S4096x256, .f32⟩
  | 2 => ⟨S4096x256, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S1, .i32⟩
  | 12 => ⟨S_, .i32⟩
  | 13 => ⟨S8192x1, .i32⟩
  | 14 => ⟨S8192x1, .i1⟩
  | 15 => ⟨S1x1, .i32⟩
  | 16 => ⟨S8192x1, .i32⟩
  | 17 => ⟨S8192x1, .i1⟩
  | 18 => ⟨S8192x1, .i1⟩
  | 19 => ⟨S_, .i1⟩
  | 20 => ⟨S8192, .i1⟩
  | 21 => ⟨S8192x256, .f32⟩
  | 22 => ⟨S8192x256, .i1⟩
  | 23 => ⟨S_, .f32⟩
  | 24 => ⟨S8192x256, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S_, .f32⟩
  | 31 => ⟨S4096x256, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S4096x256, .f32⟩
  | 41 => ⟨S4096x256, .f32⟩
  | 42 => ⟨S1x256x256, .f32⟩
  | 43 => ⟨S256x256, .f32⟩
  | 44 => ⟨S4096x256, .f32⟩
  | 45 => ⟨S1x256, .f32⟩
  | 46 => ⟨S256, .f32⟩
  | 47 => ⟨S1x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S1x256x256, .f32⟩
  | 54 => ⟨S256x256, .f32⟩
  | 55 => ⟨S4096x256, .f32⟩
  | 56 => ⟨S1x256, .f32⟩
  | 57 => ⟨S256, .f32⟩
  | 58 => ⟨S1x256, .f32⟩
  | 59 => ⟨S4096x256, .f32⟩
  | 60 => ⟨S4096x256, .f32⟩
  | 61 => ⟨S4096x256, .f32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S1, .i32⟩
  | 71 => ⟨S_, .i32⟩
  | 72 => ⟨S8192x1, .i32⟩
  | 73 => ⟨S8192x1, .i1⟩
  | 74 => ⟨S1x1, .i32⟩
  | 75 => ⟨S8192x1, .i32⟩
  | 76 => ⟨S8192x1, .i1⟩
  | 77 => ⟨S8192x1, .i1⟩
  | 78 => ⟨S_, .i1⟩
  | 79 => ⟨S8192, .i1⟩
  | 80 => ⟨S8192x256, .f32⟩
  | 81 => ⟨S8192x256, .i1⟩
  | 82 => ⟨S_, .f32⟩
  | 83 => ⟨S8192x256, .f32⟩
  | 84 => ⟨S8192x256, .f32⟩
  | 85 => ⟨S8192x256, .f32⟩
  | 86 => ⟨S_, .f32⟩
  | 87 => ⟨S8192x256, .f32⟩
  | 88 => ⟨S8192x256, .f32⟩
  | 89 => ⟨S_, .f32⟩
  | 90 => ⟨S4096x256, .f32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S8192x1, .i32⟩
  | 99 => ⟨S4096x256, .f32⟩
  | 100 => ⟨S4096x256, .f32⟩
  | 101 => ⟨S1x256x256, .f32⟩
  | 102 => ⟨S256x256, .f32⟩
  | 103 => ⟨S4096x256, .f32⟩
  | 104 => ⟨S1x256, .f32⟩
  | 105 => ⟨S256, .f32⟩
  | 106 => ⟨S1x256, .f32⟩
  | 107 => ⟨S4096x256, .f32⟩
  | 108 => ⟨S4096x256, .f32⟩
  | 109 => ⟨S_, .f32⟩
  | 110 => ⟨S4096x256, .f32⟩
  | 111 => ⟨S4096x256, .f32⟩
  | 112 => ⟨S1x256x256, .f32⟩
  | 113 => ⟨S256x256, .f32⟩
  | 114 => ⟨S4096x256, .f32⟩
  | 115 => ⟨S1x256, .f32⟩
  | 116 => ⟨S256, .f32⟩
  | 117 => ⟨S1x256, .f32⟩
  | 118 => ⟨S4096x256, .f32⟩
  | 119 => ⟨S4096x256, .f32⟩
  | 120 => ⟨S4096x256, .f32⟩
  | 121 => ⟨S_, .f32⟩
  | 122 => ⟨S128x256, .f32⟩
  | 123 => ⟨S4096x1, .i32⟩
  | 124 => ⟨S128x256, .f32⟩
  | 125 => ⟨S_, .f32⟩
  | 126 => ⟨S128x256, .f32⟩
  | 127 => ⟨S128x256, .f32⟩
  | _ => ⟨S10000x128, .f32⟩

abbrev hbmTy0_3 (i : Nat) : BufTy := match i % 128 with
  | 0 => ⟨S128x320, .f32⟩
  | 1 => ⟨S16, .i32⟩
  | 2 => ⟨S16, .i32⟩
  | 3 => ⟨S16, .i32⟩
  | 4 => ⟨S16, .i32⟩
  | 5 => ⟨S1, .i32⟩
  | 6 => ⟨S15, .i32⟩
  | 7 => ⟨S16, .i32⟩
  | 8 => ⟨S_, .i32⟩
  | 9 => ⟨S1, .i32⟩
  | 10 => ⟨S_, .i32⟩
  | 11 => ⟨S16, .i32⟩
  | 12 => ⟨S_, .i32⟩
  | 13 => ⟨S_, .i32⟩
  | 14 => ⟨S16, .i32⟩
  | 15 => ⟨S_, .i32⟩
  | 16 => ⟨S128, .i32⟩
  | 17 => ⟨S_, .i32⟩
  | 18 => ⟨S16, .i32⟩
  | 19 => ⟨S16, .i1⟩
  | 20 => ⟨S_, .i32⟩
  | 21 => ⟨S16, .i32⟩
  | 22 => ⟨S16, .i32⟩
  | 23 => ⟨S16, .i32⟩
  | 24 => ⟨S16x1, .i32⟩
  | 25 => ⟨S_, .i32⟩
  | 26 => ⟨S16, .i32⟩
  | 27 => ⟨S128, .i32⟩
  | 28 => ⟨S_, .i32⟩
  | 29 => ⟨S_, .i32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i1⟩
  | 37 => ⟨S_, .i32⟩
  | 38 => ⟨S128, .i32⟩
  | 39 => ⟨S128, .i32⟩
  | 40 => ⟨S128, .i32⟩
  | 41 => ⟨S128x1, .i32⟩
  | 42 => ⟨S1, .i32⟩
  | 43 => ⟨S_, .i32⟩
  | 44 => ⟨S128x1, .i32⟩
  | 45 => ⟨S128x1, .i1⟩
  | 46 => ⟨S1x1, .i32⟩
  | 47 => ⟨S128x1, .i32⟩
  | 48 => ⟨S128x1, .i1⟩
  | 49 => ⟨S128x1, .i1⟩
  | 50 => ⟨S_, .i1⟩
  | 51 => ⟨S128, .i1⟩
  | 52 => ⟨S128, .i32⟩
  | 53 => ⟨S_, .i32⟩
  | 54 => ⟨S128, .i32⟩
  | 55 => ⟨S128, .i32⟩
  | 56 => ⟨S_, .f32⟩
  | 57 => ⟨S16x320, .f32⟩
  | 58 => ⟨S128x1, .i32⟩
  | 59 => ⟨S16x320, .f32⟩
  | 60 => ⟨S_, .f32⟩
  | 61 => ⟨S128, .f32⟩
  | 62 => ⟨S_, .f32⟩
  | 63 => ⟨S16, .f32⟩
  | 64 => ⟨S128x1, .i32⟩
  | 65 => ⟨S16, .f32⟩
  | 66 => ⟨S_, .f32⟩
  | 67 => ⟨S_, .f32⟩
  | 68 => ⟨S16, .f32⟩
  | 69 => ⟨S16, .f32⟩
  | 70 => ⟨S16x1, .f32⟩
  | 71 => ⟨S16x320, .f32⟩
  | 72 => ⟨S16x320, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_c_0 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v1 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v2 : Ref sig .tc := ⟨.hbm, 62, rfl⟩
abbrev main_v3 : Ref sig .tc := ⟨.hbm, 63, rfl⟩
abbrev main_c_1 : Ref sig .tc := ⟨.hbm, 64, rfl⟩
abbrev main_v4 : Ref sig .tc := ⟨.hbm, 65, rfl⟩
abbrev main_v5 : Ref sig .tc := ⟨.hbm, 66, rfl⟩
abbrev main_c_2 : Ref sig .tc := ⟨.hbm, 67, rfl⟩
abbrev main_call2_v0 : Ref sig .tc := ⟨.hbm, 68, rfl⟩
abbrev main_call2_v1 : Ref sig .tc := ⟨.hbm, 69, rfl⟩
abbrev main_v6 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v7 : Ref sig .tc := ⟨.hbm, 93, rfl⟩
abbrev main_v8 : Ref sig .tc := ⟨.hbm, 94, rfl⟩
abbrev main_v9 : Ref sig .tc := ⟨.hbm, 95, rfl⟩
abbrev main_v10 : Ref sig .tc := ⟨.hbm, 96, rfl⟩
abbrev main_v11 : Ref sig .tc := ⟨.hbm, 97, rfl⟩
abbrev main_call4_c : Ref sig .tc := ⟨.hbm, 98, rfl⟩
abbrev main_call4_v0 : Ref sig .tc := ⟨.hbm, 99, rfl⟩
abbrev main_call4_v1 : Ref sig .tc := ⟨.hbm, 100, rfl⟩
abbrev main_call4_c_0 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_c_1 : Ref sig .tc := ⟨.hbm, 106, rfl⟩
abbrev main_call4_c_2 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_3 : Ref sig .tc := ⟨.hbm, 114, rfl⟩
abbrev main_call4_v12 : Ref sig .tc := ⟨.hbm, 115, rfl⟩
abbrev main_call4_v13 : Ref sig .tc := ⟨.hbm, 116, rfl⟩
abbrev main_call4_v14 : Ref sig .tc := ⟨.hbm, 117, rfl⟩
abbrev main_call4_cst : Ref sig .tc := ⟨.hbm, 118, rfl⟩
abbrev main_call4_v15 : Ref sig .tc := ⟨.hbm, 119, rfl⟩
abbrev main_v12 : Ref sig .tc := ⟨.hbm, 120, rfl⟩
abbrev main_v13 : Ref sig .tc := ⟨.hbm, 121, rfl⟩
abbrev main_v14 : Ref sig .tc := ⟨.hbm, 122, rfl⟩
abbrev main_v15 : Ref sig .tc := ⟨.hbm, 123, rfl⟩
abbrev main_v16 : Ref sig .tc := ⟨.hbm, 124, rfl⟩
abbrev main_call5_v0 : Ref sig .tc := ⟨.hbm, 125, rfl⟩
abbrev main_call5_v1 : Ref sig .tc := ⟨.hbm, 126, rfl⟩
abbrev main_v17 : Ref sig .tc := ⟨.hbm, 127, rfl⟩
abbrev main_c_3 : Ref sig .tc := ⟨.hbm, 128, rfl⟩
abbrev main_v18 : Ref sig .tc := ⟨.hbm, 129, rfl⟩
abbrev main_c_4 : Ref sig .tc := ⟨.hbm, 130, rfl⟩
abbrev main_v19 : Ref sig .tc := ⟨.hbm, 131, rfl⟩
abbrev main_call6_call0_c : Ref sig .tc := ⟨.hbm, 132, rfl⟩
abbrev main_call6_call0_v0 : Ref sig .tc := ⟨.hbm, 133, rfl⟩
abbrev main_v20 : Ref sig .tc := ⟨.hbm, 134, rfl⟩
abbrev main_c_5 : Ref sig .tc := ⟨.hbm, 135, rfl⟩
abbrev main_v21 : Ref sig .tc := ⟨.hbm, 136, rfl⟩
abbrev main_c_6 : Ref sig .tc := ⟨.hbm, 137, rfl⟩
abbrev main_v22 : Ref sig .tc := ⟨.hbm, 138, rfl⟩
abbrev main_v23 : Ref sig .tc := ⟨.hbm, 139, rfl⟩
abbrev main_c_7 : Ref sig .tc := ⟨.hbm, 140, rfl⟩
abbrev main_v24 : Ref sig .tc := ⟨.hbm, 141, rfl⟩
abbrev main_v25 : Ref sig .tc := ⟨.hbm, 142, rfl⟩
abbrev main_v26 : Ref sig .tc := ⟨.hbm, 143, rfl⟩
abbrev main_v27 : Ref sig .tc := ⟨.hbm, 144, rfl⟩
abbrev main_c_8 : Ref sig .tc := ⟨.hbm, 145, rfl⟩
abbrev main_v28 : Ref sig .tc := ⟨.hbm, 146, rfl⟩
abbrev main_v29 : Ref sig .tc := ⟨.hbm, 147, rfl⟩
abbrev main_call7_call0_c : Ref sig .tc := ⟨.hbm, 148, rfl⟩
abbrev main_call7_call0_v0 : Ref sig .tc := ⟨.hbm, 149, rfl⟩
abbrev main_v30 : Ref sig .tc := ⟨.hbm, 150, rfl⟩
abbrev main_c_9 : Ref sig .tc := ⟨.hbm, 151, rfl⟩
abbrev main_v31 : Ref sig .tc := ⟨.hbm, 152, rfl⟩
abbrev main_v32 : Ref sig .tc := ⟨.hbm, 153, rfl⟩
abbrev main_call8_c : Ref sig .tc := ⟨.hbm, 154, rfl⟩
abbrev main_call8_v0 : Ref sig .tc := ⟨.hbm, 155, rfl⟩
abbrev main_call8_v1 : Ref sig .tc := ⟨.hbm, 156, rfl⟩
abbrev main_call8_c_0 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_call8_v5 : Ref sig .tc := ⟨.hbm, 161, rfl⟩
abbrev main_call8_c_1 : Ref sig .tc := ⟨.hbm, 162, rfl⟩
abbrev main_call8_c_2 : Ref sig .tc := ⟨.hbm, 163, rfl⟩
abbrev main_call8_v6 : Ref sig .tc := ⟨.hbm, 164, rfl⟩
abbrev main_call8_v7 : Ref sig .tc := ⟨.hbm, 165, rfl⟩
abbrev main_call8_v8 : Ref sig .tc := ⟨.hbm, 166, rfl⟩
abbrev main_call8_v9 : Ref sig .tc := ⟨.hbm, 167, rfl⟩
abbrev main_call8_v10 : Ref sig .tc := ⟨.hbm, 168, rfl⟩
abbrev main_call8_v11 : Ref sig .tc := ⟨.hbm, 169, rfl⟩
abbrev main_call8_c_3 : Ref sig .tc := ⟨.hbm, 170, rfl⟩
abbrev main_call8_v12 : Ref sig .tc := ⟨.hbm, 171, rfl⟩
abbrev main_call8_v13 : Ref sig .tc := ⟨.hbm, 172, rfl⟩
abbrev main_call8_c_4 : Ref sig .tc := ⟨.hbm, 173, rfl⟩
abbrev main_call8_v14 : Ref sig .tc := ⟨.hbm, 174, rfl⟩
abbrev main_v33 : Ref sig .tc := ⟨.hbm, 175, rfl⟩
abbrev main_c_10 : Ref sig .tc := ⟨.hbm, 176, rfl⟩
abbrev main_v34 : Ref sig .tc := ⟨.hbm, 177, rfl⟩
abbrev main_v35 : Ref sig .tc := ⟨.hbm, 178, rfl⟩
abbrev main_v36 : Ref sig .tc := ⟨.hbm, 179, rfl⟩
abbrev main_v37 : Ref sig .tc := ⟨.hbm, 180, rfl⟩
abbrev main_v38 : Ref sig .tc := ⟨.hbm, 181, rfl⟩
abbrev main_v39 : Ref sig .tc := ⟨.hbm, 182, rfl⟩
abbrev main_v40 : Ref sig .tc := ⟨.hbm, 183, rfl⟩
abbrev main_v41 : Ref sig .tc := ⟨.hbm, 184, rfl⟩
abbrev main_v42 : Ref sig .tc := ⟨.hbm, 185, rfl⟩
abbrev main_v43 : Ref sig .tc := ⟨.hbm, 186, rfl⟩
abbrev main_v44 : Ref sig .tc := ⟨.hbm, 187, rfl⟩
abbrev main_v45 : Ref sig .tc := ⟨.hbm, 188, rfl⟩
abbrev main_call9_cst : Ref sig .tc := ⟨.hbm, 189, rfl⟩
abbrev main_call9_v0 : Ref sig .tc := ⟨.hbm, 190, rfl⟩
abbrev main_v46 : Ref sig .tc := ⟨.hbm, 191, rfl⟩
abbrev main_v47 : Ref sig .tc := ⟨.hbm, 192, rfl⟩
abbrev main_v48 : Ref sig .tc := ⟨.hbm, 193, rfl⟩
abbrev main_v49 : Ref sig .tc := ⟨.hbm, 194, rfl⟩
abbrev main_v50 : Ref sig .tc := ⟨.hbm, 195, rfl⟩
abbrev main_v51 : Ref sig .tc := ⟨.hbm, 196, rfl⟩
abbrev main_v52 : Ref sig .tc := ⟨.hbm, 197, rfl⟩
abbrev main_v53 : Ref sig .tc := ⟨.hbm, 198, rfl⟩
abbrev main_v54 : Ref sig .tc := ⟨.hbm, 199, rfl⟩
abbrev main_call10_c : Ref sig .tc := ⟨.hbm, 200, rfl⟩
abbrev main_call10_v0 : Ref sig .tc := ⟨.hbm, 201, rfl⟩
abbrev main_call10_v1 : Ref sig .tc := ⟨.hbm, 202, rfl⟩
abbrev main_call10_c_0 : Ref sig .tc := ⟨.hbm, 203, rfl⟩
abbrev main_call10_v2 : Ref sig .tc := ⟨.hbm, 204, rfl⟩
abbrev main_call10_v3 : Ref sig .tc := ⟨.hbm, 205, rfl⟩
abbrev main_call10_v4 : Ref sig .tc := ⟨.hbm, 206, rfl⟩
abbrev main_call10_v5 : Ref sig .tc := ⟨.hbm, 207, rfl⟩
abbrev main_call10_c_1 : Ref sig .tc := ⟨.hbm, 208, rfl⟩
abbrev main_call10_c_2 : Ref sig .tc := ⟨.hbm, 209, rfl⟩
abbrev main_call10_v6 : Ref sig .tc := ⟨.hbm, 210, rfl⟩
abbrev main_call10_v7 : Ref sig .tc := ⟨.hbm, 211, rfl⟩
abbrev main_call10_v8 : Ref sig .tc := ⟨.hbm, 212, rfl⟩
abbrev main_call10_v9 : Ref sig .tc := ⟨.hbm, 213, rfl⟩
abbrev main_call10_v10 : Ref sig .tc := ⟨.hbm, 214, rfl⟩
abbrev main_call10_v11 : Ref sig .tc := ⟨.hbm, 215, rfl⟩
abbrev main_call10_c_3 : Ref sig .tc := ⟨.hbm, 216, rfl⟩
abbrev main_call10_v12 : Ref sig .tc := ⟨.hbm, 217, rfl⟩
abbrev main_call10_v13 : Ref sig .tc := ⟨.hbm, 218, rfl⟩
abbrev main_call10_v14 : Ref sig .tc := ⟨.hbm, 219, rfl⟩
abbrev main_call10_cst : Ref sig .tc := ⟨.hbm, 220, rfl⟩
abbrev main_call10_v15 : Ref sig .tc := ⟨.hbm, 221, rfl⟩
abbrev main_v55 : Ref sig .tc := ⟨.hbm, 222, rfl⟩
abbrev main_v56 : Ref sig .tc := ⟨.hbm, 223, rfl⟩
abbrev main_call11_cst : Ref sig .tc := ⟨.hbm, 224, rfl⟩
abbrev main_call11_v0 : Ref sig .tc := ⟨.hbm, 225, rfl⟩
abbrev main_v57 : Ref sig .tc := ⟨.hbm, 226, rfl⟩
abbrev main_cst : Ref sig .tc := ⟨.hbm, 227, rfl⟩
abbrev main_v58 : Ref sig .tc := ⟨.hbm, 228, rfl⟩
abbrev main_c_11 : Ref sig .tc := ⟨.hbm, 229, rfl⟩
abbrev main_v59 : Ref sig .tc := ⟨.hbm, 230, rfl⟩
abbrev main_v60 : Ref sig .tc := ⟨.hbm, 231, rfl⟩
abbrev main_c_12 : Ref sig .tc := ⟨.hbm, 232, rfl⟩
abbrev main_v61 : Ref sig .tc := ⟨.hbm, 233, rfl⟩
abbrev main_v62 : Ref sig .tc := ⟨.hbm, 234, rfl⟩
abbrev main_v63 : Ref sig .tc := ⟨.hbm, 235, rfl⟩
abbrev main_v64 : Ref sig .tc := ⟨.hbm, 236, rfl⟩
abbrev main_v65 : Ref sig .tc := ⟨.hbm, 237, rfl⟩
abbrev main_v66 : Ref sig .tc := ⟨.hbm, 238, rfl⟩
abbrev main_v67 : Ref sig .tc := ⟨.hbm, 239, rfl⟩
abbrev main_v68 : Ref sig .tc := ⟨.hbm, 240, rfl⟩
abbrev main_v69 : Ref sig .tc := ⟨.hbm, 241, rfl⟩
abbrev main_v70 : Ref sig .tc := ⟨.hbm, 242, rfl⟩
abbrev main_v71 : Ref sig .tc := ⟨.hbm, 243, rfl⟩
abbrev main_v72 : Ref sig .tc := ⟨.hbm, 244, rfl⟩
abbrev main_v73 : Ref sig .tc := ⟨.hbm, 245, rfl⟩
abbrev main_v74 : Ref sig .tc := ⟨.hbm, 246, rfl⟩
abbrev main_call12_cst : Ref sig .tc := ⟨.hbm, 247, rfl⟩
abbrev main_call12_v0 : Ref sig .tc := ⟨.hbm, 248, rfl⟩
abbrev main_v75 : Ref sig .tc := ⟨.hbm, 249, rfl⟩
abbrev main_v76 : Ref sig .tc := ⟨.hbm, 250, rfl⟩
abbrev main_v77 : Ref sig .tc := ⟨.hbm, 251, rfl⟩
abbrev main_v78 : Ref sig .tc := ⟨.hbm, 252, rfl⟩
abbrev main_v79 : Ref sig .tc := ⟨.hbm, 253, rfl⟩
abbrev main_v80 : Ref sig .tc := ⟨.hbm, 254, rfl⟩
abbrev main_v81 : Ref sig .tc := ⟨.hbm, 255, rfl⟩
abbrev main_v82 : Ref sig .tc := ⟨.hbm, 256, rfl⟩
abbrev main_v83 : Ref sig .tc := ⟨.hbm, 257, rfl⟩
abbrev main_v84 : Ref sig .tc := ⟨.hbm, 258, rfl⟩
abbrev main_call13_c : Ref sig .tc := ⟨.hbm, 259, rfl⟩
abbrev main_call13_v0 : Ref sig .tc := ⟨.hbm, 260, rfl⟩
abbrev main_call13_v1 : Ref sig .tc := ⟨.hbm, 261, rfl⟩
abbrev main_call13_c_0 : Ref sig .tc := ⟨.hbm, 262, rfl⟩
abbrev main_call13_v2 : Ref sig .tc := ⟨.hbm, 263, rfl⟩
abbrev main_call13_v3 : Ref sig .tc := ⟨.hbm, 264, rfl⟩
abbrev main_call13_v4 : Ref sig .tc := ⟨.hbm, 265, rfl⟩
abbrev main_call13_v5 : Ref sig .tc := ⟨.hbm, 266, rfl⟩
abbrev main_call13_c_1 : Ref sig .tc := ⟨.hbm, 267, rfl⟩
abbrev main_call13_c_2 : Ref sig .tc := ⟨.hbm, 268, rfl⟩
abbrev main_call13_v6 : Ref sig .tc := ⟨.hbm, 269, rfl⟩
abbrev main_call13_v7 : Ref sig .tc := ⟨.hbm, 270, rfl⟩
abbrev main_call13_v8 : Ref sig .tc := ⟨.hbm, 271, rfl⟩
abbrev main_call13_v9 : Ref sig .tc := ⟨.hbm, 272, rfl⟩
abbrev main_call13_v10 : Ref sig .tc := ⟨.hbm, 273, rfl⟩
abbrev main_call13_v11 : Ref sig .tc := ⟨.hbm, 274, rfl⟩
abbrev main_call13_c_3 : Ref sig .tc := ⟨.hbm, 275, rfl⟩
abbrev main_call13_v12 : Ref sig .tc := ⟨.hbm, 276, rfl⟩
abbrev main_call13_v13 : Ref sig .tc := ⟨.hbm, 277, rfl⟩
abbrev main_call13_v14 : Ref sig .tc := ⟨.hbm, 278, rfl⟩
abbrev main_call13_cst : Ref sig .tc := ⟨.hbm, 279, rfl⟩
abbrev main_call13_v15 : Ref sig .tc := ⟨.hbm, 280, rfl⟩
abbrev main_v85 : Ref sig .tc := ⟨.hbm, 281, rfl⟩
abbrev main_v86 : Ref sig .tc := ⟨.hbm, 282, rfl⟩
abbrev main_call14_cst : Ref sig .tc := ⟨.hbm, 283, rfl⟩
abbrev main_call14_v0 : Ref sig .tc := ⟨.hbm, 284, rfl⟩
abbrev main_v87 : Ref sig .tc := ⟨.hbm, 285, rfl⟩
abbrev main_cst_13 : Ref sig .tc := ⟨.hbm, 286, rfl⟩
abbrev main_v88 : Ref sig .tc := ⟨.hbm, 287, rfl⟩
abbrev main_c_14 : Ref sig .tc := ⟨.hbm, 288, rfl⟩
abbrev main_v89 : Ref sig .tc := ⟨.hbm, 289, rfl⟩
abbrev main_v90 : Ref sig .tc := ⟨.hbm, 290, rfl⟩
abbrev main_c_15 : Ref sig .tc := ⟨.hbm, 291, rfl⟩
abbrev main_v91 : Ref sig .tc := ⟨.hbm, 292, rfl⟩
abbrev main_v92 : Ref sig .tc := ⟨.hbm, 293, rfl⟩
abbrev main_v93 : Ref sig .tc := ⟨.hbm, 294, rfl⟩
abbrev main_v94 : Ref sig .tc := ⟨.hbm, 295, rfl⟩
abbrev main_v95 : Ref sig .tc := ⟨.hbm, 296, rfl⟩
abbrev main_v96 : Ref sig .tc := ⟨.hbm, 297, rfl⟩
abbrev main_v97 : Ref sig .tc := ⟨.hbm, 298, rfl⟩
abbrev main_v98 : Ref sig .tc := ⟨.hbm, 299, rfl⟩
abbrev main_v99 : Ref sig .tc := ⟨.hbm, 300, rfl⟩
abbrev main_v100 : Ref sig .tc := ⟨.hbm, 301, rfl⟩
abbrev main_v101 : Ref sig .tc := ⟨.hbm, 302, rfl⟩
abbrev main_v102 : Ref sig .tc := ⟨.hbm, 303, rfl⟩
abbrev main_v103 : Ref sig .tc := ⟨.hbm, 304, rfl⟩
abbrev main_v104 : Ref sig .tc := ⟨.hbm, 305, rfl⟩
abbrev main_call15_cst : Ref sig .tc := ⟨.hbm, 306, rfl⟩
abbrev main_call15_v0 : Ref sig .tc := ⟨.hbm, 307, rfl⟩
abbrev main_v105 : Ref sig .tc := ⟨.hbm, 308, rfl⟩
abbrev main_v106 : Ref sig .tc := ⟨.hbm, 309, rfl⟩
abbrev main_v107 : Ref sig .tc := ⟨.hbm, 310, rfl⟩
abbrev main_v108 : Ref sig .tc := ⟨.hbm, 311, rfl⟩
abbrev main_v109 : Ref sig .tc := ⟨.hbm, 312, rfl⟩
abbrev main_v110 : Ref sig .tc := ⟨.hbm, 313, rfl⟩
abbrev main_v111 : Ref sig .tc := ⟨.hbm, 314, rfl⟩
abbrev main_v112 : Ref sig .tc := ⟨.hbm, 315, rfl⟩
abbrev main_v113 : Ref sig .tc := ⟨.hbm, 316, rfl⟩
abbrev main_v114 : Ref sig .tc := ⟨.hbm, 317, rfl⟩
abbrev main_call16_c : Ref sig .tc := ⟨.hbm, 318, rfl⟩
abbrev main_call16_v0 : Ref sig .tc := ⟨.hbm, 319, rfl⟩
abbrev main_call16_v1 : Ref sig .tc := ⟨.hbm, 320, rfl⟩
abbrev main_call16_c_0 : Ref sig .tc := ⟨.hbm, 321, rfl⟩
abbrev main_call16_v2 : Ref sig .tc := ⟨.hbm, 322, rfl⟩
abbrev main_call16_v3 : Ref sig .tc := ⟨.hbm, 323, rfl⟩
abbrev main_call16_v4 : Ref sig .tc := ⟨.hbm, 324, rfl⟩
abbrev main_call16_v5 : Ref sig .tc := ⟨.hbm, 325, rfl⟩
abbrev main_call16_c_1 : Ref sig .tc := ⟨.hbm, 326, rfl⟩
abbrev main_call16_c_2 : Ref sig .tc := ⟨.hbm, 327, rfl⟩
abbrev main_call16_v6 : Ref sig .tc := ⟨.hbm, 328, rfl⟩
abbrev main_call16_v7 : Ref sig .tc := ⟨.hbm, 329, rfl⟩
abbrev main_call16_v8 : Ref sig .tc := ⟨.hbm, 330, rfl⟩
abbrev main_call16_v9 : Ref sig .tc := ⟨.hbm, 331, rfl⟩
abbrev main_call16_v10 : Ref sig .tc := ⟨.hbm, 332, rfl⟩
abbrev main_call16_v11 : Ref sig .tc := ⟨.hbm, 333, rfl⟩
abbrev main_call16_c_3 : Ref sig .tc := ⟨.hbm, 334, rfl⟩
abbrev main_call16_v12 : Ref sig .tc := ⟨.hbm, 335, rfl⟩
abbrev main_call16_v13 : Ref sig .tc := ⟨.hbm, 336, rfl⟩
abbrev main_call16_v14 : Ref sig .tc := ⟨.hbm, 337, rfl⟩
abbrev main_call16_cst : Ref sig .tc := ⟨.hbm, 338, rfl⟩
abbrev main_call16_v15 : Ref sig .tc := ⟨.hbm, 339, rfl⟩
abbrev main_v115 : Ref sig .tc := ⟨.hbm, 340, rfl⟩
abbrev main_v116 : Ref sig .tc := ⟨.hbm, 341, rfl⟩
abbrev main_call17_cst : Ref sig .tc := ⟨.hbm, 342, rfl⟩
abbrev main_call17_v0 : Ref sig .tc := ⟨.hbm, 343, rfl⟩
abbrev main_v117 : Ref sig .tc := ⟨.hbm, 344, rfl⟩
abbrev main_cst_16 : Ref sig .tc := ⟨.hbm, 345, rfl⟩
abbrev main_v118 : Ref sig .tc := ⟨.hbm, 346, rfl⟩
abbrev main_c_17 : Ref sig .tc := ⟨.hbm, 347, rfl⟩
abbrev main_v119 : Ref sig .tc := ⟨.hbm, 348, rfl⟩
abbrev main_v120 : Ref sig .tc := ⟨.hbm, 349, rfl⟩
abbrev main_c_18 : Ref sig .tc := ⟨.hbm, 350, rfl⟩
abbrev main_v121 : Ref sig .tc := ⟨.hbm, 351, rfl⟩
abbrev main_v122 : Ref sig .tc := ⟨.hbm, 352, rfl⟩
abbrev main_v123 : Ref sig .tc := ⟨.hbm, 353, rfl⟩
abbrev main_v124 : Ref sig .tc := ⟨.hbm, 354, rfl⟩
abbrev main_v125 : Ref sig .tc := ⟨.hbm, 355, rfl⟩
abbrev main_v126 : Ref sig .tc := ⟨.hbm, 356, rfl⟩
abbrev main_v127 : Ref sig .tc := ⟨.hbm, 357, rfl⟩
abbrev main_v128 : Ref sig .tc := ⟨.hbm, 358, rfl⟩
abbrev main_v129 : Ref sig .tc := ⟨.hbm, 359, rfl⟩
abbrev main_v130 : Ref sig .tc := ⟨.hbm, 360, rfl⟩
abbrev main_v131 : Ref sig .tc := ⟨.hbm, 361, rfl⟩
abbrev main_v132 : Ref sig .tc := ⟨.hbm, 362, rfl⟩
abbrev main_v133 : Ref sig .tc := ⟨.hbm, 363, rfl⟩
abbrev main_v134 : Ref sig .tc := ⟨.hbm, 364, rfl⟩
abbrev main_call18_cst : Ref sig .tc := ⟨.hbm, 365, rfl⟩
abbrev main_call18_v0 : Ref sig .tc := ⟨.hbm, 366, rfl⟩
abbrev main_v135 : Ref sig .tc := ⟨.hbm, 367, rfl⟩
abbrev main_v136 : Ref sig .tc := ⟨.hbm, 368, rfl⟩
abbrev main_v137 : Ref sig .tc := ⟨.hbm, 369, rfl⟩
abbrev main_v138 : Ref sig .tc := ⟨.hbm, 370, rfl⟩
abbrev main_v139 : Ref sig .tc := ⟨.hbm, 371, rfl⟩
abbrev main_v140 : Ref sig .tc := ⟨.hbm, 372, rfl⟩
abbrev main_v141 : Ref sig .tc := ⟨.hbm, 373, rfl⟩
abbrev main_v142 : Ref sig .tc := ⟨.hbm, 374, rfl⟩
abbrev main_v143 : Ref sig .tc := ⟨.hbm, 375, rfl⟩
abbrev main_v144 : Ref sig .tc := ⟨.hbm, 376, rfl⟩
abbrev main_cst_19 : Ref sig .tc := ⟨.hbm, 377, rfl⟩
abbrev main_v145 : Ref sig .tc := ⟨.hbm, 378, rfl⟩
abbrev main_v146 : Ref sig .tc := ⟨.hbm, 379, rfl⟩
abbrev main_v147 : Ref sig .tc := ⟨.hbm, 380, rfl⟩
abbrev main_cst_20 : Ref sig .tc := ⟨.hbm, 381, rfl⟩
abbrev main_v148 : Ref sig .tc := ⟨.hbm, 382, rfl⟩
abbrev main_v149 : Ref sig .tc := ⟨.hbm, 383, rfl⟩
abbrev main_v150 : Ref sig .tc := ⟨.hbm, 384, rfl⟩
abbrev main_v151 : Ref sig .tc := ⟨.hbm, 385, rfl⟩
abbrev main_v152 : Ref sig .tc := ⟨.hbm, 386, rfl⟩
abbrev main_v153 : Ref sig .tc := ⟨.hbm, 387, rfl⟩
abbrev main_v154 : Ref sig .tc := ⟨.hbm, 388, rfl⟩
abbrev main_call19_v0 : Ref sig .tc := ⟨.hbm, 389, rfl⟩
abbrev main_call19_v1 : Ref sig .tc := ⟨.hbm, 390, rfl⟩
abbrev main_v155 : Ref sig .tc := ⟨.hbm, 391, rfl⟩
abbrev main_c_21 : Ref sig .tc := ⟨.hbm, 392, rfl⟩
abbrev main_v156 : Ref sig .tc := ⟨.hbm, 393, rfl⟩
abbrev main_c_22 : Ref sig .tc := ⟨.hbm, 394, rfl⟩
abbrev main_v157 : Ref sig .tc := ⟨.hbm, 395, rfl⟩
abbrev main_call20_call0_c : Ref sig .tc := ⟨.hbm, 396, rfl⟩
abbrev main_call20_call0_v0 : Ref sig .tc := ⟨.hbm, 397, rfl⟩
abbrev main_v158 : Ref sig .tc := ⟨.hbm, 398, rfl⟩
abbrev main_c_23 : Ref sig .tc := ⟨.hbm, 399, rfl⟩
abbrev main_v159 : Ref sig .tc := ⟨.hbm, 400, rfl⟩
abbrev main_c_24 : Ref sig .tc := ⟨.hbm, 401, rfl⟩
abbrev main_v160 : Ref sig .tc := ⟨.hbm, 402, rfl⟩
abbrev main_v161 : Ref sig .tc := ⟨.hbm, 403, rfl⟩
abbrev main_c_25 : Ref sig .tc := ⟨.hbm, 404, rfl⟩
abbrev main_v162 : Ref sig .tc := ⟨.hbm, 405, rfl⟩
abbrev main_v163 : Ref sig .tc := ⟨.hbm, 406, rfl⟩
abbrev main_v164 : Ref sig .tc := ⟨.hbm, 407, rfl⟩
abbrev main_v165 : Ref sig .tc := ⟨.hbm, 408, rfl⟩
abbrev main_c_26 : Ref sig .tc := ⟨.hbm, 409, rfl⟩
abbrev main_v166 : Ref sig .tc := ⟨.hbm, 410, rfl⟩
abbrev main_v167 : Ref sig .tc := ⟨.hbm, 411, rfl⟩
abbrev main_call21_call0_c : Ref sig .tc := ⟨.hbm, 412, rfl⟩
abbrev main_call21_call0_v0 : Ref sig .tc := ⟨.hbm, 413, rfl⟩
abbrev main_v168 : Ref sig .tc := ⟨.hbm, 414, rfl⟩
abbrev main_c_27 : Ref sig .tc := ⟨.hbm, 415, rfl⟩
abbrev main_v169 : Ref sig .tc := ⟨.hbm, 416, rfl⟩
abbrev main_v170 : Ref sig .tc := ⟨.hbm, 417, rfl⟩
abbrev main_call22_c : Ref sig .tc := ⟨.hbm, 418, rfl⟩
abbrev main_call22_v0 : Ref sig .tc := ⟨.hbm, 419, rfl⟩
abbrev main_call22_v1 : Ref sig .tc := ⟨.hbm, 420, rfl⟩
abbrev main_call22_c_0 : Ref sig .tc := ⟨.hbm, 421, rfl⟩
abbrev main_call22_v2 : Ref sig .tc := ⟨.hbm, 422, rfl⟩
abbrev main_call22_v3 : Ref sig .tc := ⟨.hbm, 423, rfl⟩
abbrev main_call22_v4 : Ref sig .tc := ⟨.hbm, 424, rfl⟩
abbrev main_call22_v5 : Ref sig .tc := ⟨.hbm, 425, rfl⟩
abbrev main_call22_c_1 : Ref sig .tc := ⟨.hbm, 426, rfl⟩
abbrev main_call22_c_2 : Ref sig .tc := ⟨.hbm, 427, rfl⟩
abbrev main_call22_v6 : Ref sig .tc := ⟨.hbm, 428, rfl⟩
abbrev main_call22_v7 : Ref sig .tc := ⟨.hbm, 429, rfl⟩
abbrev main_call22_v8 : Ref sig .tc := ⟨.hbm, 430, rfl⟩
abbrev main_call22_v9 : Ref sig .tc := ⟨.hbm, 431, rfl⟩
abbrev main_call22_v10 : Ref sig .tc := ⟨.hbm, 432, rfl⟩
abbrev main_call22_v11 : Ref sig .tc := ⟨.hbm, 433, rfl⟩
abbrev main_call22_c_3 : Ref sig .tc := ⟨.hbm, 434, rfl⟩
abbrev main_call22_v12 : Ref sig .tc := ⟨.hbm, 435, rfl⟩
abbrev main_call22_v13 : Ref sig .tc := ⟨.hbm, 436, rfl⟩
abbrev main_call22_c_4 : Ref sig .tc := ⟨.hbm, 437, rfl⟩
abbrev main_call22_v14 : Ref sig .tc := ⟨.hbm, 438, rfl⟩
abbrev main_v171 : Ref sig .tc := ⟨.hbm, 439, rfl⟩
abbrev main_cst_28 : Ref sig .tc := ⟨.hbm, 440, rfl⟩
abbrev main_v172 : Ref sig .tc := ⟨.hbm, 441, rfl⟩
abbrev main_v173 : Ref sig .tc := ⟨.hbm, 442, rfl⟩
abbrev main_v174 : Ref sig .tc := ⟨.hbm, 443, rfl⟩
abbrev main_cst_29 : Ref sig .tc := ⟨.hbm, 444, rfl⟩
abbrev main_v175 : Ref sig .tc := ⟨.hbm, 445, rfl⟩
abbrev main_cst_30 : Ref sig .tc := ⟨.hbm, 446, rfl⟩
abbrev main_v176 : Ref sig .tc := ⟨.hbm, 447, rfl⟩
abbrev main_v177 : Ref sig .tc := ⟨.hbm, 448, rfl⟩
abbrev main_v178 : Ref sig .tc := ⟨.hbm, 449, rfl⟩
abbrev main_cst_31 : Ref sig .tc := ⟨.hbm, 450, rfl⟩
abbrev main_call23_v0 : Ref sig .tc := ⟨.hbm, 451, rfl⟩
abbrev main_call23_v1 : Ref sig .tc := ⟨.hbm, 452, rfl⟩
abbrev main_v179 : Ref sig .tc := ⟨.hbm, 453, rfl⟩
abbrev main_v180 : Ref sig .tc := ⟨.hbm, 454, rfl⟩
abbrev main_v181 : Ref sig .tc := ⟨.hbm, 455, rfl⟩
abbrev main_v182 : Ref sig .tc := ⟨.hbm, 456, rfl⟩

abbrev nD : Nat := 1
abbrev τ : Topo := Topo.v7x

variable {F : FTy → Type} [FloatOps F]
-- ==== Proof.Setup.lean ====
/-
  The kernel as the SparseCore launch theorem sees it, and the two gathers' buffers, shares and parts.

  Tile `(c, i)` (core `c` of two, subcore `i` of sixteen) has number `2 i + c`. Each tile reads the table and the list
  of row numbers at a read token of its own, and owns its rows of the gathered array outright.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.FrameBody
public import Idealize.ShloMosaic.Lib.Pipeline.Value
public import Idealize.ShloMosaic.Lib.Pipeline.RegionArrays
public import Idealize.ShloMosaic.Lib.Ring
public import Idealize.ShloMosaic.Lib.ValueIdx
public import Idealize.ShloMosaic.Lib.VecWindow
public import Idealize.ShloMosaic.Lib.Routing.Ops
public import Idealize.ShloMosaic.Lib.Claim
public import Idealize.ShloMosaic.Lib.WordCmp
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_setup_ranges

@[expose] public section

noncomputable section

namespace Cert.Proof.Gnn

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its ghost state -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The first call runs 16 tiles a core. -/
theorem nSub_0 : (K (F := F)).nSub 0 = 16 := rfl
/-- The first call runs on 2 cores. -/
theorem nCore_0 : (K (F := F)).nCore 0 = 2 := rfl
/-- The second call runs 16 tiles a core. -/
theorem nSub_1 : (K (F := F)).nSub 1 = 16 := rfl
/-- The second call runs on 2 cores. -/
theorem nCore_1 : (K (F := F)).nCore 1 = 2 := rfl

/-- The launch's side conditions on the semaphores and buffers it uses. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- Three components: the handshakes' rounds, the TensorCore pipeline's rounds, the transfers' counters. -/
abbrev UH : Type := URounds (GSem nD τ sig) ℕ
abbrev UP : Type := URounds (GSem nD τ sig) Unit
abbrev UU : Type := UH × (UP × Counters)

/-- The resources of a thread of this program. -/
abbrev Res (F : FTy → Type) : Type := MT nD τ sig (HIx 2) (Elt F) ℕ UU ℕ

local notation "𝕄" => MT nD τ sig (HIx 2) (Elt F) ℕ UU ℕ

abbrev EH : Emb UH (MT nD τ sig (HIx 2) (Elt F) ℕ UU ℕ) := embL

/-! ## The two gathers' locations -/

abbrev xLoc (d : Dev nD) : Loc nD τ sig := (SparseCore.T d).loc main_arg0
abbrev xiLoc (d : Dev nD) : Loc nD τ sig := (SparseCore.T d).loc main_v0
abbrev xoLoc (d : Dev nD) : Loc nD τ sig := (SparseCore.T d).loc main_v1
abbrev eLoc (d : Dev nD) : Loc nD τ sig := (SparseCore.T d).loc main_arg1
abbrev eiLoc (d : Dev nD) : Loc nD τ sig := (SparseCore.T d).loc main_arg6
abbrev eoLoc (d : Dev nD) : Loc nD τ sig := (SparseCore.T d).loc main_v2

/-! ## What the gathers leave -/

/-- Row number `w` of a table of `n` rows (row 0 for a number out of range). -/
def rowOf (n : ℕ) (hn : 0 < n) (w : BitVec 32) : Fin n := if h : w.toNat < n then ⟨w.toNat, h⟩ else ⟨0, hn⟩

/-- A row number in range is the word's own number. -/
theorem rowOf_val {n : ℕ} (hn : 0 < n) {w : BitVec 32} (h : w.toNat < n) : (rowOf n hn w).val = w.toNat := by
  simp [rowOf, h]

/-- The rows of `x` that `idx` names, in order. -/
def takeX (x : S10000x128.Idx → Elt F .f32) (idx : S4096.Idx → Elt F .i32) : S4096x128.Idx → Elt F .f32 := fun j =>
  x (ix2 (n0 := 10000) (n1 := 128) (rowOf 10000 (by decide) (idx (ix1 (n := 4096) (j 0)))) (j 1))

/-- The rows of `e` that `idx` names, in order. -/
def takeE (x : S160000x16.Idx → Elt F .f32) (idx : S8192.Idx → Elt F .i32) : S8192x16.Idx → Elt F .f32 := fun j =>
  x (ix2 (n0 := 160000) (n1 := 16) (rowOf 160000 (by decide) (idx (ix1 (n := 8192) (j 0)))) (j 1))

/-! ## Views as the tiles address them -/

/-- The grid point of core `c`, subcore `i`. -/
abbrev pt0 (c : Fin 2) (i : Fin 16) : grid0.Coords :=
  fun | 0 => c | 1 => i | ⟨_ + 2, h⟩ => absurd h (Nat.not_lt.2 (Nat.le_add_left _ _))
abbrev pt1 (c : Fin 2) (i : Fin 16) : grid1.Coords :=
  fun | 0 => c | 1 => i | ⟨_ + 2, h⟩ => absurd h (Nat.not_lt.2 (Nat.le_add_left _ _))

abbrev xoV : Memref sig .scVector .hbm S4096x128 .f32 := Memref.whole main_v1_scv
abbrev eoV : Memref sig .scVector .hbm S8192x16 .f32 := Memref.whole main_v2_scv
abbrev xiV : Memref sig .scVector .hbm S4096 .i32 := Memref.whole main_v0_scv
abbrev eiV : Memref sig .scVector .hbm S8192 .i32 := Memref.whole main_arg6_scv
abbrev xV : Memref sig .scVector .hbm S10000x128 .f32 := Memref.whole main_arg0_scv
abbrev eV : Memref sig .scVector .hbm S160000x16 .f32 := Memref.whole main_arg1_scv

/-- A tile's rows of the first gathered array. -/
abbrev xoT (p : grid0.Coords) : Memref sig .scVector .hbm S128x128 .f32 :=
  xoV.slice (Rect.unit (s := S4096x128) (k0_off2 p) S128x128.size (k0_off2_inb p)) (fun _ => rfl)
abbrev eoT0 (p : grid1.Coords) : Memref sig .scVector .hbm S128x16 .f32 :=
  eoV.slice (Rect.unit (s := S8192x16) (k1_off2 p 0#32) S128x16.size (k1_off2_inb p 0)) (fun _ => rfl)
abbrev eoT1 (p : grid1.Coords) : Memref sig .scVector .hbm S128x16 .f32 :=
  eoV.slice (Rect.unit (s := S8192x16) (k1_off2 p 128#32) S128x16.size (k1_off2_inb p 1)) (fun _ => rfl)

/-- A view whose last write was of the whole of it reads back what that write wrote. -/
theorem read_writes_whole {sig : RefSig} {κ : Kind} {sp : Space} {s : Shape} {e : EltTy} {Val : EltTy → Type} (v : View sig κ sp s e)
    (f : v.ty.Contents Val) (w : s.Idx → Val e) (L : List (View.Piece Val s e)) : v.read Val (v.writes Val f (⟨Rect.whole s, w⟩ :: L)) = w :=
  View.read_writes_full v f (by intro a; simp) w L

/-- A view wholly written once reads back what was written. -/
theorem read_written {sig : RefSig} {κ : Kind} {sp : Space} {s : Shape} {e : EltTy} {Val : EltTy → Type} (v : View sig κ sp s e)
    (f : v.ty.Contents Val) (w : s.Idx → Val e) : v.read Val (v.writes Val f [⟨Rect.whole s, w⟩]) = w :=
  read_writes_whole v f w []

/-- Tile `(c, i)`'s number. -/
def tileNo (c : Fin 2) (i : Fin 16) : Fin 32 := ⟨2 * i.val + c.val, by omega⟩

/-- Tile `(c, i)`'s read token. -/
abbrev tileQ (c : Fin 2) (i : Fin 16) : PosShare TreeShare := Transfers.shareTok fullShare 32 (tileNo c i)

end Cert.Proof.Gnn

end
-- ==== Proof.Tc.lean ====
/-
  The TensorCore kernel: what its body computes at one grid point, from the blocks it is handed, and its region in @main.

  A grid point is one graph: eight sampled subgraphs of 32 nodes and 64 edges each.
-/
module

public import proofs.«01_k».proof.Proof.Setup

@[expose] public section

noncomputable section

namespace Cert.Proof.Gnn

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.Pipeline (Dat BodyObligation BodyObligationLoose)
open Idealize.ShloMosaic.TcCoe

variable {F : FTy → Type}

local notation "𝕄" => MT nD τ sig (HIx 2) (Elt F) ℕ UU ℕ

/-! ## One grid point's blocks, and what the body computes of them -/

/-- The input blocks of a grid point. -/
structure Blocks (F : FTy → Type) where
  /-- The gathered node rows. -/
  gx : Vec F S256x128 .f32
  /-- The gathered edge rows. -/
  ge : Vec F S512x16 .f32
  /-- The edges' source nodes, local to their subgraph. -/
  sl : Vec F S1x1x512 .i32
  /-- The edges' target nodes, local to their subgraph. -/
  dl : Vec F S1x1x512 .i32
  /-- The nodes' numbers. -/
  nd : Vec F S1x8x32 .i32
  /-- The padded table. -/
  wl : Vec F S136x64 .f32
  /-- The node encoder's weights. -/
  aw : Vec F S128x256 .f32
  /-- Its bias. -/
  ab : Vec F S1x256 .f32
  /-- The edge encoder's weights. -/
  bw : Vec F S16x256 .f32
  /-- Its bias. -/
  bb : Vec F S1x256 .f32
  /-- Each layer's first weights. -/
  w1 : Vec F S3x256x256 .f32
  /-- Its first bias. -/
  b1 : Vec F S3x1x256 .f32
  /-- Its second weights. -/
  w2 : Vec F S3x256x256 .f32
  /-- Its second bias. -/
  b2 : Vec F S3x1x256 .f32

/-! The rectangles that the body loads and stores: whole blocks, and layer `l`'s slice of the layers' weights. -/

abbrev q256x128 : Rect S256x128 := Rect.unit (s := S256x128) ![0, 0] S256x128.size inb_S256x128_S256x128_0_0
abbrev q128x256 : Rect S128x256 := Rect.unit (s := S128x256) ![0, 0] S128x256.size inb_S128x256_S128x256_0_0
abbrev q1x256 : Rect S1x256 := Rect.unit (s := S1x256) ![0, 0] S1x256.size inb_S1x256_S1x256_0_0
abbrev q512x16 : Rect S512x16 := Rect.unit (s := S512x16) ![0, 0] S512x16.size inb_S512x16_S512x16_0_0
abbrev q16x256 : Rect S16x256 := Rect.unit (s := S16x256) ![0, 0] S16x256.size inb_S16x256_S16x256_0_0
abbrev q1x1x512 : Rect S1x1x512 := Rect.unit (s := S1x1x512) ![0, 0, 0] S1x1x512.size inb_S1x1x512_S1x1x512_0_0_0
abbrev q1x1x256 : Rect S1x1x256 := Rect.unit (s := S1x1x256) ![0, 0, 0] S1x1x256.size inb_S1x1x256_S1x1x256_0_0_0
abbrev q1x8x32 : Rect S1x8x32 := Rect.unit (s := S1x8x32) ![0, 0, 0] S1x8x32.size inb_S1x8x32_S1x8x32_0_0_0
abbrev q136x64 : Rect S136x64 := Rect.unit (s := S136x64) ![0, 0] S136x64.size inb_S136x64_S136x64_0_0
abbrev q1x1x64 : Rect S1x1x64 := Rect.unit (s := S1x1x64) ![0, 0, 0] S1x1x64.size inb_S1x1x64_S1x1x64_0_0_0
abbrev qW0 : Rect S3x256x256 := Rect.unit (s := S3x256x256) ![0, 0, 0] S1x256x256.size inb_S3x256x256_S1x256x256_0_0_0
abbrev qB0 : Rect S3x1x256 := Rect.unit (s := S3x1x256) ![0, 0, 0] S1x1x256.size inb_S3x1x256_S1x1x256_0_0_0
abbrev qW1 : Rect S3x256x256 := Rect.unit (s := S3x256x256) ![1, 0, 0] S1x256x256.size inb_S3x256x256_S1x256x256_1_0_0
abbrev qB1 : Rect S3x1x256 := Rect.unit (s := S3x1x256) ![1, 0, 0] S1x1x256.size inb_S3x1x256_S1x1x256_1_0_0
abbrev qW2 : Rect S3x256x256 := Rect.unit (s := S3x256x256) ![2, 0, 0] S1x256x256.size inb_S3x256x256_S1x256x256_2_0_0
abbrev qB2 : Rect S3x1x256 := Rect.unit (s := S3x1x256) ![2, 0, 0] S1x1x256.size inb_S3x1x256_S1x1x256_2_0_0

namespace Blocks

variable [FloatOps F] (x : Blocks F)

/-- The encoded nodes. -/
def nodes : FVec F S256x256 .f32 := k2_pay2 (View.ld x.gx q256x128) (View.ld x.aw q128x256) (View.ld x.ab q1x256)
/-- The encoded edges. -/
def edges : FVec F S512x256 .f32 := k2_pay3 (View.ld x.ge q512x16) (View.ld x.bw q16x256) (View.ld x.bb q1x256)
/-- The edges' sources, one column per edge. -/
def srcs : FVec F S256x512 .f32 := k2_pay9 k2_pay4 k2_pay5 k2_pay6 k2_pay7 (View.ld x.sl q1x1x512)
/-- The edges' targets, one column per edge. -/
def dsts : FVec F S256x512 .f32 := k2_pay10 k2_pay4 k2_pay5 k2_pay6 k2_pay7 (View.ld x.dl q1x1x512)
/-- The first layer's hidden values. -/
def hid : FVec F S256x256 .f32 :=
  k2_pay11 x.nodes x.edges k2_pay4 k2_pay5 k2_pay6 k2_pay7 (View.ld x.sl q1x1x512) (View.ld x.dl q1x1x512) (View.ld x.w1 qW0) (View.ld x.b1 qB0)
/-- The nodes after two layers. -/
def nodes2 : FVec F S256x256 .f32 :=
  k2_pay12 x.nodes x.edges x.srcs x.dsts x.hid (View.ld x.w2 qW0) (View.ld x.b2 qB0) (View.ld x.w1 qW1) (View.ld x.b1 qB1) (View.ld x.w2 qW1) (View.ld x.b2 qB1)
/-- What the third layer's edges bring to their targets. -/
def msgs3 : FVec F S256x256 .f32 :=
  k2_pay13 x.nodes x.edges x.srcs x.dsts x.hid (View.ld x.w2 qW0) (View.ld x.b2 qB0) (View.ld x.w1 qW1) (View.ld x.b1 qB1) (View.ld x.w2 qW1) (View.ld x.b2 qB1)
/-- The graph's mean node. -/
def mean : FVec F S1x1x256 .f32 :=
  k2_pay14 x.nodes2 x.msgs3 (View.ld x.w1 qW2) (View.ld x.b1 qB2) (View.ld x.w2 qW2) (View.ld x.b2 qB2)
/-- The graph's mean row of the padded table. -/
def tag : FVec F S1x1x64 .f32 := k2_pay1 (k2_pay15 (View.ld x.nd q1x8x32)) (View.ld x.wl q136x64)
/-- The two outputs' blocks, as the body's stores leave them. -/
def out14 : Vec F S1x1x64 .f32 := View.canon [⟨q1x1x64, x.tag⟩]
def out15 : Vec F S1x1x256 .f32 := View.canon [⟨q1x1x256, x.mean⟩]

end Blocks

variable [FloatOps F]

/-! ## The body's run -/

set_option maxHeartbeats 2000000 in
set_option maxRecDepth 16384 in
/-- On whole buffers, the body leaves the inputs as they are and each output at what `Blocks` says. -/
theorem body_run (c : Dev nD) (E : Set ℕ) (i : grid2.Coords) (m0 : Memref sig .tc .vmem S256x128 .f32) (w0 : m0.IsWhole) (m1 : Memref sig .tc .vmem S512x16 .f32) (w1 : m1.IsWhole) (m2 : Memref sig .tc .vmem S1x1x512 .i32) (w2 : m2.IsWhole) (m3 : Memref sig .tc .vmem S1x1x512 .i32) (w3 : m3.IsWhole) (m4 : Memref sig .tc .vmem S1x8x32 .i32) (w4 : m4.IsWhole) (m5 : Memref sig .tc .vmem S136x64 .f32) (w5 : m5.IsWhole) (m6 : Memref sig .tc .vmem S128x256 .f32) (w6 : m6.IsWhole) (m7 : Memref sig .tc .vmem S1x256 .f32) (w7 : m7.IsWhole) (m8 : Memref sig .tc .vmem S16x256 .f32) (w8 : m8.IsWhole) (m9 : Memref sig .tc .vmem S1x256 .f32) (w9 : m9.IsWhole) (m10 : Memref sig .tc .vmem S3x256x256 .f32) (w10 : m10.IsWhole) (m11 : Memref sig .tc .vmem S3x1x256 .f32) (w11 : m11.IsWhole) (m12 : Memref sig .tc .vmem S3x256x256 .f32) (w12 : m12.IsWhole) (m13 : Memref sig .tc .vmem S3x1x256 .f32) (w13 : m13.IsWhole) (m14 : Memref sig .tc .vmem S1x1x64 .f32) (w14 : m14.IsWhole) (m15 : Memref sig .tc .vmem S1x1x256 .f32) (w15 : m15.IsWhole)
    (x : Blocks F) (k : PUnit → sProp 𝕄) :
    iprop(owns (c : Thread nD τ) m0 fullShare x.gx ∗ owns (c : Thread nD τ) m1 fullShare x.ge ∗ owns (c : Thread nD τ) m2 fullShare x.sl ∗ owns (c : Thread nD τ) m3 fullShare x.dl ∗ owns (c : Thread nD τ) m4 fullShare x.nd ∗ owns (c : Thread nD τ) m5 fullShare x.wl ∗ owns (c : Thread nD τ) m6 fullShare x.aw ∗ owns (c : Thread nD τ) m7 fullShare x.ab ∗ owns (c : Thread nD τ) m8 fullShare x.bw ∗ owns (c : Thread nD τ) m9 fullShare x.bb ∗ owns (c : Thread nD τ) m10 fullShare x.w1 ∗ owns (c : Thread nD τ) m11 fullShare x.b1 ∗ owns (c : Thread nD τ) m12 fullShare x.w2 ∗ owns (c : Thread nD τ) m13 fullShare x.b2
        ∗ (∃ y, owns (c : Thread nD τ) m14 fullShare y) ∗ (∃ y, owns (c : Thread nD τ) m15 fullShare y)
        ∗ (iprop(owns (c : Thread nD τ) m0 fullShare x.gx ∗ owns (c : Thread nD τ) m1 fullShare x.ge ∗ owns (c : Thread nD τ) m2 fullShare x.sl ∗ owns (c : Thread nD τ) m3 fullShare x.dl ∗ owns (c : Thread nD τ) m4 fullShare x.nd ∗ owns (c : Thread nD τ) m5 fullShare x.wl ∗ owns (c : Thread nD τ) m6 fullShare x.aw ∗ owns (c : Thread nD τ) m7 fullShare x.ab ∗ owns (c : Thread nD τ) m8 fullShare x.bw ∗ owns (c : Thread nD τ) m9 fullShare x.bb ∗ owns (c : Thread nD τ) m10 fullShare x.w1 ∗ owns (c : Thread nD τ) m11 fullShare x.b1 ∗ owns (c : Thread nD τ) m12 fullShare x.w2 ∗ owns (c : Thread nD τ) m13 fullShare x.b2
            ∗ owns (c : Thread nD τ) m14 fullShare x.out14 ∗ owns (c : Thread nD τ) m15 fullShare x.out15) -∗ k ⟨⟩))
      ⊢ wp frame (wpE (defs₀ (F := F)) Variants.none c none) E (cc2__tc_body i m0 w0 m1 w1 m2 w2 m3 w3 m4 w4 m5 w5 m6 w6 m7 w7 m8 w8 m9 w9 m10 w10 m11 w11 m12 w12 m13 w13 m14 w14 m15 w15) k := by
  simp only [cc2__tc_body_eq_skeleton]; unfold cc2__tc_body_skel
  simp only [k2_part1_eq_skeleton, k2_part2_eq_skeleton, k2_part3_eq_skeleton, k2_part4_eq_skeleton]
  obtain ⟨x0, x1, x2, x3, x4, x5, x6, x7, x8, x9, x10, x11, x12, x13⟩ := x
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%y14, %f14, -, H14⟩, ⟨%y15, %f15, -, H15⟩, Hk⟩
  dsimp only at e0 e1 e2 e3 e4 e5 e6 e7 e8 e9 e10 e11 e12 e13
  subst e0 e1 e2 e3 e4 e5 e6 e7 e8 e9 e10 e11 e12 e13
  sl_exec
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H13]
  · iexists f13; isplitr
    · ipureintro; rfl
    iexact H13
  isplitl [H14]
  · iexists _; isplitr
    swap; · iexact H14
    ipureintro
    exact (View.read_writes_eq_canon _ _ _ fun y => View.cover_of_tiled _ S1x1x64.size (by rfl) y).trans rfl
  iexists _; isplitr
  swap; · iexact H15
  ipureintro
  exact (View.read_writes_eq_canon _ _ _ fun y => View.cover_of_tiled _ S1x1x256.size (by rfl) y).trans rfl

/-! ## The pipeline's data: each point's blocks read off the arrays as the region finds them -/

variable (X : Valuation τ sig (Elt F))

/-- Window `w`'s block at point `t`. -/
def block (w : Fin cfg2.W) (t : Fin cfg2.N) : ((cfg2.win w).xblock (cfg2.grid.coords t)).Idx → Elt F (cfg2.win w).elt :=
  ((cfg2.win w).blk t).view.read (Elt F) (X (Proc.devRef .tc (Pipeline.arrRef spec2 w)))

/-- The input blocks at point `t`. -/
def blocks (t : Fin cfg2.N) : Blocks F where
  gx := block X 0 t
  ge := block X 1 t
  sl := block X 2 t
  dl := block X 3 t
  nd := block X 4 t
  wl := block X 5 t
  aw := block X 6 t
  ab := block X 7 t
  bw := block X 8 t
  bb := block X 9 t
  w1 := block X 10 t
  b1 := block X 11 t
  w2 := block X 12 t
  b2 := block X 13 t

/-- What the core may have waited for before the region: anything of level 16 or less. -/
def waited (c : Dev nD) : Set (SemLoc sig × HIx 2) := {p | (K (F := F)).lev ((SparseCore.T c : Thread nD τ), p.1) p.2 ≤ 16}

/-- The region's data on core `c`. -/
def dats (_ : Fin 1) (c : Dev nD) : Dat τ (Elt F) (HIx 2) ℕ UU ℕ cfg2 c where
  A w := X (Proc.devRef .tc (Pipeline.arrRef spec2 w))
  after w t := match w with
    | ⟨0, _⟩ => block X 0 t
    | ⟨1, _⟩ => block X 1 t
    | ⟨2, _⟩ => block X 2 t
    | ⟨3, _⟩ => block X 3 t
    | ⟨4, _⟩ => block X 4 t
    | ⟨5, _⟩ => block X 5 t
    | ⟨6, _⟩ => block X 6 t
    | ⟨7, _⟩ => block X 7 t
    | ⟨8, _⟩ => block X 8 t
    | ⟨9, _⟩ => block X 9 t
    | ⟨10, _⟩ => block X 10 t
    | ⟨11, _⟩ => block X 11 t
    | ⟨12, _⟩ => block X 12 t
    | ⟨13, _⟩ => block X 13 t
    | ⟨14, _⟩ => (blocks X t).out14
    | ⟨15, _⟩ => (blocks X t).out15
    | ⟨_ + 16, h⟩ => absurd h (Nat.not_lt.2 (Nat.le_add_left _ _))
  Φ _ := Pipeline.scopedRest spec2 c
  q _ := fullShare
  owed _ := 0
  recorded _ := waited (F := F) c

/-- The region's arrays start at the valuation. -/
theorem dats_A (c : Dev nD) (w : Fin cfg2.W) : (dats X 0 c).A w = X (Proc.devRef .tc (Pipeline.arrRef spec2 w)) := by
  dsimp only [dats]

/-- After a point, input 0's buffer still holds its block. -/
theorem after_0 (c : Dev nD) (t : Fin cfg2.N) : (dats X 0 c).after 0 t = block X 0 t := by dsimp only [dats]
/-- After a point, input 1's buffer still holds its block. -/
theorem after_1 (c : Dev nD) (t : Fin cfg2.N) : (dats X 0 c).after 1 t = block X 1 t := by dsimp only [dats]
/-- After a point, input 2's buffer still holds its block. -/
theorem after_2 (c : Dev nD) (t : Fin cfg2.N) : (dats X 0 c).after 2 t = block X 2 t := by dsimp only [dats]
/-- After a point, input 3's buffer still holds its block. -/
theorem after_3 (c : Dev nD) (t : Fin cfg2.N) : (dats X 0 c).after 3 t = block X 3 t := by dsimp only [dats]
/-- After a point, input 4's buffer still holds its block. -/
theorem after_4 (c : Dev nD) (t : Fin cfg2.N) : (dats X 0 c).after 4 t = block X 4 t := by dsimp only [dats]
/-- After a point, input 5's buffer still holds its block. -/
theorem after_5 (c : Dev nD) (t : Fin cfg2.N) : (dats X 0 c).after 5 t = block X 5 t := by dsimp only [dats]
/-- After a point, input 6's buffer still holds its block. -/
theorem after_6 (c : Dev nD) (t : Fin cfg2.N) : (dats X 0 c).after 6 t = block X 6 t := by dsimp only [dats]
/-- After a point, input 7's buffer still holds its block. -/
theorem after_7 (c : Dev nD) (t : Fin cfg2.N) : (dats X 0 c).after 7 t = block X 7 t := by dsimp only [dats]
/-- After a point, input 8's buffer still holds its block. -/
theorem after_8 (c : Dev nD) (t : Fin cfg2.N) : (dats X 0 c).after 8 t = block X 8 t := by dsimp only [dats]
/-- After a point, input 9's buffer still holds its block. -/
theorem after_9 (c : Dev nD) (t : Fin cfg2.N) : (dats X 0 c).after 9 t = block X 9 t := by dsimp only [dats]
/-- After a point, input 10's buffer still holds its block. -/
theorem after_10 (c : Dev nD) (t : Fin cfg2.N) : (dats X 0 c).after 10 t = block X 10 t := by dsimp only [dats]
/-- After a point, input 11's buffer still holds its block. -/
theorem after_11 (c : Dev nD) (t : Fin cfg2.N) : (dats X 0 c).after 11 t = block X 11 t := by dsimp only [dats]
/-- After a point, input 12's buffer still holds its block. -/
theorem after_12 (c : Dev nD) (t : Fin cfg2.N) : (dats X 0 c).after 12 t = block X 12 t := by dsimp only [dats]
/-- After a point, input 13's buffer still holds its block. -/
theorem after_13 (c : Dev nD) (t : Fin cfg2.N) : (dats X 0 c).after 13 t = block X 13 t := by dsimp only [dats]
/-- After a point, the first output's buffer holds what the body stored. -/
theorem after_14 (c : Dev nD) (t : Fin cfg2.N) : (dats X 0 c).after 14 t = (blocks X t).out14 := by dsimp only [dats]
/-- After a point, the second output's buffer holds what the body stored. -/
theorem after_15 (c : Dev nD) (t : Fin cfg2.N) : (dats X 0 c).after 15 t = (blocks X t).out15 := by dsimp only [dats]

/-! An input's buffer holds its block at every point, whether it is fetched there or was fetched before. -/

/-- At a point, input 0's buffer holds its block. -/
theorem before_0 (c : Dev nD) (t : Fin cfg2.N) (d) : (dats X 0 c).before 0 t d = block X 0 t :=
  ((dats X 0 c).before_in_eq_fetched 0 rfl (fun _ => rfl) (fun _ _ _ => rfl)
    (fun t => by rw [after_0]; unfold Dat.blockOf block; rw [dats_A]; try rfl) t d).trans
    (by unfold Dat.fetched Dat.blockOf block; rw [dats_A]; try rfl)
/-- At a point, input 1's buffer holds its block. -/
theorem before_1 (c : Dev nD) (t : Fin cfg2.N) (d) : (dats X 0 c).before 1 t d = block X 1 t :=
  ((dats X 0 c).before_in_eq_fetched 1 rfl (fun _ => rfl) (fun _ _ _ => rfl)
    (fun t => by rw [after_1]; unfold Dat.blockOf block; rw [dats_A]; try rfl) t d).trans
    (by unfold Dat.fetched Dat.blockOf block; rw [dats_A]; try rfl)
/-- At a point, input 2's buffer holds its block. -/
theorem before_2 (c : Dev nD) (t : Fin cfg2.N) (d) : (dats X 0 c).before 2 t d = block X 2 t :=
  ((dats X 0 c).before_in_eq_fetched 2 rfl (fun _ => rfl) (fun _ _ _ => rfl)
    (fun t => by rw [after_2]; unfold Dat.blockOf block; rw [dats_A]; try rfl) t d).trans
    (by unfold Dat.fetched Dat.blockOf block; rw [dats_A]; try rfl)
/-- At a point, input 3's buffer holds its block. -/
theorem before_3 (c : Dev nD) (t : Fin cfg2.N) (d) : (dats X 0 c).before 3 t d = block X 3 t :=
  ((dats X 0 c).before_in_eq_fetched 3 rfl (fun _ => rfl) (fun _ _ _ => rfl)
    (fun t => by rw [after_3]; unfold Dat.blockOf block; rw [dats_A]; try rfl) t d).trans
    (by unfold Dat.fetched Dat.blockOf block; rw [dats_A]; try rfl)
/-- At a point, input 4's buffer holds its block. -/
theorem before_4 (c : Dev nD) (t : Fin cfg2.N) (d) : (dats X 0 c).before 4 t d = block X 4 t :=
  ((dats X 0 c).before_in_eq_fetched 4 rfl (fun _ => rfl) (fun _ _ _ => rfl)
    (fun t => by rw [after_4]; unfold Dat.blockOf block; rw [dats_A]; try rfl) t d).trans
    (by unfold Dat.fetched Dat.blockOf block; rw [dats_A]; try rfl)
/-- At a point, input 5's buffer holds its block. -/
theorem before_5 (c : Dev nD) (t : Fin cfg2.N) (d) : (dats X 0 c).before 5 t d = block X 5 t :=
  ((dats X 0 c).before_in_eq_fetched 5 rfl (fun _ => rfl) (fun _ _ _ => rfl)
    (fun t => by rw [after_5]; unfold Dat.blockOf block; rw [dats_A]; try rfl) t d).trans
    (by unfold Dat.fetched Dat.blockOf block; rw [dats_A]; try rfl)
/-- At a point, input 6's buffer holds its block. -/
theorem before_6 (c : Dev nD) (t : Fin cfg2.N) (d) : (dats X 0 c).before 6 t d = block X 6 t :=
  ((dats X 0 c).before_in_eq_fetched 6 rfl (fun _ => rfl) (fun _ _ _ => rfl)
    (fun t => by rw [after_6]; unfold Dat.blockOf block; rw [dats_A]; try rfl) t d).trans
    (by unfold Dat.fetched Dat.blockOf block; rw [dats_A]; try rfl)
/-- At a point, input 7's buffer holds its block. -/
theorem before_7 (c : Dev nD) (t : Fin cfg2.N) (d) : (dats X 0 c).before 7 t d = block X 7 t :=
  ((dats X 0 c).before_in_eq_fetched 7 rfl (fun _ => rfl) (fun _ _ _ => rfl)
    (fun t => by rw [after_7]; unfold Dat.blockOf block; rw [dats_A]; try rfl) t d).trans
    (by unfold Dat.fetched Dat.blockOf block; rw [dats_A]; try rfl)
/-- At a point, input 8's buffer holds its block. -/
theorem before_8 (c : Dev nD) (t : Fin cfg2.N) (d) : (dats X 0 c).before 8 t d = block X 8 t :=
  ((dats X 0 c).before_in_eq_fetched 8 rfl (fun _ => rfl) (fun _ _ _ => rfl)
    (fun t => by rw [after_8]; unfold Dat.blockOf block; rw [dats_A]; try rfl) t d).trans
    (by unfold Dat.fetched Dat.blockOf block; rw [dats_A]; try rfl)
/-- At a point, input 9's buffer holds its block. -/
theorem before_9 (c : Dev nD) (t : Fin cfg2.N) (d) : (dats X 0 c).before 9 t d = block X 9 t :=
  ((dats X 0 c).before_in_eq_fetched 9 rfl (fun _ => rfl) (fun _ _ _ => rfl)
    (fun t => by rw [after_9]; unfold Dat.blockOf block; rw [dats_A]; try rfl) t d).trans
    (by unfold Dat.fetched Dat.blockOf block; rw [dats_A]; try rfl)
/-- At a point, input 10's buffer holds its block. -/
theorem before_10 (c : Dev nD) (t : Fin cfg2.N) (d) : (dats X 0 c).before 10 t d = block X 10 t :=
  ((dats X 0 c).before_in_eq_fetched 10 rfl (fun _ => rfl) (fun _ _ _ => rfl)
    (fun t => by rw [after_10]; unfold Dat.blockOf block; rw [dats_A]; try rfl) t d).trans
    (by unfold Dat.fetched Dat.blockOf block; rw [dats_A]; try rfl)
/-- At a point, input 11's buffer holds its block. -/
theorem before_11 (c : Dev nD) (t : Fin cfg2.N) (d) : (dats X 0 c).before 11 t d = block X 11 t :=
  ((dats X 0 c).before_in_eq_fetched 11 rfl (fun _ => rfl) (fun _ _ _ => rfl)
    (fun t => by rw [after_11]; unfold Dat.blockOf block; rw [dats_A]; try rfl) t d).trans
    (by unfold Dat.fetched Dat.blockOf block; rw [dats_A]; try rfl)
/-- At a point, input 12's buffer holds its block. -/
theorem before_12 (c : Dev nD) (t : Fin cfg2.N) (d) : (dats X 0 c).before 12 t d = block X 12 t :=
  ((dats X 0 c).before_in_eq_fetched 12 rfl (fun _ => rfl) (fun _ _ _ => rfl)
    (fun t => by rw [after_12]; unfold Dat.blockOf block; rw [dats_A]; try rfl) t d).trans
    (by unfold Dat.fetched Dat.blockOf block; rw [dats_A]; try rfl)
/-- At a point, input 13's buffer holds its block. -/
theorem before_13 (c : Dev nD) (t : Fin cfg2.N) (d) : (dats X 0 c).before 13 t d = block X 13 t :=
  ((dats X 0 c).before_in_eq_fetched 13 rfl (fun _ => rfl) (fun _ _ _ => rfl)
    (fun t => by rw [after_13]; unfold Dat.blockOf block; rw [dats_A]; try rfl) t d).trans
    (by unfold Dat.fetched Dat.blockOf block; rw [dats_A]; try rfl)

/-- The body at point `t`: from the inputs' blocks, to each output at what `Blocks` says. -/
theorem body_at (c : Dev nD) (t : Fin cfg2.N) :
    iprop((dats X 0 c).Φ t.castSucc ∗ (dats X 0 c).owesAt none t.castSucc
      ∗ (∃ d, owns (c : Thread nD τ) (st2_0 t) fullShare ((dats X 0 c).before 0 t d)) ∗ (∃ d, owns (c : Thread nD τ) (st2_1 t) fullShare ((dats X 0 c).before 1 t d)) ∗ (∃ d, owns (c : Thread nD τ) (st2_2 t) fullShare ((dats X 0 c).before 2 t d)) ∗ (∃ d, owns (c : Thread nD τ) (st2_3 t) fullShare ((dats X 0 c).before 3 t d)) ∗ (∃ d, owns (c : Thread nD τ) (st2_4 t) fullShare ((dats X 0 c).before 4 t d)) ∗ (∃ d, owns (c : Thread nD τ) (st2_5 t) fullShare ((dats X 0 c).before 5 t d)) ∗ (∃ d, owns (c : Thread nD τ) (st2_6 t) fullShare ((dats X 0 c).before 6 t d)) ∗ (∃ d, owns (c : Thread nD τ) (st2_7 t) fullShare ((dats X 0 c).before 7 t d)) ∗ (∃ d, owns (c : Thread nD τ) (st2_8 t) fullShare ((dats X 0 c).before 8 t d)) ∗ (∃ d, owns (c : Thread nD τ) (st2_9 t) fullShare ((dats X 0 c).before 9 t d)) ∗ (∃ d, owns (c : Thread nD τ) (st2_10 t) fullShare ((dats X 0 c).before 10 t d)) ∗ (∃ d, owns (c : Thread nD τ) (st2_11 t) fullShare ((dats X 0 c).before 11 t d)) ∗ (∃ d, owns (c : Thread nD τ) (st2_12 t) fullShare ((dats X 0 c).before 12 t d)) ∗ (∃ d, owns (c : Thread nD τ) (st2_13 t) fullShare ((dats X 0 c).before 13 t d)) ∗ (∃ d, owns (c : Thread nD τ) (st2_14 t) fullShare ((dats X 0 c).before 14 t d)) ∗ (∃ d, owns (c : Thread nD τ) (st2_15 t) fullShare ((dats X 0 c).before 15 t d)))
    ⊢ wp frame (wpE (defs₀ (F := F)) Variants.none c none) Set.univ (bodyAt2 t) fun _ =>
      iprop((dats X 0 c).Φ t.succ ∗ (dats X 0 c).owesAt none t.succ
        ∗ owns (c : Thread nD τ) (st2_0 t) fullShare ((dats X 0 c).after 0 t) ∗ owns (c : Thread nD τ) (st2_1 t) fullShare ((dats X 0 c).after 1 t) ∗ owns (c : Thread nD τ) (st2_2 t) fullShare ((dats X 0 c).after 2 t) ∗ owns (c : Thread nD τ) (st2_3 t) fullShare ((dats X 0 c).after 3 t) ∗ owns (c : Thread nD τ) (st2_4 t) fullShare ((dats X 0 c).after 4 t) ∗ owns (c : Thread nD τ) (st2_5 t) fullShare ((dats X 0 c).after 5 t) ∗ owns (c : Thread nD τ) (st2_6 t) fullShare ((dats X 0 c).after 6 t) ∗ owns (c : Thread nD τ) (st2_7 t) fullShare ((dats X 0 c).after 7 t) ∗ owns (c : Thread nD τ) (st2_8 t) fullShare ((dats X 0 c).after 8 t) ∗ owns (c : Thread nD τ) (st2_9 t) fullShare ((dats X 0 c).after 9 t) ∗ owns (c : Thread nD τ) (st2_10 t) fullShare ((dats X 0 c).after 10 t) ∗ owns (c : Thread nD τ) (st2_11 t) fullShare ((dats X 0 c).after 11 t) ∗ owns (c : Thread nD τ) (st2_12 t) fullShare ((dats X 0 c).after 12 t) ∗ owns (c : Thread nD τ) (st2_13 t) fullShare ((dats X 0 c).after 13 t) ∗ owns (c : Thread nD τ) (st2_14 t) fullShare ((dats X 0 c).after 14 t) ∗ owns (c : Thread nD τ) (st2_15 t) fullShare ((dats X 0 c).after 15 t)) := by
  unfold bodyAt2
  simp only [before_0, before_1, before_2, before_3, before_4, before_5, before_6, before_7, before_8, before_9, before_10, before_11, before_12, before_13]
  rw [show (dats X 0 c).Φ t.succ = (dats X 0 c).Φ t.castSucc from rfl,
    show (dats X 0 c).owesAt none t.succ = (dats X 0 c).owesAt none t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c Set.univ (grid2.coords t) _ _ _ _ _ _ _ _ _ _ _ _ _ _ _ _ _ _ _ _ _ _ _ _ _ _ _ _ _ _ _ _ (blocks X t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t` is the body there. -/
theorem body_row (t : Fin cfg2.N) : defs₀ (F := F) .tc cfg2.body (cfg2.bodyArgs t (cfg2.slots t)) = bodyAt2 t := rfl

/-- The body obligation. -/
theorem body_obl (c : Dev nD) : BodyObligation (dats (F := F) X 0 c) (defs₀ (F := F)) 𝒱₀ none Set.univ := fun t => by
  rw [bigSep_W2, bigSep_W2, body_row]
  exact triple_restated (body_at X c t) rfl .rfl fun _ => .rfl

end Cert.Proof.Gnn

end
-- ==== Proof.Region.lean ====
/-
  The TensorCore region as a segment of @main: the windows' arrays held whole at a valuation, and the valuation it leaves.
-/
module

public import proofs.«01_k».proof.Proof.Tc

@[expose] public section

noncomputable section

namespace Cert.Proof.Gnn

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.Pipeline (Dat BodyObligation BodyObligationLoose)
open Idealize.ShloMosaic.TcCoe

variable {F : FTy → Type}

local notation "𝕄" => MT nD τ sig (HIx 2) (Elt F) ℕ UU ℕ

variable [FloatOps F] (X : Valuation τ sig (Elt F))

/-- What the region leaves in its first result. -/
def arr14 (c : Dev nD) : Buf (Elt F) ((c.tc : Thread nD τ).loc main_v15_0) := (dats X 0 c).arrAt 14 cfg2.N

/-- What the region leaves in its second result. -/
def arr15 (c : Dev nD) : Buf (Elt F) ((c.tc : Thread nD τ).loc main_v15_1) := (dats X 0 c).arrAt 15 cfg2.N

/-- The valuation after the region: its two results written, everything else as it was. -/
def left (c : Dev nD) : Valuation τ sig (Elt F) :=
  Function.update (Function.update X (Proc.devRef .tc main_v15_0) (arr14 X c)) (Proc.devRef .tc main_v15_1) (arr15 X c)

/-- The region leaves every array but its two results. -/
theorem left_ne (c : Dev nD) (b : DevRef τ sig) (h0 : b ≠ Proc.devRef .tc main_v15_0) (h1 : b ≠ Proc.devRef .tc main_v15_1) :
    left X c b = X b := by
  unfold left; rw [Function.update_of_ne h1, Function.update_of_ne h0]

/-- The region's first result. -/
theorem left_14 (c : Dev nD) : left X c (Proc.devRef .tc main_v15_0) = arr14 X c := by
  unfold left
  rw [Function.update_of_ne (by decide), Function.update_self]

/-- The region's second result. -/
theorem left_15 (c : Dev nD) : left X c (Proc.devRef .tc main_v15_1) = arr15 X c := by
  unfold left
  rw [Function.update_self]

/-- The kernel's two outputs are its last two windows. -/
theorem isIn (w : Fin 16) (h14 : w ≠ 14) (h15 : w ≠ 15) : (cfg2.win w).isOut = false := by
  revert w; decide

/-- No input's array is an output's. -/
theorem ref_ne (w : Fin 16) (h14 : w ≠ 14) (h15 : w ≠ 15) :
    Pipeline.arrRef spec2 w ≠ main_v15_0 ∧ Pipeline.arrRef spec2 w ≠ main_v15_1 := by
  revert w; decide

/-- Every window's array after the region is what `left` says. -/
theorem arrAt_left (c : Dev nD) (w : Fin 16) : (dats X 0 c).arrAt w cfg2.N = left X c (Proc.devRef .tc (Pipeline.arrRef spec2 w)) := by
  by_cases h14 : w = 14
  · subst h14; exact (left_14 X c).symm
  by_cases h15 : w = 15
  · subst h15; exact (left_15 X c).symm
  rw [left_ne X c _ (fun h => (ref_ne w h14 h15).1 (Proc.devRef_injective _ h)) (fun h => (ref_ne w h14 h15).2 (Proc.devRef_injective _ h))]
  exact (Dat.arrAt_in (dats X 0 c) w (isIn w h14 h15) _).trans (dats_A X c w)

abbrev adm : (p : Fin 1) → (pcfgs (F := F) p).Adm := fun q => (cfgs q).toPCfg_adm

/-- The region holds each of its arrays in full. -/
theorem share_full (c : Dev nD) (w : Fin 16) : (dats X 0 c).share w = fullShare := (dats X 0 c).share_full (fun _ => rfl) w

/-- The region's arrays, held at a valuation that has them at `G`. -/
theorem arrays_at (c : Dev nD) (G : (w : Fin cfg2.W) → Buf (Elt F) ((cfg2.win w).arr.view.loc (c.tc : Thread nD τ))) (Wc : Valuation τ sig (Elt F))
    (hG : ∀ w, G w = Wc (Proc.devRef .tc (Pipeline.arrRef spec2 w))) :
    ((dats X 0 c).arrays G : sProp 𝕄) = StableHlo.held (c.tc : Thread nD τ) (Pipeline.arrRefs spec2) Wc :=
  Pipeline.arrays_held (pcfgs (F := F)) adm (dats X) 0 launch2.toP c (share_full X c) G Wc hG

/-- What core `c` owes around the region: nothing, having waited at low levels only. -/
def idle (c : Dev nD) : sProp 𝕄 := iprop(∃ W, ⌜(K (F := F)).WBelow (SparseCore.T c) W 16⌝ ∗ owes (SparseCore.T c) 0 W)

/-- The region of @main. -/
def seg : Pipeline.RegionSeg (pcfgs (F := F)) adm (dats X) none (defs₀ (F := F)) 𝒱₀ (K (F := F)).L (K (F := F)).lev 0 where
  win := launch2.win.to₀
  block_pos := launch2.block_pos
  stage_whole := launch2.stage_whole
  K := PEmpty
  osem k := k.elim
  ho := Pipeline.OwnSemFacts.none _
  hbody c := (body_obl X c).loose
  hwaits c := (show _ ⊢ (emp : sProp 𝕄) from by iintro -; iempintro).trans (Pipeline.cellsWaits_of_owed_zero cfgs (dats X) none 0 c fun _ => rfl)
  pre c := iprop(StableHlo.held (c.tc : Thread nD τ) (Pipeline.arrRefs spec2) X ∗ idle c)
  post c := iprop(StableHlo.held (c.tc : Thread nD τ) (Pipeline.arrRefs spec2) (left X c) ∗ idle c)
  X _ := iprop(emp)
  Y _ := iprop(emp)
  Z _ := iprop(emp)
  hentry c := by
    rw [Pipeline.ownSems0_none, Pipeline.prefHeld_of_none _ rfl]
    iintro ⟨⟨Ha, HO⟩, -, -⟩
    imodintro
    isplitl [Ha]
    · iapply (Entails.of_eq (arrays_at X c _ X fun w => dats_A X c w).symm)
      iexact Ha
    isplitr; · iempintro
    isplitl [HO]
    · unfold idle Dat.owesAt Pipeline.owesWithin Dat.bound
      icases HO with ⟨%W, %hW, HO⟩
      iexists W
      isplitr
      · ipureintro; exact fun p hp => Or.inl (hW p hp)
      iexact HO
    isplitr; · iempintro
    iempintro
  hin c := (show _ ⊢ (Pipeline.scopedRest spec2 c : sProp 𝕄) from by
    iintro ⟨-, -, Hr⟩
    iexact Hr)
  hout c := (show (Pipeline.scopedRest spec2 c : sProp 𝕄) ⊢ _ from by
    rw [Pipeline.ownSems0_none]
    iintro Hr
    isplitr; · iempintro
    isplitr; · iempintro
    iexact Hr)
  hexit c := by
    iintro ⟨Ha, HO, -, -⟩
    imodintro
    isplitl [Ha]
    · iapply (Entails.of_eq (arrays_at X c _ (left X c) (arrAt_left X c)))
      iexact Ha
    unfold idle Dat.owesAt Pipeline.owesWithin Dat.bound
    icases HO with ⟨%W, %hW, HO⟩
    iexists W
    isplitr
    · ipureintro
      intro p hp
      rcases hW hp with h | h
      · exact h
      · obtain ⟨w, s, rfl⟩ := h
        exact Nat.zero_le _
    iexact HO

end Cert.Proof.Gnn

end
-- ==== Proof.TileX.lean ====
/-
  One tile of the first gather: it copies its 128 row numbers, gathers those rows of `x`, and copies them out.
-/
module

public import proofs.«01_k».proof.Proof.Setup

@[expose] public section

noncomputable section

namespace Cert.Proof.Gnn

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

namespace TileX

variable (d : Dev nD) (p : grid0.Coords)

/-- The vector subcore that grid point `p` runs on. -/
abbrev thr (d : Dev nD) (p : grid0.Coords) : Thread nD τ := V d ((p 0).castLE hcore0) ((p 1).castLE hsub0)

abbrev idxV : Memref sig .scVector .vmem S128 .i32 := Memref.whole cc0_scratch0
abbrev rowV : Memref sig .scVector .vmem S128x128 .f32 := Memref.whole cc0_scratch1
/-- The tile's row numbers, in the list. -/
abbrev idxT (p : grid0.Coords) : Memref sig .scVector .hbm S128 .i32 :=
  xiV.slice (Rect.unit (s := S4096) (k0_off1 p) S128.size (k0_off1_inb p)) (fun _ => rfl)
abbrev xAll : Memref sig .scVector .hbm S10000x128 .f32 :=
  xV.slice (Rect.unit (s := S10000x128) ![0, 0] S10000x128.size inb_S10000x128_S10000x128_0_0) (fun _ => rfl)

abbrev cell0 (d : Dev nD) (p : grid0.Coords) : GSem nD τ sig := (thr d p, .dma cc0_scoped0.sem)
abbrev cell1 (d : Dev nD) (p : grid0.Coords) : GSem nD τ sig := (thr d p, .dma cc0_scoped1.sem)
abbrev cell2 (d : Dev nD) (p : grid0.Coords) : GSem nD τ sig := (thr d p, .dma cc0_scratch2.sem)

/-- The three semaphores that the tile uses, and the rest of its own. -/
theorem ownSems_split :
    (ownSems0 (thr d p) : sProp 𝕄)
      = iprop(semVal (cell0 d p) 0 ∗ semVal (cell1 d p) 0 ∗ semVal (cell2 d p) 0
          ∗ bigSep ((((ownCells (thr d p)).erase (cell0 d p)).erase (cell1 d p)).erase (cell2 d p)) fun g => semVal g 0) := by
  unfold SparseCore.Cfg.ownSems0
  have m0 : cell0 d p ∈ ownCells (thr d p) := mem_ownCells.mpr ⟨rfl, show (SemLoc.dma cc0_scoped0.sem : SemLoc sig).isScoped .scVector = true by decide⟩
  have m1 : cell1 d p ∈ ownCells (thr d p) := mem_ownCells.mpr ⟨rfl, show (SemLoc.dma cc0_scoped1.sem : SemLoc sig).isScoped .scVector = true by decide⟩
  have m2 : cell2 d p ∈ ownCells (thr d p) := mem_ownCells.mpr ⟨rfl, show (SemLoc.dma cc0_scratch2.sem : SemLoc sig).isScoped .scVector = true by decide⟩
  have n10 : cell1 d p ≠ cell0 d p := fun e => absurd (congrArg Prod.snd e) (show (SemLoc.dma cc0_scoped1.sem : SemLoc sig) ≠ .dma cc0_scoped0.sem by decide)
  have n20 : cell2 d p ≠ cell0 d p := fun e => absurd (congrArg Prod.snd e) (show (SemLoc.dma cc0_scratch2.sem : SemLoc sig) ≠ .dma cc0_scoped0.sem by decide)
  have n21 : cell2 d p ≠ cell1 d p := fun e => absurd (congrArg Prod.snd e) (show (SemLoc.dma cc0_scratch2.sem : SemLoc sig) ≠ .dma cc0_scoped1.sem by decide)
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩)]

/-- The tile's two scratch buffers, and the rest of its own. -/
theorem ownBufs_split :
    (ownBufs (thr d p) : sProp 𝕄)
      = iprop((∃ f, (thr d p).loc cc0_scratch0 ↦{fullShare} f) ∗ (∃ f, (thr d p).loc cc0_scratch1 ↦{fullShare} f)
          ∗ bigSep (((ownRefs (τ := τ) (thr d p).2).erase ((thr d p).2.devRef cc0_scratch0)).erase ((thr d p).2.devRef cc0_scratch1))
              fun b => iprop(∃ f, ((d, b) : Loc nD τ sig) ↦{fullShare} f)) := by
  unfold SparseCore.Cfg.ownBufs
  have n : (thr d p).2.devRef cc0_scratch1 ≠ (thr d p).2.devRef cc0_scratch0 :=
    fun e => absurd (Proc.devRef_injective _ e) (show (cc0_scratch1 : Ref sig .scVector) ≠ cc0_scratch0 by decide)
  refine (SparseCore.bigSep_erase' (SparseCore.Cfg.mem_ownRefs_of_owner (p := (thr d p).2) (b := (thr d p).2.devRef cc0_scratch0) rfl)).trans ?_
  rw [SparseCore.bigSep_erase' (Finset.mem_erase.mpr ⟨n, SparseCore.Cfg.mem_ownRefs_of_owner (p := (thr d p).2) (b := (thr d p).2.devRef cc0_scratch1) rfl⟩)]

variable [FloatOps F]

/-- The fetched row numbers are the list's, at the tile's entries. -/
theorem fetched (idx : Buf (Elt F) (xiLoc d)) (fs : Buf (Elt F) ((thr d p).loc cc0_scratch0)) (x : S128.Idx) :
    idxV.view.read (Elt F) (View.write (Elt F) idxV.view fs ((idxT p).view.read (Elt F) idx) Finset.univ) x = idx ((idxT p).view.emb x) := by
  rw [View.write_whole_univ]
  simp only [Memref.view_whole, View.read_whole]
  exact (View.read_apply _ _).trans (cast_eq _ _)

/-- What the tile copies out: at each of its rows, the row of `x` that the list names there. -/
theorem landed (x : Buf (Elt F) (xLoc d)) (idx : Buf (Elt F) (xiLoc d)) (hidx : ∀ j : S4096.Idx, (idx j).toNat < 10000)
    (o : Buf (Elt F) (xoLoc d)) (fs : Buf (Elt F) ((thr d p).loc cc0_scratch0)) (fr : Buf (Elt F) ((thr d p).loc cc0_scratch1))
    (hin : ∀ x, (idxV.view.read (Elt F) (View.write (Elt F) idxV.view fs ((idxT p).view.read (Elt F) idx) Finset.univ) x).toNat < 10000)
    (i : S4096x128.Idx) (hi : i ∈ (xoT p).view.set) :
    (xoT p).view.writes (Elt F) o [⟨Rect.whole S128x128, rowV.view.read (Elt F) (rowV.view.writes (Elt F) fr
      [⟨Rect.whole S128x128, SparseCore.gatherPayload gathers_S10000x128_S128x128 (xAll.view.read (Elt F) x)
        (SparseCore.rows (idxV.view.read (Elt F) (View.write (Elt F) idxV.view fs ((idxT p).view.read (Elt F) idx) Finset.univ)) rfl hin)⟩])⟩] i
      = takeX x idx i := by
  obtain ⟨y, -, rfl⟩ := Finset.mem_map.mp hi
  refine Eq.trans (show _ = (xoT p).view.read (Elt F) _ y from ((View.read_apply _ _).trans (cast_eq _ _)).symm) ?_
  refine (congrFun (read_written _ _ _) y).trans ((congrFun (read_written rowV.view fr _) y).trans ?_)
  show xAll.view.read (Elt F) x _ = _
  refine ((View.read_apply _ _).trans (cast_eq _ _)).trans ?_
  unfold takeX
  congr 1
  funext a
  apply Fin.ext
  match a with
  | ⟨0, _⟩ =>
    refine Eq.trans ?_ (rowOf_val (by decide) (hidx _)).symm
    show 0 + 1 * (BitVec.toNat (idxV.view.read (Elt F) _ _)) = _
    rw [fetched, Nat.zero_add, Nat.one_mul]
    congr 2
    funext b
    apply Fin.ext
    match b with
    | ⟨0, _⟩ =>
      show k0_off1 p 0 + 1 * (S128.rowMajor.symm _ 0).val = k0_off2 p 0 + 1 * (y 0).val
      rw [k0_off1_eq, k0_off2_eq, Routing.symm1 (N := 128)]
      rfl
  | ⟨1, _⟩ =>
    show 0 + 1 * (y 1).val = k0_off2 p 1 + 1 * (y 1).val
    rw [k0_off2_eq]; rfl

set_option maxHeartbeats 4000000 in
/-- The tile's run: its rows of the gathered array end at the rows of `x` that the list names. -/
theorem run (hF : (K (F := F)).Facts) (x : Buf (Elt F) (xLoc d)) (idx : Buf (Elt F) (xiLoc d)) (o : Buf (Elt F) (xoLoc d))
    (hidx : ∀ j : S4096.Idx, (idx j).toNat < 10000) (q q' : PosShare TreeShare)
    (O : CellTallies nD τ sig (HIx 2)) (W : Waits sig (HIx 2)) (hO : ∀ g, O g none = 0) :
    iprop(levAts (K (F := F)).L (K (F := F)).lev
        ∗ ((xLoc d ↦{q} x : sProp 𝕄) ∗ (xiLoc d ↦{q'} idx) ∗ xoLoc d ↦[(xoT p).view.set]{fullShare} o)
        ∗ scopedBufs (thr d p) ∗ scopedSems0 (thr d p) ∗ owes (thr d p) O W)
      ⊢ wp frame (wpE (defs₀ (F := F)) 𝒱₀ (thr d p) none) Set.univ
          (cc0__sc_gather_x_body p xV (Memref.isWhole_whole _) xiV (Memref.isWhole_whole _) xoV (Memref.isWhole_whole _)
            idxV (Memref.isWhole_whole _) rowV (Memref.isWhole_whole _) cc0_scratch2 cc0_scoped0 cc0_scoped1)
          fun _ => iprop(((xLoc d ↦{q} x : sProp 𝕄) ∗ (xiLoc d ↦{q'} idx) ∗ xoLoc d ↦[(xoT p).view.set]{fullShare} (takeX x idx : Buf (Elt F) (xoLoc d)))
            ∗ scopedBufs (thr d p) ∗ scopedSems0 (thr d p)
            ∗ ∃ W', ⌜∀ p ∈ W', p ∈ W ∨ p.2 = none⌝ ∗ owes (thr d p) O W') := by
  simp only [cc0__sc_gather_x_body_eq_skeleton]; unfold cc0__sc_gather_x_body_skel
  rw [(K (F := F)).scopedBufs_V hF d _ _, SparseCore.Cfg.scopedSems0_V (Val := Elt F) d _ _]
  rw [ownSems_split (F := F) d p, ownBufs_split (F := F) d p]
  iintro ⟨#Hlv, ⟨Hx, Hi, Ho⟩, ⟨⟨%fs, Hs⟩, ⟨%fr, Hr⟩, Hbufs⟩, ⟨Hc0, Hc1, Hc2, Hsems⟩, HO⟩
  ihave Hmw := (show levAts (K (F := F)).L (K (F := F)).lev ⊢ Transfers.MayWaits (thr d p) (default : HIx 2) O from
    (K (F := F)).mayWaits_none (thr := thr d p) hO) $$ Hlv
  ihave Hi' := (Entails.of_eq (show (xiLoc d ↦{q'} idx : sProp 𝕄) = (xiV.view.loc (thr d p) ↦{q'} idx) from rfl)) $$ Hi
  ihave Ho' := (Entails.of_eq (show (xoLoc d ↦[(xoT p).view.set]{fullShare} o : sProp 𝕄) = ((xoT p).view.loc (thr d p) ↦[(xoT p).view.set]{fullShare} o) from rfl)) $$ Ho
  ihave Hx' := (Entails.of_eq (show (xLoc d ↦{q} x : sProp 𝕄) = (xV.view.loc (thr d p) ↦{q} x) from rfl)) $$ Hx
  ihave Hs' := (Entails.of_eq (show ((thr d p).loc cc0_scratch0 ↦{fullShare} fs : sProp 𝕄) = (idxV.view.loc (thr d p) ↦{fullShare} fs) from rfl)) $$ Hs
  ihave Hr' := (Entails.of_eq (show ((thr d p).loc cc0_scratch1 ↦{fullShare} fr : sProp 𝕄) = (rowV.view.loc (thr d p) ↦{fullShare} fr) from rfl)) $$ Hr
  sl_exec
  have hin : ∀ x, (idxV.view.read (Elt F) (View.write (Elt F) idxV.view fs (run.sl.dma0 d p idx) Finset.univ) x).toNat < 10000 :=
    fun x => (congrArg BitVec.toNat (fetched d p idx fs x)).trans_lt (hidx _)
  sl_exec
  sl_step
  isplitl [Hi' Hx' Ho']
  · isplitl [Hx']; · iexact Hx'
    isplitl [Hi']; · iexact Hi'
    iapply (Entails.of_eq (pointsTo_congr (ℓ := xoLoc d) (q := fullShare) (landed d p x idx hidx o fs fr hin)))
    iexact Ho'
  isplitl [Hs' Hr' Hbufs]
  · isplitl [Hs']; · iexists _; iexact Hs'
    isplitl [Hr']; · iexists _; iexact Hr'
    iexact Hbufs
  isplitl [Hc0 Hc1 Hc2 Hsems]
  · isplitl [Hc0]; · iexact Hc0
    isplitl [Hc1]; · iexact Hc1
    isplitl [Hc2]; · iexact Hc2
    iexact Hsems
  iexists _; isplitr
  swap; · iexact HO
  ipureintro; intro g hg
  rcases Finset.mem_insert.mp hg with hg | hg; · exact .inr (hg ▸ rfl)
  rcases Finset.mem_insert.mp hg with hg | hg; · exact .inr (hg ▸ rfl)
  rcases Finset.mem_insert.mp hg with hg | hg; · exact .inr (hg ▸ rfl)
  exact .inl hg

end TileX

end Cert.Proof.Gnn

end
-- ==== Proof.TileE.lean ====
/-
  One tile of the second gather, in two rounds: each copies 128 row numbers, gathers those rows of `e`, and copies them out.
-/
module

public import proofs.«01_k».proof.Proof.Setup

@[expose] public section

noncomputable section

namespace Cert.Proof.Gnn

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

namespace TileE

variable (d : Dev nD) (p : grid1.Coords)

/-- The vector subcore that grid point `p` runs on. -/
abbrev thr (d : Dev nD) (p : grid1.Coords) : Thread nD τ := V d ((p 0).castLE hcore1) ((p 1).castLE hsub1)

abbrev idxV : Memref sig .scVector .vmem S128 .i32 := Memref.whole cc1_scratch0
abbrev rowV : Memref sig .scVector .vmem S128x16 .f32 := Memref.whole cc1_scratch1
/-- A round's row numbers, in the list: round 0, round 1. -/
abbrev idxT0 (p : grid1.Coords) : Memref sig .scVector .hbm S128 .i32 :=
  eiV.slice (Rect.unit (s := S8192) (k1_off1 p 0#32) S128.size (k1_off1_inb p 0)) (fun _ => rfl)
abbrev idxT1 (p : grid1.Coords) : Memref sig .scVector .hbm S128 .i32 :=
  eiV.slice (Rect.unit (s := S8192) (k1_off1 p 128#32) S128.size (k1_off1_inb p 1)) (fun _ => rfl)
abbrev eAll : Memref sig .scVector .hbm S160000x16 .f32 :=
  eV.slice (Rect.unit (s := S160000x16) ![0, 0] S160000x16.size inb_S160000x16_S160000x16_0_0) (fun _ => rfl)

abbrev cell0 (d : Dev nD) (p : grid1.Coords) : GSem nD τ sig := (thr d p, .dma cc1_scoped0.sem)
abbrev cell1 (d : Dev nD) (p : grid1.Coords) : GSem nD τ sig := (thr d p, .dma cc1_scoped1.sem)
abbrev cell2 (d : Dev nD) (p : grid1.Coords) : GSem nD τ sig := (thr d p, .dma cc1_scoped2.sem)
abbrev cell3 (d : Dev nD) (p : grid1.Coords) : GSem nD τ sig := (thr d p, .dma cc1_scoped3.sem)
abbrev cell4 (d : Dev nD) (p : grid1.Coords) : GSem nD τ sig := (thr d p, .dma cc1_scratch2.sem)

/-- The five semaphores that the tile uses, and the rest of its own. -/
theorem ownSems_split :
    (ownSems0 (thr d p) : sProp 𝕄)
      = iprop(semVal (cell0 d p) 0 ∗ semVal (cell1 d p) 0 ∗ semVal (cell2 d p) 0 ∗ semVal (cell3 d p) 0 ∗ semVal (cell4 d p) 0
          ∗ bigSep ((((((ownCells (thr d p)).erase (cell0 d p)).erase (cell1 d p)).erase (cell2 d p)).erase (cell3 d p)).erase (cell4 d p)) fun g => semVal g 0) := by
  unfold SparseCore.Cfg.ownSems0
  have m0 : cell0 d p ∈ ownCells (thr d p) := mem_ownCells.mpr ⟨rfl, show (SemLoc.dma cc1_scoped0.sem : SemLoc sig).isScoped .scVector = true by decide⟩
  have m1 : cell1 d p ∈ ownCells (thr d p) := mem_ownCells.mpr ⟨rfl, show (SemLoc.dma cc1_scoped1.sem : SemLoc sig).isScoped .scVector = true by decide⟩
  have m2 : cell2 d p ∈ ownCells (thr d p) := mem_ownCells.mpr ⟨rfl, show (SemLoc.dma cc1_scoped2.sem : SemLoc sig).isScoped .scVector = true by decide⟩
  have m3 : cell3 d p ∈ ownCells (thr d p) := mem_ownCells.mpr ⟨rfl, show (SemLoc.dma cc1_scoped3.sem : SemLoc sig).isScoped .scVector = true by decide⟩
  have m4 : cell4 d p ∈ ownCells (thr d p) := mem_ownCells.mpr ⟨rfl, show (SemLoc.dma cc1_scratch2.sem : SemLoc sig).isScoped .scVector = true by decide⟩
  have ne : ∀ {g h : SemLoc sig}, g ≠ h → ((thr d p, g) : GSem nD τ sig) ≠ (thr d p, h) := fun hn e => hn (congrArg Prod.snd e)
  rw [SparseCore.bigSep_erase' m0,
    SparseCore.bigSep_erase' (Finset.mem_erase.mpr ⟨ne (by decide), m1⟩),
    SparseCore.bigSep_erase' (Finset.mem_erase.mpr ⟨ne (by decide), (Finset.mem_erase.mpr ⟨ne (by decide), m2⟩)⟩),
    SparseCore.bigSep_erase' (Finset.mem_erase.mpr ⟨ne (by decide), (Finset.mem_erase.mpr ⟨ne (by decide), (Finset.mem_erase.mpr ⟨ne (by decide), m3⟩)⟩)⟩),
    SparseCore.bigSep_erase' (Finset.mem_erase.mpr ⟨ne (by decide), (Finset.mem_erase.mpr ⟨ne (by decide), (Finset.mem_erase.mpr ⟨ne (by decide), (Finset.mem_erase.mpr ⟨ne (by decide), m4⟩)⟩)⟩)⟩)]

/-- The tile's two scratch buffers, and the rest of its own. -/
theorem ownBufs_split :
    (ownBufs (thr d p) : sProp 𝕄)
      = iprop((∃ f, (thr d p).loc cc1_scratch0 ↦{fullShare} f) ∗ (∃ f, (thr d p).loc cc1_scratch1 ↦{fullShare} f)
          ∗ bigSep (((ownRefs (τ := τ) (thr d p).2).erase ((thr d p).2.devRef cc1_scratch0)).erase ((thr d p).2.devRef cc1_scratch1))
              fun b => iprop(∃ f, ((d, b) : Loc nD τ sig) ↦{fullShare} f)) := by
  unfold SparseCore.Cfg.ownBufs
  have n : (thr d p).2.devRef cc1_scratch1 ≠ (thr d p).2.devRef cc1_scratch0 :=
    fun e => absurd (Proc.devRef_injective _ e) (show (cc1_scratch1 : Ref sig .scVector) ≠ cc1_scratch0 by decide)
  refine (SparseCore.bigSep_erase' (SparseCore.Cfg.mem_ownRefs_of_owner (p := (thr d p).2) (b := (thr d p).2.devRef cc1_scratch0) rfl)).trans ?_
  rw [SparseCore.bigSep_erase' (Finset.mem_erase.mpr ⟨n, SparseCore.Cfg.mem_ownRefs_of_owner (p := (thr d p).2) (b := (thr d p).2.devRef cc1_scratch1) rfl⟩)]

variable [FloatOps F]

/-- The list's 128 entries from `n` on, and the gathered array's 128 rows from `n` on. -/
abbrev idxAt (off : Fin 1 → ℕ) (h : ∀ a, off a + S128.size a ≤ S8192.size a) : Memref sig .scVector .hbm S128 .i32 :=
  eiV.slice (Rect.unit (s := S8192) off S128.size h) (fun _ => rfl)
abbrev outAt (off : Fin 2 → ℕ) (h : ∀ a, off a + S128x16.size a ≤ S8192x16.size a) : Memref sig .scVector .hbm S128x16 .f32 :=
  eoV.slice (Rect.unit (s := S8192x16) off S128x16.size h) (fun _ => rfl)

/-- The fetched row numbers are the list's, at the round's entries. -/
theorem fetched {off : Fin 1 → ℕ} (h : ∀ a, off a + S128.size a ≤ S8192.size a) (idx : Buf (Elt F) (eiLoc d))
    (fs : Buf (Elt F) ((thr d p).loc cc1_scratch0)) (x : S128.Idx) :
    idxV.view.read (Elt F) (View.write (Elt F) idxV.view fs ((idxAt off h).view.read (Elt F) idx) Finset.univ) x = idx ((idxAt off h).view.emb x) := by
  rw [View.write_whole_univ]
  simp only [Memref.view_whole, View.read_whole]
  exact (View.read_apply _ _).trans (cast_eq _ _)

/-- What a round copies out: at each of its rows, the row of `e` that the list names there. -/
theorem landed {off : Fin 1 → ℕ} (h : ∀ a, off a + S128.size a ≤ S8192.size a) {off' : Fin 2 → ℕ} (h' : ∀ a, off' a + S128x16.size a ≤ S8192x16.size a)
    (h0 : off 0 = off' 0) (h1 : off' 1 = 0)
    (x : Buf (Elt F) (eLoc d)) (idx : Buf (Elt F) (eiLoc d)) (hidx : ∀ j : S8192.Idx, (idx j).toNat < 160000)
    (o : Buf (Elt F) (eoLoc d)) (fs : Buf (Elt F) ((thr d p).loc cc1_scratch0)) (w : S128x16.Idx → Elt F .f32)
    (hin : ∀ x, (idxV.view.read (Elt F) (View.write (Elt F) idxV.view fs ((idxAt off h).view.read (Elt F) idx) Finset.univ) x).toNat < 160000)
    (hw : w = SparseCore.gatherPayload gathers_S160000x16_S128x16 (eAll.view.read (Elt F) x)
        (SparseCore.rows (idxV.view.read (Elt F) (View.write (Elt F) idxV.view fs ((idxAt off h).view.read (Elt F) idx) Finset.univ)) rfl hin))
    (i : S8192x16.Idx) (hi : i ∈ (outAt off' h').view.set) :
    (outAt off' h').view.writes (Elt F) o [⟨Rect.whole S128x16, w⟩] i = takeE x idx i := by
  obtain ⟨y, -, rfl⟩ := Finset.mem_map.mp hi
  refine Eq.trans (show _ = (outAt off' h').view.read (Elt F) _ y from ((View.read_apply _ _).trans (cast_eq _ _)).symm) ?_
  refine (congrFun (read_written _ _ _) y).trans ?_
  subst hw
  show eAll.view.read (Elt F) x _ = _
  refine ((View.read_apply _ _).trans (cast_eq _ _)).trans ?_
  unfold takeE
  congr 1
  funext a
  apply Fin.ext
  match a with
  | ⟨0, _⟩ =>
    refine Eq.trans ?_ (rowOf_val (by decide) (hidx _)).symm
    show 0 + 1 * (BitVec.toNat (idxV.view.read (Elt F) _ _)) = _
    rw [fetched, Nat.zero_add, Nat.one_mul]
    congr 2
    funext b
    apply Fin.ext
    match b with
    | ⟨0, _⟩ =>
      show off 0 + 1 * (S128.rowMajor.symm _ 0).val = off' 0 + 1 * (y 0).val
      rw [h0, Routing.symm1 (N := 128)]
      rfl
  | ⟨1, _⟩ =>
    show 0 + 1 * (y 1).val = off' 1 + 1 * (y 1).val
    rw [h1]

set_option maxHeartbeats 4000000 in
/-- The tile's run: its rows of the gathered array end at the rows of `x` that the list names. -/
theorem run (hF : (K (F := F)).Facts) (x : Buf (Elt F) (eLoc d)) (idx : Buf (Elt F) (eiLoc d)) (o : Buf (Elt F) (eoLoc d))
    (hidx : ∀ j : S8192.Idx, (idx j).toNat < 160000) (q q' : PosShare TreeShare)
    (O : CellTallies nD τ sig (HIx 2)) (W : Waits sig (HIx 2)) (hO : ∀ g, O g none = 0) :
    iprop(levAts (K (F := F)).L (K (F := F)).lev
        ∗ ((eLoc d ↦{q} x : sProp 𝕄) ∗ (eiLoc d ↦{q'} idx) ∗ (eoLoc d ↦[(eoT0 p).view.set]{fullShare} o) ∗ eoLoc d ↦[(eoT1 p).view.set]{fullShare} o)
        ∗ scopedBufs (thr d p) ∗ scopedSems0 (thr d p) ∗ owes (thr d p) O W)
      ⊢ wp frame (wpE (defs₀ (F := F)) 𝒱₀ (thr d p) none) Set.univ
          (cc1__sc_gather_e_body p eV (Memref.isWhole_whole _) eiV (Memref.isWhole_whole _) eoV (Memref.isWhole_whole _)
            idxV (Memref.isWhole_whole _) rowV (Memref.isWhole_whole _) cc1_scratch2 cc1_scoped0 cc1_scoped1 cc1_scoped2 cc1_scoped3)
          fun _ => iprop(((eLoc d ↦{q} x : sProp 𝕄) ∗ (eiLoc d ↦{q'} idx) ∗ (eoLoc d ↦[(eoT0 p).view.set]{fullShare} (takeE x idx : Buf (Elt F) (eoLoc d)))
              ∗ eoLoc d ↦[(eoT1 p).view.set]{fullShare} (takeE x idx : Buf (Elt F) (eoLoc d)))
            ∗ scopedBufs (thr d p) ∗ scopedSems0 (thr d p)
            ∗ ∃ W', ⌜∀ p ∈ W', p ∈ W ∨ p.2 = none⌝ ∗ owes (thr d p) O W') := by
  simp only [cc1__sc_gather_e_body_eq_skeleton]; unfold cc1__sc_gather_e_body_skel
  simp only [k1_part1_eq_skeleton]; unfold k1_part1_skel
  rw [(K (F := F)).scopedBufs_V hF d _ _, SparseCore.Cfg.scopedSems0_V (Val := Elt F) d _ _]
  rw [ownSems_split (F := F) d p, ownBufs_split (F := F) d p]
  iintro ⟨#Hlv, ⟨Hx, Hi, Ho, Hp⟩, ⟨⟨%fs, Hs⟩, ⟨%fr, Hr⟩, Hbufs⟩, ⟨Hc0, Hc1, Hc2, Hc3, Hc4, Hsems⟩, HO⟩
  ihave Hmw := (show levAts (K (F := F)).L (K (F := F)).lev ⊢ Transfers.MayWaits (thr d p) (default : HIx 2) O from
    (K (F := F)).mayWaits_none (thr := thr d p) hO) $$ Hlv
  ihave Hi' := (Entails.of_eq (show (eiLoc d ↦{q'} idx : sProp 𝕄) = (eiV.view.loc (thr d p) ↦{q'} idx) from rfl)) $$ Hi
  ihave Ho' := (Entails.of_eq (show (eoLoc d ↦[(eoT0 p).view.set]{fullShare} o : sProp 𝕄) = ((eoT0 p).view.loc (thr d p) ↦[(eoT0 p).view.set]{fullShare} o) from rfl)) $$ Ho
  ihave Hp' := (Entails.of_eq (show (eoLoc d ↦[(eoT1 p).view.set]{fullShare} o : sProp 𝕄) = ((eoT1 p).view.loc (thr d p) ↦[(eoT1 p).view.set]{fullShare} o) from rfl)) $$ Hp
  ihave Hx' := (Entails.of_eq (show (eLoc d ↦{q} x : sProp 𝕄) = (eV.view.loc (thr d p) ↦{q} x) from rfl)) $$ Hx
  ihave Hs' := (Entails.of_eq (show ((thr d p).loc cc1_scratch0 ↦{fullShare} fs : sProp 𝕄) = (idxV.view.loc (thr d p) ↦{fullShare} fs) from rfl)) $$ Hs
  ihave Hr' := (Entails.of_eq (show ((thr d p).loc cc1_scratch1 ↦{fullShare} fr : sProp 𝕄) = (rowV.view.loc (thr d p) ↦{fullShare} fr) from rfl)) $$ Hr
  sl_exec
  have hin : ∀ x, (idxV.view.read (Elt F) (View.write (Elt F) idxV.view fs (run.sl.dma0 d p idx) Finset.univ) x).toNat < 160000 :=
    fun x => (congrArg BitVec.toNat (fetched d p (k1_off1_inb p 0) idx fs x)).trans_lt (hidx _)
  sl_exec
  have hin' : ∀ x, (idxV.view.read (Elt F) (View.write (Elt F) idxV.view
      (View.write (Elt F) idxV.view fs (run.sl.dma0 d p idx) Finset.univ) (run.sl.dma0_2 d p idx) Finset.univ) x).toNat < 160000 :=
    fun x => (congrArg BitVec.toNat (fetched d p (k1_off1_inb p 1) idx _ x)).trans_lt (hidx _)
  sl_exec
  sl_step
  isplitl [Hi' Hx' Ho' Hp']
  · isplitl [Hx']; · iexact Hx'
    isplitl [Hi']; · iexact Hi'
    isplitl [Ho']
    · iapply (Entails.of_eq (pointsTo_congr (ℓ := eoLoc d) (q := fullShare) (landed d p (k1_off1_inb p 0) (k1_off2_inb p 0)
        ((congrFun (k1_off1_eq p 0) 0).trans (congrFun (k1_off2_eq p 0) 0).symm) (congrFun (k1_off2_eq p 0) 1) x idx hidx o fs _ hin
        (read_writes_whole rowV.view fr _ []))))
      iexact Ho'
    · iapply (Entails.of_eq (pointsTo_congr (ℓ := eoLoc d) (q := fullShare) (landed d p (k1_off1_inb p 1) (k1_off2_inb p 1)
        ((congrFun (k1_off1_eq p 1) 0).trans (congrFun (k1_off2_eq p 1) 0).symm) (congrFun (k1_off2_eq p 1) 1) x idx hidx o _ _ hin'
        (read_writes_whole rowV.view _ _ _))))
      iexact Hp'
  isplitl [Hs' Hr' Hbufs]
  · isplitl [Hs']; · iexists _; iexact Hs'
    isplitl [Hr']; · iexists _; iexact Hr'
    iexact Hbufs
  isplitl [Hc0 Hc1 Hc2 Hc3 Hc4 Hsems]
  · isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro; intro g hg
  repeat (rcases Finset.mem_insert.mp hg with hg | hg; · exact .inr (hg ▸ rfl))
  exact .inl hg

end TileE

end Cert.Proof.Gnn

end
-- ==== Proof.Split.lean ====
/-
  What the launch hands the tiles of the two gathers and takes back: read tokens of the table and of the list of rows, and
  the tile's own rows of the gathered array; and the whole arrays as those pieces.
-/
module

public import proofs.«01_k».proof.Proof.TileX
public import proofs.«01_k».proof.Proof.TileE

@[expose] public section

noncomputable section

namespace Cert.Proof.Gnn

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Families over the 32 tiles -/

/-- The tiles, by number. -/
def tiles : Fin 2 × Fin 16 ≃ Fin 32 := (Equiv.prodComm _ _).trans finProdFinEquiv

/-- Tile `i` of core `c`, in the count of all 32, is number `tileNo c i`. -/
theorem tiles_eq (c : Fin 2) (i : Fin 16) : tiles (c, i) = tileNo c i := Fin.ext (by simp [tiles, tileNo, finProdFinEquiv]; omega)

/-- A family over the pairs of core and subcore, core by core. -/
theorem bigSep_pairs (Φ : Fin 2 × Fin 16 → sProp 𝕄) :
    bigSep Finset.univ Φ = bigSep Finset.univ fun c : Fin 2 => bigSep Finset.univ fun i : Fin 16 => Φ (c, i) := by
  rw [← Finset.univ_product_univ]
  exact SparseCore.bigSep_product _ _ _

/-- A family over the tiles' numbers, core by core. -/
theorem bigSep_tiles (Φ : Fin 32 → sProp 𝕄) :
    bigSep Finset.univ Φ = bigSep Finset.univ fun c : Fin 2 => bigSep Finset.univ fun i : Fin 16 => Φ (tileNo c i) := by
  rw [bigSep_univ_equiv tiles Φ, bigSep_pairs]
  exact bigSep_congr fun c _ => bigSep_congr fun i _ => by rw [tiles_eq]

/-- An array held whole is what the main thread keeps of it and a read token for every tile. -/
theorem tokens (ℓ : Loc nD τ sig) (f : Buf (Elt F) ℓ) :
    (ℓ ↦{fullShare} f : sProp 𝕄) ⊣⊢ iprop((ℓ ↦{Transfers.shareDrop fullShare 32} f)
      ∗ bigSep Finset.univ fun c : Fin 2 => bigSep Finset.univ fun i : Fin 16 => ℓ ↦{tileQ c i} f) := by
  rw [← bigSep_tiles (fun n : Fin 32 => (ℓ ↦{Transfers.shareTok fullShare 32 n} f : sProp 𝕄))]
  exact Transfers.pointsTo_toks fullShare 32

/-! ## The gathered arrays as the tiles' rows -/

/-- The rows of the first gathered array that tile `(c, i)` writes: 128 from 256 i + 128 c on. -/
theorem mem_xoT (c : Fin 2) (i : Fin 16) (j : S4096x128.Idx) :
    j ∈ (xoT (pt0 c i)).view.set ↔ 256 * i.val + 128 * c.val ≤ (j 0).val ∧ (j 0).val < 256 * i.val + 128 * c.val + 128 := by
  have e : (xoT (pt0 c i)).view.set = (Rect.unit (s := S4096x128) (k0_off2 (pt0 c i)) S128x128.size (k0_off2_inb (pt0 c i))).set := by
    show ((View.whole (main_v1_scv : Ref sig .scVector)).slice _).set = _
    rw [View.set_slice]; exact Finset.map_refl
  rw [e, Rect.mem_set_unit]
  simp only [k0_off2_eq]
  constructor
  · intro h; exact h 0
  · intro h a
    match a with
    | 0 => exact h
    | 1 => exact ⟨Nat.zero_le _, by have := (j 1).isLt; exact (Nat.zero_add _).symm ▸ this⟩

/-- Row block `r` of tile `(c, i)` in the second gathered array. -/
theorem mem_eo (c : Fin 2) (i : Fin 16) (r : Fin 2) (j : S8192x16.Idx) :
    j ∈ (Rect.unit (s := S8192x16) (k1_off2 (pt1 c i) (BitVec.ofNat 32 (128 * r.val))) S128x16.size (k1_off2_inb (pt1 c i) r)).set
      ↔ 512 * i.val + 256 * c.val + 128 * r.val ≤ (j 0).val ∧ (j 0).val < 512 * i.val + 256 * c.val + 128 * r.val + 128 := by
  rw [Rect.mem_set_unit]
  simp only [k1_off2_eq]
  constructor
  · intro h; exact h 0
  · intro h a
    match a with
    | 0 => exact h
    | 1 => exact ⟨Nat.zero_le _, by have := (j 1).isLt; exact (Nat.zero_add _).symm ▸ this⟩

/-- The rows of the second gathered array that tile `(c, i)` writes first: 128 from 512 i + 256 c on. -/
theorem mem_eoT0 (c : Fin 2) (i : Fin 16) (j : S8192x16.Idx) :
    j ∈ (eoT0 (pt1 c i)).view.set ↔ 512 * i.val + 256 * c.val ≤ (j 0).val ∧ (j 0).val < 512 * i.val + 256 * c.val + 128 := by
  have e : (eoT0 (pt1 c i)).view.set = (Rect.unit (s := S8192x16) (k1_off2 (pt1 c i) 0#32) S128x16.size (k1_off2_inb (pt1 c i) 0)).set := by
    show ((View.whole (main_v2_scv : Ref sig .scVector)).slice _).set = _
    rw [View.set_slice]; exact Finset.map_refl
  rw [e]; exact mem_eo c i 0 j

/-- The rows of the second gathered array that tile `(c, i)` writes second: the 128 after those. -/
theorem mem_eoT1 (c : Fin 2) (i : Fin 16) (j : S8192x16.Idx) :
    j ∈ (eoT1 (pt1 c i)).view.set ↔ 512 * i.val + 256 * c.val + 128 ≤ (j 0).val ∧ (j 0).val < 512 * i.val + 256 * c.val + 128 + 128 := by
  have e : (eoT1 (pt1 c i)).view.set = (Rect.unit (s := S8192x16) (k1_off2 (pt1 c i) 128#32) S128x16.size (k1_off2_inb (pt1 c i) 1)).set := by
    show ((View.whole (main_v2_scv : Ref sig .scVector)).slice _).set = _
    rw [View.set_slice]; exact Finset.map_refl
  rw [e]; exact mem_eo c i 1 j

/-- The first gathered array is its 32 tiles' rows. -/
theorem rows_x (d : Dev nD) (f : Buf (Elt F) (xoLoc d)) :
    (xoLoc d ↦{fullShare} f : sProp 𝕄)
      = bigSep Finset.univ fun c : Fin 2 => bigSep Finset.univ fun i : Fin 16 => xoLoc d ↦[(xoT (pt0 c i)).view.set]{fullShare} f := by
  rw [← bigSep_pairs (fun p : Fin 2 × Fin 16 => (xoLoc d ↦[(xoT (pt0 p.1 p.2)).view.set]{fullShare} f : sProp 𝕄)),
    ← pointsTo_biUnion Finset.univ (ℓ := xoLoc d) (fun p : Fin 2 × Fin 16 => (xoT (pt0 p.1 p.2)).view.set)]
  · refine (congrArg (fun S => (xoLoc d ↦[S]{fullShare} f : sProp 𝕄)) (Finset.eq_univ_iff_forall.mpr fun j => ?_)).symm
    have hj : ((j : S4096x128.Idx) 0).val < 4096 := (j 0).isLt
    refine Finset.mem_biUnion.mpr ⟨(⟨((j : S4096x128.Idx) 0).val / 128 % 2, by omega⟩, ⟨((j : S4096x128.Idx) 0).val / 256, by omega⟩), Finset.mem_univ _, ?_⟩
    refine (mem_xoT _ _ j).mpr ?_
    constructor <;> dsimp only <;> omega
  · intro p _ p' _ hne
    refine Finset.disjoint_left.mpr fun j h h' => hne ?_
    have h := (mem_xoT _ _ j).mp h
    have h' := (mem_xoT _ _ j).mp h'
    exact Prod.ext (Fin.ext (by omega)) (Fin.ext (by omega))

/-- The second gathered array is its 32 tiles' rows, in two blocks each. -/
theorem rows_e (d : Dev nD) (f : Buf (Elt F) (eoLoc d)) :
    (eoLoc d ↦{fullShare} f : sProp 𝕄)
      = bigSep Finset.univ fun c : Fin 2 => bigSep Finset.univ fun i : Fin 16 =>
          iprop((eoLoc d ↦[(eoT0 (pt1 c i)).view.set]{fullShare} f) ∗ eoLoc d ↦[(eoT1 (pt1 c i)).view.set]{fullShare} f) := by
  have hd : ∀ p : Fin 2 × Fin 16, Disjoint (eoT0 (pt1 p.1 p.2)).view.set (eoT1 (pt1 p.1 p.2)).view.set := fun p =>
    Finset.disjoint_left.mpr fun j h h' => by
      have h := (mem_eoT0 _ _ j).mp h
      have h' := (mem_eoT1 _ _ j).mp h'
      omega
  have hu : ∀ p : Fin 2 × Fin 16, (iprop((eoLoc d ↦[(eoT0 (pt1 p.1 p.2)).view.set]{fullShare} f) ∗ eoLoc d ↦[(eoT1 (pt1 p.1 p.2)).view.set]{fullShare} f) : sProp 𝕄)
      = (eoLoc d ↦[(eoT0 (pt1 p.1 p.2)).view.set ∪ (eoT1 (pt1 p.1 p.2)).view.set]{fullShare} f) := fun p => by
    have h : (eoLoc d ↦[(eoT0 (pt1 p.1 p.2)).view.set ∪ (eoT1 (pt1 p.1 p.2)).view.set]{fullShare} f : sProp 𝕄)
      ⊣⊢ iprop((eoLoc d ↦[(eoT0 (pt1 p.1 p.2)).view.set]{fullShare} f) ∗ eoLoc d ↦[(eoT1 (pt1 p.1 p.2)).view.set]{fullShare} f) := pointsTo_union (hd p)
    exact (BI.equiv_iff.mp ⟨h.1, h.2⟩).symm
  rw [← bigSep_pairs (fun p : Fin 2 × Fin 16 =>
      (iprop((eoLoc d ↦[(eoT0 (pt1 p.1 p.2)).view.set]{fullShare} f) ∗ eoLoc d ↦[(eoT1 (pt1 p.1 p.2)).view.set]{fullShare} f) : sProp 𝕄)),
    bigSep_congr (fun (p : Fin 2 × Fin 16) _ => hu p),
    ← pointsTo_biUnion Finset.univ (ℓ := eoLoc d) (fun p : Fin 2 × Fin 16 => (eoT0 (pt1 p.1 p.2)).view.set ∪ (eoT1 (pt1 p.1 p.2)).view.set)]
  · refine (congrArg (fun S => (eoLoc d ↦[S]{fullShare} f : sProp 𝕄)) (Finset.eq_univ_iff_forall.mpr fun j => ?_)).symm
    have hj : ((j : S8192x16.Idx) 0).val < 8192 := (j 0).isLt
    refine Finset.mem_biUnion.mpr ⟨(⟨((j : S8192x16.Idx) 0).val / 256 % 2, by omega⟩, ⟨((j : S8192x16.Idx) 0).val / 512, by omega⟩), Finset.mem_univ _, ?_⟩
    rw [Finset.mem_union]
    by_cases h : ((j : S8192x16.Idx) 0).val % 256 < 128
    · left; refine (mem_eoT0 _ _ j).mpr ?_
      constructor <;> dsimp only <;> omega
    · right; refine (mem_eoT1 _ _ j).mpr ?_
      constructor <;> dsimp only <;> omega
  · intro p _ p' _ hne
    refine Finset.disjoint_left.mpr fun j h h' => hne ?_
    rw [Finset.mem_union] at h h'
    have h : 512 * p.2.val + 256 * p.1.val ≤ ((j : S8192x16.Idx) 0).val ∧ ((j : S8192x16.Idx) 0).val < 512 * p.2.val + 256 * p.1.val + 256 := by
      rcases h with h | h
      · have h := (mem_eoT0 _ _ j).mp h; omega
      · have h := (mem_eoT1 _ _ j).mp h; omega
    have h' : 512 * p'.2.val + 256 * p'.1.val ≤ ((j : S8192x16.Idx) 0).val ∧ ((j : S8192x16.Idx) 0).val < 512 * p'.2.val + 256 * p'.1.val + 256 := by
      rcases h' with h' | h'
      · have h' := (mem_eoT0 _ _ j).mp h'; omega
      · have h' := (mem_eoT1 _ _ j).mp h'; omega
    exact Prod.ext (Fin.ext (by omega)) (Fin.ext (by omega))

/-! ## The payloads -/

section Payloads

variable (x : (d : Dev nD) → Buf (Elt F) (xLoc d)) (xi : (d : Dev nD) → Buf (Elt F) (xiLoc d)) (xo : (d : Dev nD) → Buf (Elt F) (xoLoc d))
variable (e : (d : Dev nD) → Buf (Elt F) (eLoc d)) (ei : (d : Dev nD) → Buf (Elt F) (eiLoc d)) (eo : (d : Dev nD) → Buf (Elt F) (eoLoc d))

/-- A tile's holdings in the first gather, its rows at `f`. -/
abbrev holdX (f : (d : Dev nD) → Buf (Elt F) (xoLoc d)) (d : Dev nD) (c : Fin 2) (i : Fin 16) : sProp 𝕄 :=
  iprop((xLoc d ↦{tileQ c i} x d) ∗ (xiLoc d ↦{tileQ c i} xi d) ∗ xoLoc d ↦[(xoT (pt0 c i)).view.set]{fullShare} f d)

/-- A tile's holdings in the second gather, its rows at `f`. -/
abbrev holdE (f : (d : Dev nD) → Buf (Elt F) (eoLoc d)) (d : Dev nD) (c : Fin 2) (i : Fin 16) : sProp 𝕄 :=
  iprop((eLoc d ↦{tileQ c i} e d) ∗ (eiLoc d ↦{tileQ c i} ei d)
    ∗ (eoLoc d ↦[(eoT0 (pt1 c i)).view.set]{fullShare} f d) ∗ eoLoc d ↦[(eoT1 (pt1 c i)).view.set]{fullShare} f d)

/-- What the first gather leaves on device `d`. -/
abbrev gotX (d : Dev nD) : Buf (Elt F) (xoLoc d) := takeX (x d) (xi d)

/-- What the second gather leaves on device `d`. -/
abbrev gotE (d : Dev nD) : Buf (Elt F) (eoLoc d) := takeE (e d) (ei d)

/-- What the two calls hand out and take back. -/
def pay : (K (F := F)).Pay (nD := nD) (Val := Elt F) (Name := ℕ) (U := UU) where
  st := fun q d c => match q, c with
    | 0, c => bigSep Finset.univ fun i : Fin 16 => holdX x xi xo d (Fin.cast nCore_0 c) i
    | 1, c => bigSep Finset.univ fun i : Fin 16 => holdE e ei eo d (Fin.cast nCore_1 c) i
  dn := fun q d c => match q, c with
    | 0, c => bigSep Finset.univ fun i : Fin 16 => holdX x xi (gotX x xi) d (Fin.cast nCore_0 c) i
    | 1, c => bigSep Finset.univ fun i : Fin 16 => holdE e ei (gotE e ei) d (Fin.cast nCore_1 c) i
  go := fun q d c i => match q, c, i with
    | 0, c, i => holdX x xi xo d (Fin.cast nCore_0 c) (Fin.cast nSub_0 i)
    | 1, c, i => holdE e ei eo d (Fin.cast nCore_1 c) (Fin.cast nSub_1 i)
  td := fun q d c i => match q, c, i with
    | 0, c, i => holdX x xi (gotX x xi) d (Fin.cast nCore_0 c) (Fin.cast nSub_0 i)
    | 1, c, i => holdE e ei (gotE e ei) d (Fin.cast nCore_1 c) (Fin.cast nSub_1 i)
  x := fun _ _ => iprop(emp)

instance pay_storable : (pay x xi xo e ei eo).IsStorable where
  st q d c := match q, c with
    | 0, c => (inferInstance : BI.Storable (upEmb : UEmb _ 𝕄) (bigSep Finset.univ fun i : Fin 16 => holdX x xi xo d (Fin.cast nCore_0 c) i))
    | 1, c => (inferInstance : BI.Storable (upEmb : UEmb _ 𝕄) (bigSep Finset.univ fun i : Fin 16 => holdE e ei eo d (Fin.cast nCore_1 c) i))
  dn q d c := match q, c with
    | 0, c => (inferInstance : BI.Storable (upEmb : UEmb _ 𝕄) (bigSep Finset.univ fun i : Fin 16 => holdX x xi (gotX x xi) d (Fin.cast nCore_0 c) i))
    | 1, c => (inferInstance : BI.Storable (upEmb : UEmb _ 𝕄) (bigSep Finset.univ fun i : Fin 16 => holdE e ei (gotE e ei) d (Fin.cast nCore_1 c) i))
  go q d c i := match q, c, i with
    | 0, c, i => (inferInstance : BI.Storable (upEmb : UEmb _ 𝕄) (holdX x xi xo d (Fin.cast nCore_0 c) (Fin.cast nSub_0 i)))
    | 1, c, i => (inferInstance : BI.Storable (upEmb : UEmb _ 𝕄) (holdE e ei eo d (Fin.cast nCore_1 c) (Fin.cast nSub_1 i)))
  td q d c i := match q, c, i with
    | 0, c, i => (inferInstance : BI.Storable (upEmb : UEmb _ 𝕄) (holdX x xi (gotX x xi) d (Fin.cast nCore_0 c) (Fin.cast nSub_0 i)))
    | 1, c, i => (inferInstance : BI.Storable (upEmb : UEmb _ 𝕄) (holdE e ei (gotE e ei) d (Fin.cast nCore_1 c) (Fin.cast nSub_1 i)))

/-! ## A core's operands are its tiles' -/

/-- Over the first call's tiles is over 16. -/
theorem sub_0 (Φ : Fin 16 → sProp 𝕄) :
    (bigSep Finset.univ fun i : Fin ((K (F := F)).nSub 0) => Φ (Fin.cast nSub_0 i)) = bigSep Finset.univ Φ :=
  bigSep_congr fun _ _ => congrArg Φ (Fin.ext rfl)

/-- Over the second call's tiles is over 16. -/
theorem sub_1 (Φ : Fin 16 → sProp 𝕄) :
    (bigSep Finset.univ fun i : Fin ((K (F := F)).nSub 1) => Φ (Fin.cast nSub_1 i)) = bigSep Finset.univ Φ :=
  bigSep_congr fun _ _ => congrArg Φ (Fin.ext rfl)

/-- Over the first call's cores is over 2. -/
theorem core_0 (Φ : Fin 2 → sProp 𝕄) :
    (bigSep Finset.univ fun i : Fin ((K (F := F)).nCore 0) => Φ (Fin.cast nCore_0 i)) = bigSep Finset.univ Φ :=
  bigSep_congr fun _ _ => congrArg Φ (Fin.ext rfl)

/-- Over the second call's cores is over 2. -/
theorem core_1 (Φ : Fin 2 → sProp 𝕄) :
    (bigSep Finset.univ fun i : Fin ((K (F := F)).nCore 1) => Φ (Fin.cast nCore_1 i)) = bigSep Finset.univ Φ :=
  bigSep_congr fun _ _ => congrArg Φ (Fin.ext rfl)

/-- A core's operands of the first call are its tiles' operands, and its tiles' results are the core's. -/
theorem split_0 : (K (F := F)).VecSplit' (pay x xi xo e ei eo) 0 := by
  intro d c
  show (bigSep Finset.univ fun i : Fin 16 => holdX x xi xo d (Fin.cast nCore_0 c) i) ⊢ |={Set.univ}=> iprop(
      (bigSep Finset.univ fun i : Fin ((K (F := F)).nSub 0) => holdX x xi xo d (Fin.cast nCore_0 c) (Fin.cast nSub_0 i))
      ∗ ((bigSep Finset.univ fun i : Fin ((K (F := F)).nSub 0) => holdX x xi (gotX x xi) d (Fin.cast nCore_0 c) (Fin.cast nSub_0 i))
          -∗ bigSep Finset.univ fun i : Fin 16 => holdX x xi (gotX x xi) d (Fin.cast nCore_0 c) i))
  rw [sub_0 (F := F) (fun i => holdX x xi xo d (Fin.cast nCore_0 c) i), sub_0 (F := F) (fun i => holdX x xi (gotX x xi) d (Fin.cast nCore_0 c) i)]
  iintro H; imodintro
  isplitl [H]; · iexact H
  iintro H; iexact H

/-- A core's operands of the second call are its tiles' operands, and its tiles' results are the core's. -/
theorem split_1 : (K (F := F)).VecSplit' (pay x xi xo e ei eo) 1 := by
  intro d c
  show (bigSep Finset.univ fun i : Fin 16 => holdE e ei eo d (Fin.cast nCore_1 c) i) ⊢ |={Set.univ}=> iprop(
      (bigSep Finset.univ fun i : Fin ((K (F := F)).nSub 1) => holdE e ei eo d (Fin.cast nCore_1 c) (Fin.cast nSub_1 i))
      ∗ ((bigSep Finset.univ fun i : Fin ((K (F := F)).nSub 1) => holdE e ei (gotE e ei) d (Fin.cast nCore_1 c) (Fin.cast nSub_1 i))
          -∗ bigSep Finset.univ fun i : Fin 16 => holdE e ei (gotE e ei) d (Fin.cast nCore_1 c) i))
  rw [sub_1 (F := F) (fun i => holdE e ei eo d (Fin.cast nCore_1 c) i), sub_1 (F := F) (fun i => holdE e ei (gotE e ei) d (Fin.cast nCore_1 c) i)]
  iintro H; imodintro
  isplitl [H]; · iexact H
  iintro H; iexact H

/-! ## The calls' operands out of the whole arrays, and back -/

/-- The first call's operands out of the three arrays, which come back with the gathered rows. -/
theorem call_0 (d : Dev nD) :
    iprop((xLoc d ↦{fullShare} x d) ∗ (xiLoc d ↦{fullShare} xi d) ∗ xoLoc d ↦{fullShare} xo d)
      ⊢ (iprop((bigSep Finset.univ fun c : Fin ((K (F := F)).nCore 0) => (pay x xi xo e ei eo).st 0 d c)
        ∗ ((bigSep Finset.univ fun c : Fin ((K (F := F)).nCore 0) => (pay x xi xo e ei eo).dn 0 d c)
          -∗ iprop((xLoc d ↦{fullShare} x d) ∗ (xiLoc d ↦{fullShare} xi d) ∗ xoLoc d ↦{fullShare} gotX x xi d))) : sProp 𝕄) := by
  show _ ⊢ (iprop((bigSep Finset.univ fun c : Fin ((K (F := F)).nCore 0) => bigSep Finset.univ fun i : Fin 16 => holdX x xi xo d (Fin.cast nCore_0 c) i)
        ∗ ((bigSep Finset.univ fun c : Fin ((K (F := F)).nCore 0) => bigSep Finset.univ fun i : Fin 16 => holdX x xi (gotX x xi) d (Fin.cast nCore_0 c) i) -∗ _)) : sProp 𝕄)
  rw [core_0 (F := F) (fun c => bigSep Finset.univ fun i : Fin 16 => holdX x xi xo d c i),
    core_0 (F := F) (fun c => bigSep Finset.univ fun i : Fin 16 => holdX x xi (gotX x xi) d c i)]
  simp only [bigSep_sep']
  rw [rows_x d (xo d), rows_x d (gotX x xi d)]
  iintro ⟨Hx, Hi, Ho⟩
  ihave Hx := (tokens (xLoc d) (x d)).1 $$ Hx
  ihave Hi := (tokens (xiLoc d) (xi d)).1 $$ Hi
  icases Hx with ⟨Hx0, Hx⟩
  icases Hi with ⟨Hi0, Hi⟩
  isplitl [Hx Hi Ho]
  · isplitl [Hx]; · iexact Hx
    isplitl [Hi]; · iexact Hi
    iexact Ho
  iintro ⟨Hx, Hi, Ho⟩
  isplitl [Hx0 Hx]
  · iapply (tokens (xLoc d) (x d)).2
    isplitl [Hx0] <;> iassumption
  isplitl [Hi0 Hi]
  · iapply (tokens (xiLoc d) (xi d)).2
    isplitl [Hi0] <;> iassumption
  iexact Ho

/-- The second call's operands out of the three arrays, which come back with the gathered rows. -/
theorem call_1 (d : Dev nD) :
    iprop((eLoc d ↦{fullShare} e d) ∗ (eiLoc d ↦{fullShare} ei d) ∗ eoLoc d ↦{fullShare} eo d)
      ⊢ (iprop((bigSep Finset.univ fun c : Fin ((K (F := F)).nCore 1) => (pay x xi xo e ei eo).st 1 d c)
        ∗ ((bigSep Finset.univ fun c : Fin ((K (F := F)).nCore 1) => (pay x xi xo e ei eo).dn 1 d c)
          -∗ iprop((eLoc d ↦{fullShare} e d) ∗ (eiLoc d ↦{fullShare} ei d) ∗ eoLoc d ↦{fullShare} gotE e ei d))) : sProp 𝕄) := by
  show _ ⊢ (iprop((bigSep Finset.univ fun c : Fin ((K (F := F)).nCore 1) => bigSep Finset.univ fun i : Fin 16 => holdE e ei eo d (Fin.cast nCore_1 c) i)
        ∗ ((bigSep Finset.univ fun c : Fin ((K (F := F)).nCore 1) => bigSep Finset.univ fun i : Fin 16 => holdE e ei (gotE e ei) d (Fin.cast nCore_1 c) i) -∗ _)) : sProp 𝕄)
  rw [core_1 (F := F) (fun c => bigSep Finset.univ fun i : Fin 16 => holdE e ei eo d c i),
    core_1 (F := F) (fun c => bigSep Finset.univ fun i : Fin 16 => holdE e ei (gotE e ei) d c i)]
  rw [rows_e d (eo d), rows_e d (gotE e ei d)]
  simp only [bigSep_sep']
  iintro ⟨Hx, Hi, Ho⟩
  ihave Hx := (tokens (eLoc d) (e d)).1 $$ Hx
  ihave Hi := (tokens (eiLoc d) (ei d)).1 $$ Hi
  icases Hx with ⟨Hx0, Hx⟩
  icases Hi with ⟨Hi0, Hi⟩
  isplitl [Hx Hi Ho]
  · isplitl [Hx]; · iexact Hx
    isplitl [Hi]; · iexact Hi
    iexact Ho
  iintro ⟨Hx, Hi, Ho⟩
  isplitl [Hx0 Hx]
  · iapply (tokens (eLoc d) (e d)).2
    isplitl [Hx0] <;> iassumption
  isplitl [Hi0 Hi]
  · iapply (tokens (eiLoc d) (ei d)).2
    isplitl [Hi0] <;> iassumption
  iexact Ho

/-! ## The tiles' obligations -/

variable [FloatOps F]

/-- A tile's account of waits, with one more way allowed for a wait to be new. -/
theorem obl_post {thr : Thread nD τ} {A B C : sProp 𝕄} {O : CellTallies nD τ sig (HIx 2)} {W : Waits sig (HIx 2)} {P : HIx 2 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ P p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- An empty resource can be dropped. -/
theorem drop_emp (A : sProp 𝕄) : iprop(emp ∗ A) ⊢ A := by
  iintro ⟨-, H⟩; iexact H

set_option maxRecDepth 16384 in
/-- The first call's tiles meet their obligations if the row numbers are in range. -/
theorem tile_0 (hxi : ∀ d (j : S4096.Idx), (xi d j).toNat < 10000) : (K (F := F)).TileObl (D (F := F)) 𝒱 (pay x xi xo e ei eo) v₀ 0 := by
  intro d c i O W hO _ _
  simp only [show (pay x xi xo e ei eo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  refine BI.Entails.trans ?_ ((TileX.run d (pt0 (Fin.cast nCore_0 c) (Fin.cast nSub_0 i)) launchFacts (x d) (xi d) (xo d) (hxi d) (tileQ (Fin.cast nCore_0 c) (Fin.cast nSub_0 i)) (tileQ (Fin.cast nCore_0 c) (Fin.cast nSub_0 i)) O W hO).trans (wp_mono frame _ _ fun _ => obl_post))
  exact sep_mono_right (drop_emp _)

set_option maxRecDepth 16384 in
/-- The second call's tiles meet their obligations if the row numbers are in range. -/
theorem tile_1 (hei : ∀ d (j : S8192.Idx), (ei d j).toNat < 160000) : (K (F := F)).TileObl (D (F := F)) 𝒱 (pay x xi xo e ei eo) v₀ 1 := by
  intro d c i O W hO _ _
  simp only [show (pay x xi xo e ei eo).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  refine BI.Entails.trans ?_ ((TileE.run d (pt1 (Fin.cast nCore_1 c) (Fin.cast nSub_1 i)) launchFacts (e d) (ei d) (eo d) (hei d) (tileQ (Fin.cast nCore_1 c) (Fin.cast nSub_1 i)) (tileQ (Fin.cast nCore_1 c) (Fin.cast nSub_1 i)) O W hO).trans (wp_mono frame _ _ fun _ => obl_post))
  exact sep_mono_right (drop_emp _)

end Payloads

end Cert.Proof.Gnn

end
-- ==== Proof.Main.lean ====
/-
  The whole program's run: what every array holds at the end, on every device, from any start whose indices are in range.
-/
module

public import Idealize.ShloMosaic.Lib.StableHlo.RunRead
public import proofs.«01_k».proof.Proof.Region
public import proofs.«01_k».proof.Proof.Split

@[expose] public section

noncomputable section

namespace Cert.Proof.Gnn

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## @main's lines and the contents between them -/

/-- The line before the gathers. -/
abbrev op0 : HloOp τ sig (Elt F) := StableHlo.reshape main_arg2 main_v0 (rfl : (.i32 : EltTy) = .i32) shapeCasts_S128x32_S4096

/-- The lines between the gathers and the region. -/
def ops1 : List (HloOp τ sig (Elt F)) :=
  [StableHlo.unary main_arg3 main_v3 ((extractStridedSlice S1x8192 ![0, 0] · slices_S2x8192_S1x8192_0_0) : (⟨S2x8192, .i32⟩ : BufTy).Contents (Elt F) → (⟨S1x8192, .i32⟩ : BufTy).Contents (Elt F)),
    StableHlo.reshape main_v3 main_v4 (rfl : (.i32 : EltTy) = .i32) shapeCasts_S1x8192_S8192,
    StableHlo.reshape main_v4 main_v5 (rfl : (.i32 : EltTy) = .i32) shapeCasts_S8192_S16x1x512,
    StableHlo.unary main_arg3 main_v6 ((extractStridedSlice S1x8192 ![1, 0] · slices_S2x8192_S1x8192_1_0) : (⟨S2x8192, .i32⟩ : BufTy).Contents (Elt F) → (⟨S1x8192, .i32⟩ : BufTy).Contents (Elt F)),
    StableHlo.reshape main_v6 main_v7 (rfl : (.i32 : EltTy) = .i32) shapeCasts_S1x8192_S8192,
    StableHlo.reshape main_v7 main_v8 (rfl : (.i32 : EltTy) = .i32) shapeCasts_S8192_S16x1x512,
    StableHlo.reshape main_arg2 main_v9 (rfl : (.i32 : EltTy) = .i32) shapeCasts_S128x32_S16x8x32,
    StableHlo.nullary main_c (constantI S_ 32 0#32),
    StableHlo.unary main_c main_call0_v0 ((sitofp .f32) : (⟨S_, .i32⟩ : BufTy).Contents (Elt F) → (⟨S_, .f32⟩ : BufTy).Contents (Elt F)),
    StableHlo.binary main_arg7 main_call0_v0 main_v10 ((fun x v => pad S136x64 ![0, 0] ![7, 0] ![0, 0] x v pads_S129x64_S136x64_070_000 h_S_) : (⟨S129x64, .f32⟩ : BufTy).Contents (Elt F) → (⟨S_, .f32⟩ : BufTy).Contents (Elt F) → (⟨S136x64, .f32⟩ : BufTy).Contents (Elt F)),
    StableHlo.reshape main_arg9 main_v11 (rfl : (.f32 : EltTy) = .f32) shapeCasts_S256_S1x256,
    StableHlo.reshape main_arg11 main_v12 (rfl : (.f32 : EltTy) = .f32) shapeCasts_S256_S1x256,
    StableHlo.reshape main_arg13 main_v13 (rfl : (.f32 : EltTy) = .f32) shapeCasts_S3x256_S3x1x256,
    StableHlo.reshape main_arg15 main_v14 (rfl : (.f32 : EltTy) = .f32) shapeCasts_S3x256_S3x1x256]

/-- The lines after the region. -/
def ops2 : List (HloOp τ sig (Elt F)) :=
  [StableHlo.reshape main_v15_0 main_v16 (rfl : (.f32 : EltTy) = .f32) shapeCasts_S16x1x64_S16x64,
    StableHlo.reshape main_v15_1 main_v17 (rfl : (.f32 : EltTy) = .f32) shapeCasts_S16x1x256_S16x256,
    StableHlo.binary main_v16 main_v17 main_v18 ((fun a b => concatenate S16x320 1 [⟨S16x64, a⟩, ⟨S16x256, b⟩] concatenates_S16x64_S16x256_S16x320_d1) : (⟨S16x64, .f32⟩ : BufTy).Contents (Elt F) → (⟨S16x256, .f32⟩ : BufTy).Contents (Elt F) → (⟨S16x320, .f32⟩ : BufTy).Contents (Elt F))]

/-- The region of @main, as the program it lifts. -/
def regionProg : Prog (TpuEff nD τ sig (Elt F) (ΛP (F := F)) .tc) PUnit := .op (.customCall (Pipeline.entry 0) ()) fun _ => .ret ⟨⟩

/-- @main is a reshape, the two SparseCore calls, the lines up to the region, the region, and the lines after it. -/
theorem main_eq (d : Dev nD) : main (F := F) d = (hlo rfl op0 (fun _ => .ret (⟨⟩ : PUnit)) >>= fun _ => sc.run d 0 >>= fun _ => sc.run d 1 >>= fun _ =>
    StableHlo.seq ops1 >>= fun _ => SparseCore.liftProg (regionProg (F := F)) >>= fun _ => StableHlo.seq ops2) := rfl

variable (m : (ℓ : Loc nD τ sig) → Buf (Elt F) ℓ) (ρ : Dev nD → PrngReg)

/-- Device `d`'s arrays at the start. -/
def V0 (d : Dev nD) : Valuation τ sig (Elt F) := fun b => m (d, b)

/-- … before the gathers, … -/
def V1 (d : Dev nD) : Valuation τ sig (Elt F) := op0.result (V0 m d)

/-- … after the first gather, … -/
def V2 (d : Dev nD) : Valuation τ sig (Elt F) :=
  Function.update (V1 m d) (Proc.devRef .tc main_v1) (takeX (V1 m d (Proc.devRef .tc main_arg0)) (V1 m d (Proc.devRef .tc main_v0)))

/-- … after the second, … -/
def V3 (d : Dev nD) : Valuation τ sig (Elt F) :=
  Function.update (V2 m d) (Proc.devRef .tc main_v2) (takeE (V2 m d (Proc.devRef .tc main_arg1)) (V2 m d (Proc.devRef .tc main_arg6)))

/-- … before the region, … -/
def V4 (d : Dev nD) : Valuation τ sig (Elt F) := StableHlo.after ops1 (V3 m d)

/-- … after it, … -/
def V5 (d : Dev nD) : Valuation τ sig (Elt F) := left (V4 m d) d

/-- … and at the end. -/
def V6 (d : Dev nD) : Valuation τ sig (Elt F) := StableHlo.after ops2 (V5 m d)

/-- The launch's payloads. -/
abbrev P : (K (F := F)).Pay (nD := nD) (Val := Elt F) (Name := ℕ) (U := UU) :=
  pay (fun d => V1 m d (Proc.devRef .tc main_arg0)) (fun d => V1 m d (Proc.devRef .tc main_v0)) (fun d => V1 m d (Proc.devRef .tc main_v1))
    (fun d => V2 m d (Proc.devRef .tc main_arg1)) (fun d => V2 m d (Proc.devRef .tc main_arg6)) (fun d => V2 m d (Proc.devRef .tc main_v2))

/-! ## Three arrays out of all of them -/

/-- The arrays of @main. -/
abbrev allRefs : Finset (DevRef τ sig) := Pipeline.ucRefs τ sig

/-- An array that no call scopes is one of @main's. -/
theorem mem_all (r : Ref sig .tc) (h : r.isScoped = false) : (Proc.devRef .tc r : DevRef τ sig) ∈ allRefs :=
  Finset.mem_filter.mpr ⟨StableHlo.devRef_mem_tcRefs _, fun h' => Bool.false_ne_true (h.symm.trans h')⟩

/-- Arrays held at a valuation are held at an equal one. -/
theorem held_at (d : Dev nD) {V V' : Valuation τ sig (Elt F)} (h : V = V') :
    (StableHlo.held (SparseCore.T d) allRefs V : sProp 𝕄) ⊢ StableHlo.held (SparseCore.T d) allRefs V' := by
  subst h; exact BI.Entails.refl _

/-- Three arrays out of all, the last of which comes back rewritten. -/
theorem three (d : Dev nD) (a b o : Ref sig .tc) (ha : a.isScoped = false) (hb : b.isScoped = false)
    (ho : o.isScoped = false) (hab : a ≠ b) (hao : a ≠ o) (hbo : b ≠ o) (W : Valuation τ sig (Elt F))
    (g : (Proc.devRef (τ := τ) .tc o).ty.Contents (Elt F)) :
    (StableHlo.held (SparseCore.T d) allRefs W : sProp 𝕄)
      ⊢ iprop((((SparseCore.T d).loc a ↦{fullShare} W (Proc.devRef .tc a)) ∗ ((SparseCore.T d).loc b ↦{fullShare} W (Proc.devRef .tc b))
          ∗ (SparseCore.T d).loc o ↦{fullShare} W (Proc.devRef .tc o))
        ∗ ((((SparseCore.T d).loc a ↦{fullShare} W (Proc.devRef .tc a)) ∗ ((SparseCore.T d).loc b ↦{fullShare} W (Proc.devRef .tc b))
          ∗ (SparseCore.T d).loc o ↦{fullShare} g) -∗ StableHlo.held (SparseCore.T d) allRefs (Function.update W (Proc.devRef .tc o) g))) := by
  have hsub : ({Proc.devRef .tc a, Proc.devRef .tc b, Proc.devRef .tc o} : Finset (DevRef τ sig)) ⊆ allRefs := by
    intro x hx
    simp only [Finset.mem_insert, Finset.mem_singleton] at hx
    rcases hx with rfl | rfl | rfl
    · exact mem_all _ ha
    · exact mem_all _ hb
    · exact mem_all _ ho
  have hab' : (Proc.devRef .tc a : DevRef τ sig) ≠ Proc.devRef .tc b := fun h => hab (Proc.devRef_injective _ h)
  have hao' : (Proc.devRef .tc a : DevRef τ sig) ≠ Proc.devRef .tc o := fun h => hao (Proc.devRef_injective _ h)
  have hbo' : (Proc.devRef .tc b : DevRef τ sig) ≠ Proc.devRef .tc o := fun h => hbo (Proc.devRef_injective _ h)
  have three_held : ∀ W : Valuation τ sig (Elt F),
      (StableHlo.held (SparseCore.T d) ({Proc.devRef .tc a, Proc.devRef .tc b, Proc.devRef .tc o} : Finset (DevRef τ sig)) W : sProp 𝕄)
        = iprop(((SparseCore.T d).loc a ↦{fullShare} W (Proc.devRef .tc a)) ∗ ((SparseCore.T d).loc b ↦{fullShare} W (Proc.devRef .tc b))
          ∗ (SparseCore.T d).loc o ↦{fullShare} W (Proc.devRef .tc o)) := fun W => by
    unfold StableHlo.held
    rw [SparseCore.bigSep_insert' (by simp [hab', hao']), SparseCore.bigSep_insert' (by simp [hbo']), bigSep_singleton]
  rw [StableHlo.held_sub_split _ hsub W, StableHlo.held_sub_split _ hsub (Function.update W _ g), three_held, three_held,
    Function.update_of_ne hao', Function.update_of_ne hbo', Function.update_self,
    StableHlo.held_congr _ (V := Function.update W (Proc.devRef .tc o) g) (V' := W) (S := allRefs \ _) fun x hx => Function.update_of_ne (by
      rintro rfl
      exact (Finset.mem_sdiff.mp hx).2 (by simp)) _ _]
  iintro ⟨H, Hr⟩
  isplitl [H]; · iexact H
  iintro H
  isplitl [H] <;> iassumption

/-! ## The ghost state at launch -/

/-- The TensorCore pipeline's rounds in the certificate's ghost state. -/
abbrev EP : Emb UP 𝕄 := (Emb.inl : Emb UP (UP × Counters)).trans (embR : Emb (UP × Counters) 𝕄)

instance : (EP (F := F)).LandsIn upEmb := by unfold EP; infer_instance

/-- The ghost state the run starts from. -/
def u₀ : UU := (initOf (K (F := F)).hsCells (K (F := F)).hsToks,
  (initOf (Pipeline.cells (nD := nD) cfgs cellOf_inj) (Pipeline.launchToks (nD := nD) cfgs cellOf_inj), 1))

/-- The main thread's share of it. -/
def G (d : Dev nD) : sProp 𝕄 := iprop(Pipeline.cellsGhost (Pipeline.pin (pcfgs (F := F)) adm) EP 0 d ∗ Pipeline.toksInit (Pipeline.pin (pcfgs (F := F)) adm) EP 0 d)

/-- Any number of empty resources is the empty one. -/
theorem bigSep_emp' {I : Type} (s : Finset I) : (bigSep s fun _ => iprop(emp)) = (iprop(emp) : sProp 𝕄) := bigSep_emp_const s

/-- The pipelines' ghost state, device by device: there is one pipeline. -/
theorem ghosts : (iprop((bigSep Finset.univ fun c : Dev nD => bigSep Finset.univ fun p : Fin 1 => Pipeline.cellsGhost cfgs (EP (F := F)) p c)
      ∗ (bigSep Finset.univ fun c : Dev nD => bigSep Finset.univ fun p : Fin 1 => Pipeline.toksInit cfgs (EP (F := F)) p c)) : sProp 𝕄)
    ⊢ bigSep Finset.univ fun d : Dev nD => G (F := F) d := by
  rw [show (bigSep Finset.univ fun c : Dev nD => bigSep Finset.univ fun p : Fin 1 => (Pipeline.cellsGhost cfgs EP p c : sProp 𝕄))
      = bigSep Finset.univ fun c : Dev nD => Pipeline.cellsGhost cfgs EP 0 c from bigSep_congr fun _ _ => bigSep_univ_of_subsingleton (0 : Fin 1),
    show (bigSep Finset.univ fun c : Dev nD => bigSep Finset.univ fun p : Fin 1 => (Pipeline.toksInit cfgs EP p c : sProp 𝕄))
      = bigSep Finset.univ fun c : Dev nD => Pipeline.toksInit cfgs EP 0 c from bigSep_congr fun _ _ => bigSep_univ_of_subsingleton (0 : Fin 1)]
  show _ ⊢ (bigSep Finset.univ fun d : Dev nD => iprop(Pipeline.cellsGhost cfgs (EP (F := F)) 0 d ∗ Pipeline.toksInit cfgs (EP (F := F)) 0 d) : sProp 𝕄)
  rw [bigSep_sep']

/-- The ghost state at the start gives the calls' handshakes and the pipeline's cells and tokens. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks) ((initOf (Pipeline.cells (nD := nD) cfgs cellOf_inj) (Pipeline.launchToks (nD := nD) cfgs cellOf_inj), 1) : UP × Counters)) $$ Hu
  icases H with ⟨HH, HR⟩
  ihave HR := (own_pair_emb (embR : Emb (UP × Counters) 𝕄) (initOf (Pipeline.cells (nD := nD) cfgs cellOf_inj) (Pipeline.launchToks (nD := nD) cfgs cellOf_inj)) (1 : Counters)) $$ HR
  icases HR with ⟨HP, -⟩
  imod (Pipeline.fund_ghost (nD := nD) cfgs (EP (F := F)) cellOf_inj) $$ HP with ⟨Hc, Ht⟩
  imodintro
  isplitl [HH]; · iexact HH
  isplitl [Hc Ht]
  · iapply (ghosts (F := F))
    isplitl [Hc] <;> iassumption
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

/-! ## @main on the TensorCore -/

/-- The lines up to the region touch only @main's arrays. -/
theorem bufs1 : ∀ op ∈ ops1 (F := F), op.bufs ⊆ allRefs := by
  intro op hop
  refine Pipeline.sub_ucRefs op ?_
  simp only [ops1, List.mem_cons, List.not_mem_nil, or_false] at hop
  rcases hop with rfl | rfl | rfl | rfl | rfl | rfl | rfl | rfl | rfl | rfl | rfl | rfl | rfl | rfl
  all_goals first
    | exact StableHlo.reshape_bufs_sub ..
    | exact StableHlo.unary_bufs_sub ..
    | exact StableHlo.nullary_bufs_sub ..
    | exact StableHlo.binary_bufs_sub ..

/-- The lines after the region touch only @main's arrays. -/
theorem bufs2 : ∀ op ∈ ops2 (F := F), op.bufs ⊆ allRefs := by
  intro op hop
  refine Pipeline.sub_ucRefs op ?_
  simp only [ops2, List.mem_cons, List.not_mem_nil, or_false] at hop
  rcases hop with rfl | rfl | rfl
  all_goals first
    | exact StableHlo.reshape_bufs_sub ..
    | exact StableHlo.binary_bufs_sub ..

/-- The lines up to the region allocate nothing. -/
theorem fresh1 : ∀ op ∈ ops1 (F := F), op.fresh = ∅ := by
  intro op hop
  simp only [ops1, List.mem_cons, List.not_mem_nil, or_false] at hop
  rcases hop with rfl | rfl | rfl | rfl | rfl | rfl | rfl | rfl | rfl | rfl | rfl | rfl | rfl | rfl <;> rfl

/-- The lines after the region allocate nothing. -/
theorem fresh2 : ∀ op ∈ ops2 (F := F), op.fresh = ∅ := by
  intro op hop
  simp only [ops2, List.mem_cons, List.not_mem_nil, or_false] at hop
  rcases hop with rfl | rfl | rfl <;> rfl

/-- What the main thread is left with. -/
abbrev FIN (d : Dev nD) : sProp 𝕄 := StableHlo.held (SparseCore.T d) allRefs (V6 m d)

/-- The main thread's state after both calls, the account of what it owes apart. -/
theorem tcSt_2 (d : Dev nD) : ∃ R : sProp 𝕄, (K (F := F)).tcSt EH d 2 = iprop(idle (F := F) d ∗ R) := by
  have h0 : (K (F := F)).Otc d 2 = 0 := by
    unfold SparseCore.Cfg.Otc
    exact Finset.sum_eq_zero fun q _ => if_neg (by omega)
  unfold SparseCore.Cfg.tcSt idle
  rw [h0]
  exact ⟨_, rfl⟩

/-- Each window's array is one of the region's. -/
theorem mem_arr (w : Fin 16) : (Proc.devRef .tc (Pipeline.arrRef spec2 w) : DevRef τ sig) ∈ Pipeline.arrRefs spec2 :=
  Finset.mem_map.mpr ⟨Pipeline.arrRef spec2 w, Finset.mem_image_of_mem _ (Finset.mem_univ w), rfl⟩

/-- The region's arrays are among @main's. -/
theorem arr_sub : Pipeline.arrRefs (τ := τ) spec2 ⊆ allRefs := Pipeline.arrRefs_sub_ucRefs (τ := τ) spec2 (by decide)

/-- All the arrays are the region's and the rest. -/
theorem arr_split (d : Dev nD) (X : Valuation τ sig (Elt F)) :
    (StableHlo.held (SparseCore.T d) allRefs X : sProp 𝕄)
      = iprop(StableHlo.held (SparseCore.T d) (Pipeline.arrRefs spec2) X ∗ StableHlo.held (SparseCore.T d) (allRefs \ Pipeline.arrRefs spec2) X) :=
  StableHlo.held_sub_split _ arr_sub X

/-- The region leaves the rest as it was. -/
theorem rest_left (d : Dev nD) (X : Valuation τ sig (Elt F)) :
    (StableHlo.held (SparseCore.T d) (allRefs \ Pipeline.arrRefs spec2) (left X d) : sProp 𝕄)
      = StableHlo.held (SparseCore.T d) (allRefs \ Pipeline.arrRefs spec2) X :=
  StableHlo.held_congr _ fun b hb => left_ne X d b (fun h => (Finset.mem_sdiff.mp hb).2 (h ▸ mem_arr 14)) (fun h => (Finset.mem_sdiff.mp hb).2 (h ▸ mem_arr 15))

/-- The region, from all the arrays and back. -/
theorem region [∀ e, Nonempty (Elt F e)] (d : Dev nD) (X : Valuation τ sig (Elt F)) (Q : PUnit → sProp 𝕄) :
    iprop(boundary (SparseCore.T d) ∗ StableHlo.held (SparseCore.T d) allRefs X ∗ idle (F := F) d ∗ levAts (K (F := F)).L (K (F := F)).lev ∗ G (F := F) d
        ∗ ((boundary (SparseCore.T d) ∗ StableHlo.held (SparseCore.T d) allRefs (left X d) ∗ idle (F := F) d) -∗ Q ⟨⟩))
      ⊢ wp frame (wpE (D (F := F)) 𝒱 (SparseCore.T d) none) Set.univ (regionProg (F := F)) Q := by
  rw [arr_split d X, arr_split d (left X d), rest_left]
  have hwp := Pipeline.RegionSeg.wp (pcfgs (F := F)) adm (dats X) none cellOf_inj (EP (F := F)) (defs₀ (F := F)) 𝒱₀ (K (F := F)).L (K (F := F)).lev (seg X) d none
    (fun u hu => nomatch hu) (fun _ => .ret ⟨⟩) Q
  refine BIBase.Entails.trans ?_ hwp
  unfold G
  iintro ⟨Hb, ⟨Ha, Hr⟩, Hi, Hl, ⟨Hc, Ht⟩, HQ⟩
  isplitl [Hr HQ]
  · iintro ⟨Hb, Hp⟩
    ihave Hp := (show ((seg X).post d : sProp 𝕄) ⊢ iprop(StableHlo.held (SparseCore.T d) (Pipeline.arrRefs spec2) (left X d) ∗ idle (F := F) d) from BI.Entails.refl _) $$ Hp
    icases Hp with ⟨Ha, Hi⟩
    rw [wp_ret]
    imodintro
    iapply HQ
    isplitl [Hb]; · iexact Hb
    isplitl [Ha Hr]
    · isplitl [Ha] <;> iassumption
    iexact Hi
  isplitl [Hb]; · iexact Hb
  isplitl [Ha Hi]
  · iapply (show (iprop(StableHlo.held (SparseCore.T d) (Pipeline.arrRefs spec2) X ∗ idle (F := F) d) : sProp 𝕄) ⊢ (seg X).pre d from BI.Entails.refl _)
    isplitl [Ha] <;> iassumption
  isplitl [Hl]; · iexact Hl
  isplitl [Hc] <;> iassumption

/-- @main, from the arrays as launched, ends with all of them held at the last valuation. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  obtain ⟨R, hR⟩ := tcSt_2 (F := F) d
  unfold SparseCore.Cfg.tcRes SparseCore.Cfg.tcEnd
  rw [show (unscopedBufs d (fun b => m ((SparseCore.T d).loc b)) : sProp 𝕄) = StableHlo.held (SparseCore.T d) allRefs (V0 m d) from
    Pipeline.unscopedBufs_held d (V0 m d), main_eq]
  iintro ⟨#Hctx, Hst, ⟨Hb, Ha, Hts, -⟩, HG⟩
  rw [wp_bind]
  iapply (StableHlo.wp_hlo_within 𝒱 (SparseCore.T d) none Set.univ (op := op0) (S := allRefs) (Pipeline.sub_ucRefs op0 (StableHlo.reshape_bufs_sub ..)) (V := V0 m d)) $$ [Hb Ha]
  · isplitl [Hb] <;> iassumption
  iintro ⟨Hb, Ha⟩
  rw [wp_ret]; imodintro
  rw [wp_bind]
  ihave Ha := (held_at d (V := op0.result (V0 m d)) (V' := V1 m d) rfl) $$ Ha
  ihave Ha := (three d main_arg0 main_v0 main_v1 rfl rfl rfl (by decide) (by decide) (by decide) (V1 m d) (takeX (V1 m d (Proc.devRef .tc main_arg0)) (V1 m d (Proc.devRef .tc main_v0)))) $$ Ha
  icases Ha with ⟨H3, Hback⟩
  ihave H3 := (call_0 (fun d => V1 m d (Proc.devRef .tc main_arg0)) (fun d => V1 m d (Proc.devRef .tc main_v0)) (fun d => V1 m d (Proc.devRef .tc main_v1))
    (fun d => V2 m d (Proc.devRef .tc main_arg1)) (fun d => V2 m d (Proc.devRef .tc main_arg6)) (fun d => V2 m d (Proc.devRef .tc main_v2)) d) $$ H3
  icases H3 with ⟨H3, H3back⟩
  iapply ((K (F := F)).wp_run (D (F := F)) 𝒱 (EH := EH) (P := P m) κ d 0)
  isplitr; · iexact Hctx
  isplitl [Hst]; · iexact Hst
  isplitl [H3]; · iexact H3
  iintro ⟨Hst, Hdn⟩
  ihave H3 := H3back $$ Hdn
  ihave Ha := Hback $$ H3
  rw [wp_bind]
  ihave Ha := (held_at d (V := Function.update (V1 m d) (Proc.devRef .tc main_v1) _) (V' := V2 m d) rfl) $$ Ha
  ihave Ha := (three d main_arg1 main_arg6 main_v2 rfl rfl rfl (by decide) (by decide) (by decide) (V2 m d) (takeE (V2 m d (Proc.devRef .tc main_arg1)) (V2 m d (Proc.devRef .tc main_arg6)))) $$ Ha
  icases Ha with ⟨H3, Hback⟩
  ihave H3 := (call_1 (fun d => V1 m d (Proc.devRef .tc main_arg0)) (fun d => V1 m d (Proc.devRef .tc main_v0)) (fun d => V1 m d (Proc.devRef .tc main_v1))
    (fun d => V2 m d (Proc.devRef .tc main_arg1)) (fun d => V2 m d (Proc.devRef .tc main_arg6)) (fun d => V2 m d (Proc.devRef .tc main_v2)) d) $$ H3
  icases H3 with ⟨H3, H3back⟩
  iapply ((K (F := F)).wp_run (D (F := F)) 𝒱 (EH := EH) (P := P m) κ d 1)
  isplitr; · iexact Hctx
  isplitl [Hst]; · iexact Hst
  isplitl [H3]; · iexact H3
  iintro ⟨Hst, Hdn⟩
  ihave H3 := H3back $$ Hdn
  ihave Ha := Hback $$ H3
  ihave Ha := (held_at d (V := Function.update (V2 m d) (Proc.devRef .tc main_v2) _) (V' := V3 m d) rfl) $$ Ha
  iapply (StableHlo.wp_seq 𝒱 none Set.univ d allRefs _ ops1 bufs1 fresh1 (V3 m d)) $$ [Hb Ha]
  · isplitl [Hb] <;> iassumption
  iintro ⟨Hb, Ha⟩
  ihave Ha := (held_at d (V := StableHlo.after ops1 (V3 m d)) (V' := V4 m d) rfl) $$ Ha
  rw [wp_bind]
  ihave Hst := (show ((K (F := F)).tcSt EH d ((1 : Fin 2).val + 1) : sProp 𝕄) ⊢ iprop(idle (F := F) d ∗ R) from Entails.of_eq hR) $$ Hst
  icases Hst with ⟨Hi, HR⟩
  ihave Hl := ((K (F := F)).ctx_levAts κ) $$ Hctx
  iapply ((K (F := F)).wp_liftProg (D (F := F)) 𝒱 (SparseCore.T d) Set.univ none (regionProg (F := F)) _)
  iapply (region d (V4 m d) _)
  isplitl [Hb]; · iexact Hb
  isplitl [Ha]; · iexact Ha
  isplitl [Hi]; · iexact Hi
  isplitl [Hl]; · iexact Hl
  isplitl [HG]; · iexact HG
  iintro ⟨Hb, Ha, Hi⟩
  ihave Ha := (held_at d (V := left (V4 m d) d) (V' := V5 m d) rfl) $$ Ha
  rw [show (StableHlo.seq (ops2 (F := F)) : Prog (TpuEff nD τ sig (Elt F) _ .tc) PUnit) = (StableHlo.seq ops2 >>= fun _ => .ret ⟨⟩) from rfl]
  iapply (StableHlo.wp_seq 𝒱 none Set.univ d allRefs _ ops2 bufs2 fresh2 (V5 m d)) $$ [Hb Ha]
  · isplitl [Hb] <;> iassumption
  iintro ⟨Hb, Ha⟩
  ihave Ha := (held_at d (V := StableHlo.after ops2 (V5 m d)) (V' := V6 m d) rfl) $$ Ha
  rw [wp_ret]; imodintro
  isplitl [Hi HR]
  · iapply (Entails.of_eq hR.symm)
    isplitl [Hi] <;> iassumption
  isplitl [Ha]; · iexact Ha
  isplitl [Hb] <;> iassumption

/-! ## The run -/

/-- Every array of device `d` as computed. -/
def fq (d : Dev nD) (s' : Phys nD τ sig (Elt F)) : Prop := ∀ b ∈ allRefs, s'.mem.mem (d, b) = V6 m d b

set_option maxRecDepth 16384 in
/-- The last arrays, held, are what the memory then holds. -/
theorem hfin (d : Dev nD) (s' : Phys nD τ sig (Elt F)) : iprop(FIN m d ∗ SI s') ⊢ (⌜fq m d s'⌝ : sProp 𝕄) := by
  have h : ∀ b ∈ allRefs, iprop(FIN m d ∗ SI s') ⊢ (⌜s'.mem.mem (d, b) = V6 m d b⌝ : sProp 𝕄) := by
    intro b hb
    unfold FIN StableHlo.held
    rw [SparseCore.bigSep_erase' hb]
    iintro ⟨⟨Hi, -⟩, HSI⟩
    ihave H := (SI_pointsTo_agree (st := s') (ℓ := (d, b)) (I := Finset.univ) (q := fullShare) (f := V6 m d b)) $$ [HSI Hi]
    · isplitl [HSI] <;> iassumption
    icases H with %h1
    ipureintro; exact funext fun i => h1 i (Finset.mem_univ i)
  unfold fq
  exact (Laws.forall_intro fun b => (Laws.forall_intro fun hb => h b hb).trans pure_forall.2).trans pure_forall.2

/-- The program's result: every array of every device as computed, every semaphore at rest. -/
def QC : PUnit × MemSt nD τ sig (Elt F) → Prop := fun r => (∀ d : Dev nD, ∀ b ∈ allRefs, r.2.mem (d, b) = V6 m d b) ∧ r.2.sem = fun _ => 0

/-- The two lists of row numbers are in range. -/
def InRange : Prop :=
  (∀ (d : Dev nD) (j : S128x32.Idx), ((m ((SparseCore.T d).loc main_arg2) : S128x32.Idx → BitVec 32) j).toNat < 10000)
    ∧ ∀ (d : Dev nD) (j : S8192.Idx), ((m ((SparseCore.T d).loc main_arg6) : S8192.Idx → BitVec 32) j).toNat < 160000

/-- The first call's list of row numbers is the node numbers in one row. -/
theorem V1_v0 (d : Dev nD) : (V1 m d (Proc.devRef .tc main_v0) : S4096.Idx → Elt F .i32)
    = shapeCast S4096 (m ((SparseCore.T d).loc main_arg2) : S128x32.Idx → Elt F .i32) shapeCasts_S128x32_S4096 :=
  StableHlo.reshape_result main_arg2 main_v0 _ _ _ _ (V0 m d)

/-- The second call's list of row numbers is the argument's. -/
theorem V2_arg6 (d : Dev nD) : V2 m d (Proc.devRef .tc main_arg6) = m ((SparseCore.T d).loc main_arg6) := by
  unfold V2 V1
  rw [Function.update_of_ne (by decide), StableHlo.reshape_result_ne _ _ _ _ _ _ _ (by decide)]
  rfl

/-- With the row numbers in range, every run of the whole program ends with every array at the last valuation and every counter at zero. -/
theorem run_main [∀ e, Nonempty (Elt F e)] (h : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq | 1 => nomatch hq)
    (fun q _ => match q with
      | 0 => tile_0 _ _ _ _ _ _ fun d j => by
          show ((V1 m d (Proc.devRef .tc main_v0) : S4096.Idx → Elt F .i32) j).toNat < 10000
          rw [V1_v0]; exact h.1 d _
      | 1 => tile_1 _ _ _ _ _ _ fun d j => by
          show ((V2 m d (Proc.devRef .tc main_arg6) : S8192.Idx → Elt F .i32) j).toNat < 160000
          rw [V2_arg6]; exact h.2 d j)
    (fun q _ => match q with | 0 => SparseCore.Cfg.VecSplit.of_plain (split_0 _ _ _ _ _ _) | 1 => SparseCore.Cfg.VecSplit.of_plain (split_1 _ _ _ _ _ _))
    m ρ main (G (F := F)) (FIN m) (u₀ (F := F)) (sep_elim_left.trans (hu₀ m)) (hmain m ρ) (fq m) (hfin m) (QC m) (fun _ h hz => ⟨h, hz⟩)

/-! ## The arguments are unchanged -/

/-- What @main writes. -/
abbrev written : List (Ref sig .tc) := [main_v0, main_v1, main_v2, main_v3, main_v4, main_v5, main_v6, main_v7, main_v8, main_v9, main_c, main_call0_v0,
  main_v10, main_v11, main_v12, main_v13, main_v14, main_v15_0, main_v15_1, main_v16, main_v17, main_v18]

abbrev written1 : List (Ref sig .tc) := [main_v3, main_v4, main_v5, main_v6, main_v7, main_v8, main_v9, main_c, main_call0_v0, main_v10, main_v11, main_v12, main_v13, main_v14]
abbrev written2 : List (Ref sig .tc) := [main_v16, main_v17, main_v18]

/-- The lines up to the region leave an array that they do not write. -/
theorem V4_of (d : Dev nD) (r : Ref sig .tc) (h : r ∉ written1) : V4 m d (Proc.devRef .tc r) = V3 m d (Proc.devRef .tc r) :=
  StableHlo.after_unwritten written1 rfl h _

/-- The lines after the region leave an array that they do not write. -/
theorem V6_of (d : Dev nD) (r : Ref sig .tc) (h : r ∉ written2) : V6 m d (Proc.devRef .tc r) = V5 m d (Proc.devRef .tc r) :=
  StableHlo.after_unwritten written2 rfl h _

/-- The reshape and the two calls leave every array but their three results. -/
theorem V3_of (d : Dev nD) (r : Ref sig .tc) (h : r ≠ main_v2) (h' : r ≠ main_v1) (h'' : r ≠ main_v0) :
    V3 m d (Proc.devRef .tc r) = m ((SparseCore.T d).loc r) := by
  unfold V3 V2 V1
  rw [Function.update_of_ne (fun e => h (Proc.devRef_injective _ e)), Function.update_of_ne (fun e => h' (Proc.devRef_injective _ e)),
    StableHlo.reshape_result_ne _ _ _ _ _ _ _ h'']
  rfl

/-- An array that @main never writes ends as it was at the launch. -/
theorem V6_kept (d : Dev nD) (r : Ref sig .tc) (h : r ∉ written) : V6 m d (Proc.devRef .tc r) = m ((SparseCore.T d).loc r) := by
  simp only [written, List.mem_cons, List.not_mem_nil, or_false, not_or] at h
  obtain ⟨h0, h1, h2, h3, h4, h5, h6, h7, h8, h9, hc, hc0, h10, h11, h12, h13, h14, h15, h15', h16, h17, h18⟩ := h
  rw [V6_of m d r (by simp [written2, *])]
  unfold V5
  rw [left_ne _ _ _ (fun e => h15 (Proc.devRef_injective _ e)) (fun e => h15' (Proc.devRef_injective _ e)),
    V4_of m d r (by simp [written1, *]), V3_of m d r h2 h1 h0]

end Cert.Proof.Gnn

end
-- ==== Proof.Frames.lean ====
/-
  What the precondition says of the index arguments, and the frames: both kernel programs and the reference run to the end,
  leave their arguments as they were and every semaphore at rest.
-/
module

public import proofs.«01_k».proof.Proof.Main
public import proofs.«01_k».proof.Defs
public import proofs.«01_k».proof.Proof.Gen.Kernel
public import proofs.«01_k».proof.Proof.Gen.Pre_setup_ranges
public import proofs.«01_k».proof.Proof.Gen.ReferenceIdeal
public import proofs.«01_k».proof.Proof.Gen.ReferenceIdeal.Run

@[expose] public section

noncomputable section

namespace Cert.Proof.Gnn

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- What the precondition says of the index arguments: node, edge and local row numbers in range, the two tables of offsets
    evenly spaced. -/
structure Ranges (nodes : S128x32.Idx → BitVec 32) (local' : S2x8192.Idx → BitVec 32) (eptr : S129.Idx → BitVec 32) (sptr : S17.Idx → BitVec 32)
    (src : S8192.Idx → BitVec 32) : Prop where
  nodes : ∀ j, (nodes j).toNat < 10000
  local' : ∀ j, (local' j).toNat < 32
  eptr : ∀ j : S129.Idx, eptr j = BitVec.ofNat 32 (j 0).val * 64#32
  sptr : ∀ j : S17.Idx, sptr j = BitVec.ofNat 32 (j 0).val * 8#32
  src : ∀ j, (src j).toNat < 160000

/-- A word that is at least 0 and less than `n`, as signed words, is a number below `n`. -/
theorem between (n : ℕ) (hn : n < 2 ^ 31) (v : BitVec 32) (e : IntOp.andi (IntOp.cmpi .sge v 0#32) (IntOp.cmpi .slt v (BitVec.ofNat 32 n)) = 1#1) : v.toNat < n := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  rw [Nat.mod_eq_of_lt (by omega)] at e
  have := v.isLt
  omega

/-- Words that compare equal are equal. -/
theorem same (v w : BitVec 32) (e : IntOp.cmpi .eq v w = 1#1) : v = w := by
  have ofBool_eq_one (p : Bool) : (BitVec.ofBool p = 1#1) ↔ p = true := by cases p <;> decide
  simpa [IntOp.cmpi, ofBool_eq_one] using e

/-- The precondition gives the ranges. -/
theorem ranges_of [FloatOps F] (a0 : FVec F S10000x128 .f32) (a1 : FVec F S160000x16 .f32) (a2 : IVec S128x32 32) (a3 : IVec S2x8192 32) (a4 : IVec S129 32) (a5 : IVec S17 32) (a6 : IVec S8192 32) (a7 : FVec F S129x64 .f32) (a8 : FVec F S128x256 .f32) (a9 : FVec F S256 .f32) (a10 : FVec F S16x256 .f32) (a11 : FVec F S256 .f32) (a12 : FVec F S3x256x256 .f32) (a13 : FVec F S3x256 .f32) (a14 : FVec F S3x256x256 .f32) (a15 : FVec F S3x256 .f32)
    (h : (Cert.Pre_setup_ranges.fn (F := F) a0 a1 a2 a3 a4 a5 a6 a7 a8 a9 a10 a11 a12 a13 a14 a15).1 = (fun _ => 1#1) ∧ (Cert.Pre_setup_ranges.fn (F := F) a0 a1 a2 a3 a4 a5 a6 a7 a8 a9 a10 a11 a12 a13 a14 a15).2.1 = (fun _ => 1#1) ∧ (Cert.Pre_setup_ranges.fn (F := F) a0 a1 a2 a3 a4 a5 a6 a7 a8 a9 a10 a11 a12 a13 a14 a15).2.2.1 = (fun _ => 1#1)
      ∧ (Cert.Pre_setup_ranges.fn (F := F) a0 a1 a2 a3 a4 a5 a6 a7 a8 a9 a10 a11 a12 a13 a14 a15).2.2.2.1 = (fun _ => 1#1) ∧ (Cert.Pre_setup_ranges.fn (F := F) a0 a1 a2 a3 a4 a5 a6 a7 a8 a9 a10 a11 a12 a13 a14 a15).2.2.2.2 = (fun _ => 1#1)) :
    Ranges a2 a3 a4 a5 a6 := by
  obtain ⟨h0, h1, h2, h3, h4⟩ := h
  refine ⟨fun j => between 10000 (by decide) _ (congrFun h0 j), fun j => between 32 (by decide) _ (congrFun h1 j), fun j => same _ _ (congrFun h2 j),
    fun j => same _ _ (congrFun h3 j), fun j => between 160000 (by decide) _ (congrFun h4 j)⟩

/-- The precondition of the kernel's program over the extended reals, read. -/
theorem ranges_ideal (m : (ℓ : Loc nD τ sig) → Buf (Elt Ideal) ℓ) (h : Cert.Pre_KernelIdeal m) (c : Dev nD) :
    Ranges (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) :=
  ranges_of (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (h c)

/-- Under the precondition over the extended reals, the two lists of row numbers are in range. -/
theorem inRange_ideal (m : (ℓ : Loc nD τ sig) → Buf (Elt Ideal) ℓ) (h : Cert.Pre_KernelIdeal m) : InRange (F := Ideal) m :=
  ⟨fun d => (ranges_ideal m h d).nodes, fun d => (ranges_ideal m h d).src⟩

/-- The precondition of the kernel's program over float words, read. -/
theorem inRange_bits (m : (ℓ : Loc nD τ sig) → Buf (Elt Bits) ℓ) (h : Cert.Pre_Kernel m) : InRange (F := Bits) m := by
  have hr : ∀ c : Dev nD, Ranges (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := fun c =>
    ranges_of (F := Bits) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (h c)
  exact ⟨fun d => (hr d).nodes, fun d => (hr d).src⟩

/-- An argument ends as it began. -/
theorem kept [FloatOps F] (m : (ℓ : Loc nD τ sig) → Buf (Elt F) ℓ) (r : PUnit × MemSt nD τ sig (Elt F)) (h : QC m r) (c : Dev nD) (b : Ref sig .tc)
    (hs : b.isScoped = false) (hw : b ∉ written) : r.2.mem ((c.tc : Thread nD τ).loc b) = m ((c.tc : Thread nD τ).loc b) :=
  (h.1 c _ (mem_all b hs)).trans (V6_kept m c b hw)

/-- Every argument ends as it began. -/
theorem all_kept [FloatOps F] (m : (ℓ : Loc nD τ sig) → Buf (Elt F) ℓ) (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨kept m r h c main_arg0 rfl (by decide), kept m r h c main_arg1 rfl (by decide), kept m r h c main_arg2 rfl (by decide), kept m r h c main_arg3 rfl (by decide), kept m r h c main_arg4 rfl (by decide), kept m r h c main_arg5 rfl (by decide), kept m r h c main_arg6 rfl (by decide), kept m r h c main_arg7 rfl (by decide), kept m r h c main_arg8 rfl (by decide), kept m r h c main_arg9 rfl (by decide), kept m r h c main_arg10 rfl (by decide), kept m r h c main_arg11 rfl (by decide), kept m r h c main_arg12 rfl (by decide), kept m r h c main_arg13 rfl (by decide), kept m r h c main_arg14 rfl (by decide), kept m r h c main_arg15 rfl (by decide)⟩

/-- `Cert.quiescent_KernelIdeal`. -/
theorem frame_ideal : Cert.quiescent_KernelIdeal := fun m ρ hpre =>
  (θ_run Cert.KernelIdeal.defs _ _).mono (fun r h => ⟨fun c => all_kept m r h c, h.2⟩) (run_main (F := Ideal) m ρ (inRange_ideal m hpre))

set_option maxHeartbeats 4000000 in
/-- The two programs' kernel bodies are the same. -/
theorem same_bodies : Cert.Kernel.defs₀ (F := Bits) = Cert.KernelIdeal.defs₀ (F := Bits) := by
  funext c ℓ a
  match c, ℓ, a with
  | .scVector _ _, 0, _ => rfl
  | .scVector _ _, 1, _ => rfl
  | .scVector _ _, 2, _ => rfl
  | .scScalar _, 0, _ => rfl
  | .scScalar _, 1, _ => rfl
  | .scScalar _, 2, _ => rfl
  | .tc, 0, _ => rfl
  | .tc, 1, _ => rfl
  | .tc, 2, _ => rfl

set_option maxHeartbeats 4000000 in
/-- The two programs' body tables are the same. -/
theorem same_defs : Cert.Kernel.defs (F := Bits) = Cert.KernelIdeal.defs (F := Bits) :=
  congrArg (fun D => Cert.KernelIdeal.sc.defs (Pipeline.defs (Cert.KernelIdeal.pcfgs (F := Bits)) D)) same_bodies

set_option maxHeartbeats 4000000 in
/-- `Cert.quiescent_Kernel`: the same program text over float words. -/
theorem frame_bits : Cert.quiescent_Kernel := by
  intro m ρ hpre
  have h := run_main (F := Bits) m ρ (inRange_bits m hpre)
  rw [← same_defs] at h
  exact (θ_run (Cert.Kernel.defs (F := Bits)) (Cert.Kernel.threads (F := Bits)) ⟨m, fun _ => 0, ρ⟩).mono
    (fun r h => ⟨fun c => all_kept (F := Bits) m r h c, h.2⟩) h

/-- `Cert.quiescent_ReferenceIdeal`. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- `Cert.quiescent_ReferenceIdeal_pre_setup_ranges`. -/
theorem frame_ref' : Cert.quiescent_ReferenceIdeal_pre_setup_ranges := fun m ρ _ => frame_ref m ρ trivial

end Cert.Proof.Gnn

end
-- ==== Proof.Out.lean ====
/-
  The kernel's result after the run, block by block: row `g` of the result is what grid point `g` wrote of its own blocks.
-/
module

public import proofs.«01_k».proof.Proof.Main
public import Idealize.ShloMosaic.Lib.Pointwise
public import Idealize.ShloMosaic.Lib.Pipeline.Value
public import Idealize.ShloMosaic.Lib.StableHlo.RunRead

@[expose] public section

noncomputable section

namespace Cert.Proof.Gnn

open Idealize.ShloMosaic Cert.KernelIdeal Cert.KernelIdeal.Gen Idealize.SL.Sem
open Idealize.ShloMosaic.Pipeline (Dat)

variable {F : FTy → Type} [FloatOps F]

/-- Different points write different blocks of the first result. -/
theorem inj14 : ∀ t t' : Fin cfg2.N, win2_14.index t = win2_14.index t' → t = t' :=
  (by decide +kernel : ∀ t t' : Fin grid2.N, win2_14.index t = win2_14.index t' → t = t')

/-- And of the second. -/
theorem inj15 : ∀ t t' : Fin cfg2.N, win2_15.index t = win2_15.index t' → t = t' :=
  (by decide +kernel : ∀ t t' : Fin grid2.N, win2_15.index t = win2_15.index t' → t = t')

/-- Different points write the first output at different places. -/
theorem apart14 : ∀ t t' : Fin cfg2.N, (cfg2.win 14).flush t = true → (cfg2.win 14).flush t' = true → t ≠ t' →
    Disjoint ((cfg2.win 14).blk t).view.set ((cfg2.win 14).blk t').view.set :=
  fun t t' _ _ hne => (cfg2.win 14).disjoint_blk fun h => hne (inj14 t t' h)

/-- Different points write the second output at different places. -/
theorem apart15 : ∀ t t' : Fin cfg2.N, (cfg2.win 15).flush t = true → (cfg2.win 15).flush t' = true → t ≠ t' →
    Disjoint ((cfg2.win 15).blk t).view.set ((cfg2.win 15).blk t').view.set :=
  fun t t' _ _ hne => (cfg2.win 15).disjoint_blk fun h => hne (inj15 t t' h)

/-- Every point writes its block back. -/
theorem flush14 : ∀ t : Fin cfg2.N, (cfg2.win 14).flush t = true := (by decide +kernel : ∀ t : Fin grid2.N, win2_14.flush t = true)
/-- Every point writes its block of the second output back. -/
theorem flush15 : ∀ t : Fin cfg2.N, (cfg2.win 15).flush t = true := (by decide +kernel : ∀ t : Fin grid2.N, win2_15.flush t = true)

/-- A grid point of a graph. -/
abbrev pt (g : Fin 16) : Fin cfg2.N := ⟨g.val, g.isLt⟩

/-- Where an element of a point's block lies in the first result. -/
theorem emb14 : ∀ (g : Fin 16) (p : Fin 64), (((cfg2.win 14).blk (pt g)).view.emb (ix3 (0 : Fin 1) (0 : Fin 1) p) : S16x1x64.Idx) = ix3 g 0 p := by
  intro g p
  funext a
  apply Fin.ext
  refine ((cfg2.win 14).rect_emb_val (pt g) _ a).trans ?_
  have h : ∀ (g : Fin 16) (a : Fin 3), win2_14.index (pt g) a = if a = 0 then g.val else 0 := by decide +kernel
  show win2_14.index (pt g) a * _ + _ = _
  rw [h]
  fin_cases a <;> simp [ix3] <;> rfl

/-- Entry `p` of graph `g`'s block of the second output lies in row `g`. -/
theorem emb15 : ∀ (g : Fin 16) (p : Fin 256), (((cfg2.win 15).blk (pt g)).view.emb (ix3 (0 : Fin 1) (0 : Fin 1) p) : S16x1x256.Idx) = ix3 g 0 p := by
  intro g p
  funext a
  apply Fin.ext
  refine ((cfg2.win 15).rect_emb_val (pt g) _ a).trans ?_
  have h : ∀ (g : Fin 16) (a : Fin 3), win2_15.index (pt g) a = if a = 0 then g.val else 0 := by decide +kernel
  show win2_15.index (pt g) a * _ + _ = _
  rw [h]
  fin_cases a <;> simp [ix3] <;> rfl

variable (X : Valuation τ sig (Elt F))

/-- The first result at one element: what the graph's point computed. -/
theorem arr14_at (c : Dev nD) (g : Fin 16) (p : Fin 64) : (arr14 X c : S16x1x64.Idx → F .f32) (ix3 g 0 p) = (blocks X (pt g)).tag (ix3 0 0 p) := by
  have h := (dats X 0 c).arrAt_emb_eq_flushed 14 apart14 (pt g) (flush14 _) (ix3 (0 : Fin 1) (0 : Fin 1) p)
  rw [emb14] at h
  refine h.trans ?_
  show (cfg2.win 14).cut (grid2.coords (pt g)) ((dats X 0 c).after 14 (pt g)) (ix3 (0 : Fin 1) (0 : Fin 1) p) = _
  rw [after_14]
  exact congrFun (View.canon_unit_zero (Val := Elt F) (S := S1x1x64) (e := .f32) (off := ![0, 0, 0]) (by decide) _ (blocks X (pt g)).tag) (ix3 (0 : Fin 1) (0 : Fin 1) p)

/-- The second result at one element: what the graph's point computed. -/
theorem arr15_at (c : Dev nD) (g : Fin 16) (p : Fin 256) : (arr15 X c : S16x1x256.Idx → F .f32) (ix3 g 0 p) = (blocks X (pt g)).mean (ix3 0 0 p) := by
  have h := (dats X 0 c).arrAt_emb_eq_flushed 15 apart15 (pt g) (flush15 _) (ix3 (0 : Fin 1) (0 : Fin 1) p)
  rw [emb15] at h
  refine h.trans ?_
  show (cfg2.win 15).cut (grid2.coords (pt g)) ((dats X 0 c).after 15 (pt g)) (ix3 (0 : Fin 1) (0 : Fin 1) p) = _
  rw [after_15]
  exact congrFun (View.canon_unit_zero (Val := Elt F) (S := S1x1x256) (e := .f32) (off := ![0, 0, 0]) (by decide) _ (blocks X (pt g)).mean) (ix3 (0 : Fin 1) (0 : Fin 1) p)

variable (m : (ℓ : Loc nD τ sig) → Buf (Elt F) ℓ)

/-- The kernel's result at one element: the mean of the tags' rows, then the mean of the nodes. -/
theorem result_at (d : Dev nD) (g : Fin 16) (j : Fin 320) : (V6 m d (Proc.devRef .tc main_v18) : S16x320.Idx → F .f32) (ix2 g j)
    = if h : j.val < 64 then (blocks (V4 m d) (pt g)).tag (ix3 0 0 ⟨j.val, h⟩) else (blocks (V4 m d) (pt g)).mean (ix3 0 0 ⟨j.val - 64, by omega⟩) := by
  have e : (V6 m d (Proc.devRef .tc main_v18) : S16x320.Idx → F .f32)
      = concatenate S16x320 1 [⟨S16x64, shapeCast S16x64 (arr14 (V4 m d) d : S16x1x64.Idx → F .f32) shapeCasts_S16x1x64_S16x64⟩,
        ⟨S16x256, shapeCast S16x256 (arr15 (V4 m d) d : S16x1x256.Idx → F .f32) shapeCasts_S16x1x256_S16x256⟩] concatenates_S16x64_S16x256_S16x320_d1 := by
    have e14 : V5 m d (Proc.devRef .tc main_v15_0) = arr14 (V4 m d) d := left_14 _ _
    have e15 : V5 m d (Proc.devRef .tc main_v15_1) = arr15 (V4 m d) d := left_15 _ _
    rw [← e14, ← e15]
    unfold V6
    generalize V5 m d = W
    after_reads_simp
    rfl
  rw [e]
  have h14 := arr14_at (V4 m d) d g
  have h15 := arr15_at (V4 m d) d g
  generalize arr14 (V4 m d) d = a at h14 ⊢
  generalize arr15 (V4 m d) d = b at h15 ⊢
  generalize blocks (V4 m d) (pt g) = x at h14 h15 ⊢
  pointwise
  simp only [h14, h15]

end Cert.Proof.Gnn

end
-- ==== Proof.Contents.lean ====
/-
  What the dense kernel's blocks hold, in terms of the kernel's arguments: rows of the features that the node numbers name, rows of the edge
  features, the edges' ends, the node numbers, and the weights.
-/
module

public import proofs.«01_k».proof.Proof.Out

@[expose] public section

noncomputable section

namespace Cert.Proof.Gnn

open Idealize.ShloMosaic Cert.KernelIdeal Cert.KernelIdeal.Gen Idealize.SL.Sem

variable {F : FTy → Type} [FloatOps F]

/-- The arguments that the result depends on. -/
structure Args (F : FTy → Type) where
  x : Vec F S10000x128 .f32
  feats : Vec F S160000x16 .f32
  nodes : Vec F S128x32 .i32
  ends : Vec F S2x8192 .i32
  edges : Vec F S8192 .i32
  table : Vec F S129x64 .f32
  wIn : Vec F S128x256 .f32
  bIn : Vec F S256 .f32
  wE : Vec F S16x256 .f32
  bE : Vec F S256 .f32
  w1 : Vec F S3x256x256 .f32
  b1 : Vec F S3x256 .f32
  w2 : Vec F S3x256x256 .f32
  b2 : Vec F S3x256 .f32

section
variable (X : Valuation τ sig (Elt F))

/-- Graph `g`'s block of the gathered node rows: rows 256 g and on. -/
theorem in0 (g : Fin 16) (r : Fin 256) (k : Fin 128) : (block X 0 (pt g) : Vec F S256x128 .f32) (ix2 r k) = (X (Proc.devRef .tc main_v1) : Vec F S4096x128 .f32) (ix2 ⟨256 * g.val + r.val, by omega⟩ k) := by
  refine congrArg (X (Proc.devRef .tc main_v1) : Vec F S4096x128 .f32) (funext fun a => Fin.ext ?_)
  refine ((cfg2.win 0).rect_emb_val (pt g) _ a).trans ?_
  have h : ∀ (g : Fin 16) (a : Fin 2), win2_0.index (pt g) a = if a = 0 then g.val else 0 := by decide +kernel
  show win2_0.index (pt g) a * _ + _ = _
  rw [h]
  fin_cases a
  · show g.val * 256 + _ = _
    simp [ix2, Nat.mul_comm]
  · simp [ix2]

/-- Graph `g`'s block of the gathered edge rows: rows 512 g and on. -/
theorem in1 (g : Fin 16) (r : Fin 512) (k : Fin 16) : (block X 1 (pt g) : Vec F S512x16 .f32) (ix2 r k) = (X (Proc.devRef .tc main_v2) : Vec F S8192x16 .f32) (ix2 ⟨512 * g.val + r.val, by omega⟩ k) := by
  refine congrArg (X (Proc.devRef .tc main_v2) : Vec F S8192x16 .f32) (funext fun a => Fin.ext ?_)
  refine ((cfg2.win 1).rect_emb_val (pt g) _ a).trans ?_
  have h : ∀ (g : Fin 16) (a : Fin 2), win2_1.index (pt g) a = if a = 0 then g.val else 0 := by decide +kernel
  show win2_1.index (pt g) a * _ + _ = _
  rw [h]
  fin_cases a
  · show g.val * 512 + _ = _
    simp [ix2, Nat.mul_comm]
  · simp [ix2]

/-- Graph `g`'s block of the sources. -/
theorem in2 (g : Fin 16) (e : Fin 512) : (block X 2 (pt g) : Vec F S1x1x512 .i32) (ix3 0 0 e) = (X (Proc.devRef .tc main_v5) : Vec F S16x1x512 .i32) (ix3 g 0 e) := by
  refine congrArg (X (Proc.devRef .tc main_v5) : Vec F S16x1x512 .i32) (funext fun a => Fin.ext ?_)
  refine ((cfg2.win 2).rect_emb_val (pt g) _ a).trans ?_
  have h : ∀ (g : Fin 16) (a : Fin 3), win2_2.index (pt g) a = if a = 0 then g.val else 0 := by decide +kernel
  show win2_2.index (pt g) a * _ + _ = _
  rw [h]
  fin_cases a
  · show g.val * 1 + _ = _
    simp [ix3]
  · simp [ix3]
  · simp [ix3]

/-- Graph `g`'s block of the targets. -/
theorem in3 (g : Fin 16) (e : Fin 512) : (block X 3 (pt g) : Vec F S1x1x512 .i32) (ix3 0 0 e) = (X (Proc.devRef .tc main_v8) : Vec F S16x1x512 .i32) (ix3 g 0 e) := by
  refine congrArg (X (Proc.devRef .tc main_v8) : Vec F S16x1x512 .i32) (funext fun a => Fin.ext ?_)
  refine ((cfg2.win 3).rect_emb_val (pt g) _ a).trans ?_
  have h : ∀ (g : Fin 16) (a : Fin 3), win2_3.index (pt g) a = if a = 0 then g.val else 0 := by decide +kernel
  show win2_3.index (pt g) a * _ + _ = _
  rw [h]
  fin_cases a
  · show g.val * 1 + _ = _
    simp [ix3]
  · simp [ix3]
  · simp [ix3]

/-- Graph `g`'s block of the node numbers. -/
theorem in4 (g : Fin 16) (s : Fin 8) (k : Fin 32) : (block X 4 (pt g) : Vec F S1x8x32 .i32) (ix3 0 s k) = (X (Proc.devRef .tc main_v9) : Vec F S16x8x32 .i32) (ix3 g s k) := by
  refine congrArg (X (Proc.devRef .tc main_v9) : Vec F S16x8x32 .i32) (funext fun a => Fin.ext ?_)
  refine ((cfg2.win 4).rect_emb_val (pt g) _ a).trans ?_
  have h : ∀ (g : Fin 16) (a : Fin 3), win2_4.index (pt g) a = if a = 0 then g.val else 0 := by decide +kernel
  show win2_4.index (pt g) a * _ + _ = _
  rw [h]
  fin_cases a
  · show g.val * 1 + _ = _
    simp [ix3]
  · simp [ix3]
  · simp [ix3]

/-- The block of the padded table is the whole of it. -/
theorem in5 (g : Fin 16) : (block X 5 (pt g) : Vec F S136x64 .f32) = (X (Proc.devRef .tc main_v10) : Vec F S136x64 .f32) := by
  funext i
  refine congrArg (X (Proc.devRef .tc main_v10) : Vec F S136x64 .f32) (funext fun a => Fin.ext ?_)
  have h : ∀ (g : Fin 16) (a : Fin 2), win2_5.index (pt g) a = 0 := by decide +kernel
  exact (cfg2.win 5).rect_emb_val_of_index_zero (pt g) a (h g a) i

/-- The block of the nodes' dense map is the whole of it. -/
theorem in6 (g : Fin 16) : (block X 6 (pt g) : Vec F S128x256 .f32) = (X (Proc.devRef .tc main_arg8) : Vec F S128x256 .f32) := by
  funext i
  refine congrArg (X (Proc.devRef .tc main_arg8) : Vec F S128x256 .f32) (funext fun a => Fin.ext ?_)
  have h : ∀ (g : Fin 16) (a : Fin 2), win2_6.index (pt g) a = 0 := by decide +kernel
  exact (cfg2.win 6).rect_emb_val_of_index_zero (pt g) a (h g a) i

/-- The block of the nodes' bias is the whole of it. -/
theorem in7 (g : Fin 16) : (block X 7 (pt g) : Vec F S1x256 .f32) = (X (Proc.devRef .tc main_v11) : Vec F S1x256 .f32) := by
  funext i
  refine congrArg (X (Proc.devRef .tc main_v11) : Vec F S1x256 .f32) (funext fun a => Fin.ext ?_)
  have h : ∀ (g : Fin 16) (a : Fin 2), win2_7.index (pt g) a = 0 := by decide +kernel
  exact (cfg2.win 7).rect_emb_val_of_index_zero (pt g) a (h g a) i

/-- The block of the edges' dense map is the whole of it. -/
theorem in8 (g : Fin 16) : (block X 8 (pt g) : Vec F S16x256 .f32) = (X (Proc.devRef .tc main_arg10) : Vec F S16x256 .f32) := by
  funext i
  refine congrArg (X (Proc.devRef .tc main_arg10) : Vec F S16x256 .f32) (funext fun a => Fin.ext ?_)
  have h : ∀ (g : Fin 16) (a : Fin 2), win2_8.index (pt g) a = 0 := by decide +kernel
  exact (cfg2.win 8).rect_emb_val_of_index_zero (pt g) a (h g a) i

/-- The block of the edges' bias is the whole of it. -/
theorem in9 (g : Fin 16) : (block X 9 (pt g) : Vec F S1x256 .f32) = (X (Proc.devRef .tc main_v12) : Vec F S1x256 .f32) := by
  funext i
  refine congrArg (X (Proc.devRef .tc main_v12) : Vec F S1x256 .f32) (funext fun a => Fin.ext ?_)
  have h : ∀ (g : Fin 16) (a : Fin 2), win2_9.index (pt g) a = 0 := by decide +kernel
  exact (cfg2.win 9).rect_emb_val_of_index_zero (pt g) a (h g a) i

/-- The block of the layers' first maps is the whole of it. -/
theorem in10 (g : Fin 16) : (block X 10 (pt g) : Vec F S3x256x256 .f32) = (X (Proc.devRef .tc main_arg12) : Vec F S3x256x256 .f32) := by
  funext i
  refine congrArg (X (Proc.devRef .tc main_arg12) : Vec F S3x256x256 .f32) (funext fun a => Fin.ext ?_)
  have h : ∀ (g : Fin 16) (a : Fin 3), win2_10.index (pt g) a = 0 := by decide +kernel
  exact (cfg2.win 10).rect_emb_val_of_index_zero (pt g) a (h g a) i

/-- The block of the layers' first biases is the whole of it. -/
theorem in11 (g : Fin 16) : (block X 11 (pt g) : Vec F S3x1x256 .f32) = (X (Proc.devRef .tc main_v13) : Vec F S3x1x256 .f32) := by
  funext i
  refine congrArg (X (Proc.devRef .tc main_v13) : Vec F S3x1x256 .f32) (funext fun a => Fin.ext ?_)
  have h : ∀ (g : Fin 16) (a : Fin 3), win2_11.index (pt g) a = 0 := by decide +kernel
  exact (cfg2.win 11).rect_emb_val_of_index_zero (pt g) a (h g a) i

/-- The block of the layers' second maps is the whole of it. -/
theorem in12 (g : Fin 16) : (block X 12 (pt g) : Vec F S3x256x256 .f32) = (X (Proc.devRef .tc main_arg14) : Vec F S3x256x256 .f32) := by
  funext i
  refine congrArg (X (Proc.devRef .tc main_arg14) : Vec F S3x256x256 .f32) (funext fun a => Fin.ext ?_)
  have h : ∀ (g : Fin 16) (a : Fin 3), win2_12.index (pt g) a = 0 := by decide +kernel
  exact (cfg2.win 12).rect_emb_val_of_index_zero (pt g) a (h g a) i

/-- The block of the layers' second biases is the whole of it. -/
theorem in13 (g : Fin 16) : (block X 13 (pt g) : Vec F S3x1x256 .f32) = (X (Proc.devRef .tc main_v14) : Vec F S3x1x256 .f32) := by
  funext i
  refine congrArg (X (Proc.devRef .tc main_v14) : Vec F S3x1x256 .f32) (funext fun a => Fin.ext ?_)
  have h : ∀ (g : Fin 16) (a : Fin 3), win2_13.index (pt g) a = 0 := by decide +kernel
  exact (cfg2.win 13).rect_emb_val_of_index_zero (pt g) a (h g a) i

end

variable (m : (ℓ : Loc nD τ sig) → Buf (Elt F) ℓ) (d : Dev nD)

/-- The arguments as the memory holds them. -/
def argsOf : Args F where
  x := m ((SparseCore.T d).loc main_arg0)
  feats := m ((SparseCore.T d).loc main_arg1)
  nodes := m ((SparseCore.T d).loc main_arg2)
  ends := m ((SparseCore.T d).loc main_arg3)
  edges := m ((SparseCore.T d).loc main_arg6)
  table := m ((SparseCore.T d).loc main_arg7)
  wIn := m ((SparseCore.T d).loc main_arg8)
  bIn := m ((SparseCore.T d).loc main_arg9)
  wE := m ((SparseCore.T d).loc main_arg10)
  bE := m ((SparseCore.T d).loc main_arg11)
  w1 := m ((SparseCore.T d).loc main_arg12)
  b1 := m ((SparseCore.T d).loc main_arg13)
  w2 := m ((SparseCore.T d).loc main_arg14)
  b2 := m ((SparseCore.T d).loc main_arg15)

/-- An argument is as launched when the dense kernel starts. -/
theorem V4_arg (r : Ref sig .tc) (h : r ∉ written) : V4 m d (Proc.devRef .tc r) = m ((SparseCore.T d).loc r) := by
  simp only [written, List.mem_cons, List.not_mem_nil, or_false, not_or] at h
  obtain ⟨h0, h1, h2, h3, h4, h5, h6, h7, h8, h9, hc, hc0, h10, h11, h12, h13, h14, h15, h15', h16, h17, h18⟩ := h
  rw [V4_of m d r (by simp [written1, *]), V3_of m d r h2 h1 h0]

/-- The gathered node features. -/
theorem V4_v1 : (V4 m d (Proc.devRef .tc main_v1) : Vec F S4096x128 .f32) = takeX (argsOf m d).x (shapeCast S4096 (argsOf m d).nodes shapeCasts_S128x32_S4096) := by
  rw [V4_of m d main_v1 (by decide)]
  unfold V3 V2
  rw [Function.update_of_ne (by decide), Function.update_self, V1_v0]
  unfold V1
  rw [StableHlo.reshape_result_ne _ _ _ _ _ _ _ (by decide)]
  rfl

/-- The gathered edge features. -/
theorem V4_v2 : (V4 m d (Proc.devRef .tc main_v2) : Vec F S8192x16 .f32) = takeE (argsOf m d).feats (argsOf m d).edges := by
  rw [V4_of m d main_v2 (by decide)]
  unfold V3
  rw [Function.update_self, V2_arg6]
  unfold V2 V1
  rw [Function.update_of_ne (by decide), StableHlo.reshape_result_ne _ _ _ _ _ _ _ (by decide)]
  rfl

/-- Before the region, the sources by graph: row 0 of the edge ends, regrouped. -/
theorem V4_v5 : (V4 m d (Proc.devRef .tc main_v5) : Vec F S16x1x512 .i32) = shapeCast S16x1x512 (shapeCast S8192 (extractStridedSlice S1x8192 ![0, 0] (argsOf m d).ends slices_S2x8192_S1x8192_0_0) shapeCasts_S1x8192_S8192) shapeCasts_S8192_S16x1x512 := by
  have e3 : V3 m d (Proc.devRef .tc main_arg3) = m ((SparseCore.T d).loc main_arg3) := V3_of m d main_arg3 (by decide) (by decide) (by decide)
  unfold V4
  generalize V3 m d = W at e3 ⊢
  after_reads_simp
  rw [e3]
  rfl

/-- Before the region, the targets by graph: row 1 of the edge ends, regrouped. -/
theorem V4_v8 : (V4 m d (Proc.devRef .tc main_v8) : Vec F S16x1x512 .i32) = shapeCast S16x1x512 (shapeCast S8192 (extractStridedSlice S1x8192 ![1, 0] (argsOf m d).ends slices_S2x8192_S1x8192_1_0) shapeCasts_S1x8192_S8192) shapeCasts_S8192_S16x1x512 := by
  have e3 : V3 m d (Proc.devRef .tc main_arg3) = m ((SparseCore.T d).loc main_arg3) := V3_of m d main_arg3 (by decide) (by decide) (by decide)
  unfold V4
  generalize V3 m d = W at e3 ⊢
  after_reads_simp
  rw [e3]
  rfl

/-- Before the region, the node numbers by graph. -/
theorem V4_v9 : (V4 m d (Proc.devRef .tc main_v9) : Vec F S16x8x32 .i32) = shapeCast S16x8x32 (argsOf m d).nodes shapeCasts_S128x32_S16x8x32 := by
  have e2 : V3 m d (Proc.devRef .tc main_arg2) = m ((SparseCore.T d).loc main_arg2) := V3_of m d main_arg2 (by decide) (by decide) (by decide)
  unfold V4
  generalize V3 m d = W at e2 ⊢
  after_reads_simp
  rw [e2]
  rfl

/-- Before the region, the table with seven rows added. -/
theorem V4_v10 : (V4 m d (Proc.devRef .tc main_v10) : Vec F S136x64 .f32) = pad S136x64 ![0, 0] ![7, 0] ![0, 0] (argsOf m d).table (sitofp .f32 (constantI S_ 32 0#32)) pads_S129x64_S136x64_070_000 h_S_ := by
  have e7 : V3 m d (Proc.devRef .tc main_arg7) = m ((SparseCore.T d).loc main_arg7) := V3_of m d main_arg7 (by decide) (by decide) (by decide)
  unfold V4
  generalize V3 m d = W at e7 ⊢
  after_reads_simp
  rw [e7]
  rfl

/-- Before the region, the nodes' bias as a row. -/
theorem V4_v11 : (V4 m d (Proc.devRef .tc main_v11) : Vec F S1x256 .f32) = shapeCast S1x256 (argsOf m d).bIn shapeCasts_S256_S1x256 := by
  have e9 : V3 m d (Proc.devRef .tc main_arg9) = m ((SparseCore.T d).loc main_arg9) := V3_of m d main_arg9 (by decide) (by decide) (by decide)
  unfold V4
  generalize V3 m d = W at e9 ⊢
  after_reads_simp
  rw [e9]
  rfl

/-- Before the region, the edges' bias as a row. -/
theorem V4_v12 : (V4 m d (Proc.devRef .tc main_v12) : Vec F S1x256 .f32) = shapeCast S1x256 (argsOf m d).bE shapeCasts_S256_S1x256 := by
  have e11 : V3 m d (Proc.devRef .tc main_arg11) = m ((SparseCore.T d).loc main_arg11) := V3_of m d main_arg11 (by decide) (by decide) (by decide)
  unfold V4
  generalize V3 m d = W at e11 ⊢
  after_reads_simp
  rw [e11]
  rfl

/-- Before the region, the layers' first biases as rows. -/
theorem V4_v13 : (V4 m d (Proc.devRef .tc main_v13) : Vec F S3x1x256 .f32) = shapeCast S3x1x256 (argsOf m d).b1 shapeCasts_S3x256_S3x1x256 := by
  have e13 : V3 m d (Proc.devRef .tc main_arg13) = m ((SparseCore.T d).loc main_arg13) := V3_of m d main_arg13 (by decide) (by decide) (by decide)
  unfold V4
  generalize V3 m d = W at e13 ⊢
  after_reads_simp
  rw [e13]
  rfl

/-- Before the region, the layers' second biases as rows. -/
theorem V4_v14 : (V4 m d (Proc.devRef .tc main_v14) : Vec F S3x1x256 .f32) = shapeCast S3x1x256 (argsOf m d).b2 shapeCasts_S3x256_S3x1x256 := by
  have e15 : V3 m d (Proc.devRef .tc main_arg15) = m ((SparseCore.T d).loc main_arg15) := V3_of m d main_arg15 (by decide) (by decide) (by decide)
  unfold V4
  generalize V3 m d = W at e15 ⊢
  after_reads_simp
  rw [e15]
  rfl

end Cert.Proof.Gnn

end
-- ==== Proof.Spec.lean ====
/-
  The mathematics of the two programs, over rows and columns as functions to the extended reals: one message-passing layer over any nodes and
  edges, and how a layer over a part of the graph that no edge leaves is the part of the layer.
-/
module

public import Mathlib.Data.EReal.Operations
public import Mathlib.Algebra.BigOperators.Fin
public import Mathlib.Algebra.BigOperators.Group.Finset.Piecewise

@[expose] public section

noncomputable section

namespace Cert.Proof.Gnn

/-- The larger of a number and zero. -/
def relu (a : EReal) : EReal := max a 0

section layer

variable {R E : Type} [DecidableEq R] [Fintype E]

/-- A node's row with what its edges bring added. -/
def gathered (src dst : E → R) (ef : E → Fin 256 → EReal) (h : R → Fin 256 → EReal) (r : R) (p : Fin 256) : EReal :=
  h r p + ∑ e, if dst e = r then relu (h (src e) p + ef e p) else 0

/-- A layer's hidden row. -/
def hidden (w1 : Fin 256 → Fin 256 → EReal) (b1 : Fin 256 → EReal) (z : R → Fin 256 → EReal) (r : R) (q : Fin 256) : EReal :=
  relu (∑ p, z r p * w1 p q + b1 q)

/-- One layer: the two dense maps of the gathered rows, added to the rows. -/
def layer (src dst : E → R) (ef : E → Fin 256 → EReal) (w1 : Fin 256 → Fin 256 → EReal) (b1 : Fin 256 → EReal) (w2 : Fin 256 → Fin 256 → EReal)
    (b2 : Fin 256 → EReal) (h : R → Fin 256 → EReal) (r : R) (j : Fin 256) : EReal :=
  h r j + (∑ q, hidden w1 b1 (gathered src dst ef h) r q * w2 q j + b2 j)

end layer

section part

variable {R E R' E' : Type} [DecidableEq R] [DecidableEq R'] [Fintype E] [Fintype E']

/-- A layer of the part of the graph that lies under `ι` and `κ` is the part of the layer, if the edges of the part are just those that end in it. -/
theorem layer_part (ι : R' → R) (hι : Function.Injective ι) (κ : E' → E) (hκ : Function.Injective κ) (src dst : E → R) (src' dst' : E' → R')
    (hs : ∀ e, src (κ e) = ι (src' e)) (hd : ∀ e, dst (κ e) = ι (dst' e)) (hout : ∀ e, e ∉ Set.range κ → ∀ r, dst e ≠ ι r)
    (ef : E → Fin 256 → EReal) (ef' : E' → Fin 256 → EReal) (hef : ∀ e p, ef' e p = ef (κ e) p)
    (w1 : Fin 256 → Fin 256 → EReal) (b1 : Fin 256 → EReal) (w2 : Fin 256 → Fin 256 → EReal) (b2 : Fin 256 → EReal)
    (h : R → Fin 256 → EReal) (h' : R' → Fin 256 → EReal) (hh : ∀ r p, h' r p = h (ι r) p) (r : R') (j : Fin 256) :
    layer src' dst' ef' w1 b1 w2 b2 h' r j = layer src dst ef w1 b1 w2 b2 h (ι r) j := by
  have hg : ∀ p, gathered src' dst' ef' h' r p = gathered src dst ef h (ι r) p := by
    intro p
    unfold gathered
    rw [hh]
    congr 1
    refine Fintype.sum_of_injective κ hκ _ _ (fun e he => if_neg (hout e he r)) fun e => ?_
    rw [hd, hs, hh, hef]
    by_cases c : dst' e = r
    · rw [if_pos c, if_pos (congrArg ι c)]
    · rw [if_neg c, if_neg fun q => c (hι q)]
  unfold layer hidden
  rw [hh]
  simp only [hg]

end part

/-- A sum weighted by the indicator of one index is the value there. -/
theorem sum_hot {n : ℕ} (s : Fin n) (f : Fin n → EReal) : ∑ k, (if k = s then (1 : EReal) else 0) * f k = f s := by
  simp only [ite_mul, one_mul, zero_mul, Finset.sum_ite_eq', Finset.mem_univ, if_true]

/-- A sum weighted by the indicators of a condition is the sum over where it holds. -/
theorem sum_where {n m : ℕ} (d : Fin n → Fin m) (r : Fin m) (f : Fin n → EReal) :
    ∑ e, (if r = d e then (1 : EReal) else 0) * f e = ∑ e, if d e = r then f e else 0 := by
  refine Finset.sum_congr rfl fun e _ => ?_
  rw [ite_mul, one_mul, zero_mul]
  simp only [eq_comm]

/-- A positive finite factor comes out of a sum. -/
theorem sum_mul_pos {α : Type} (s : Finset α) (f : α → EReal) (c : EReal) (h0 : 0 ≤ c) (h1 : c ≠ ⊤) : ∑ a ∈ s, f a * c = (∑ a ∈ s, f a) * c := by
  classical
  induction s using Finset.induction_on with
  | empty => simp
  | insert a s ha ih => rw [Finset.sum_insert ha, Finset.sum_insert ha, ih, EReal.right_distrib_of_nonneg_of_ne_top h0 h1]

end Cert.Proof.Gnn

end
-- ==== Proof.BlockValue.lean ====
/-
  What the dense kernel's body computes of one graph's blocks, over the extended reals: the encoded rows, three layers of message passing over the
  graph's 256 nodes and 512 edges, their mean, and the mean of the table's rows that the subgraphs' tags name.
-/
module

public import proofs.«01_k».proof.Proof.Tc
public import proofs.«01_k».proof.Proof.Spec
public import Idealize.ShloMosaic.Lib.Pointwise

@[expose] public section

noncomputable section

namespace Cert.Proof.Gnn

open Idealize.ShloMosaic Cert.KernelIdeal Cert.KernelIdeal.Gen

/-- The word 32 * (e / 64), as the body computes it. -/
theorem offs_word (e : Fin 512) : k2_pay8 k2_pay4 k2_pay5 k2_pay6 k2_pay7 (ix2 0 e) = BitVec.ofNat 32 (32 * (e.val / 64)) := by
  pointwise [k2_pay8, k2_pay4, k2_pay5, k2_pay6, k2_pay7]
  revert e
  decide +kernel

/-- An indicator word as an extended real. -/
theorem hot_word (a b : BitVec 32) : (FloatOps.sitofp (F := Ideal) .f32 (BitVec.setWidth 32 (IntOp.cmpi .eq a b)) : EReal) = if a = b then 1 else 0 := by
  have h1 : (FloatOps.sitofp (F := Ideal) .f32 (1#32 : BitVec 32) : EReal) = 1 := by
    show (((1#32 : BitVec 32).toInt : ℝ) : EReal) = 1
    simp
  have h0 : (FloatOps.sitofp (F := Ideal) .f32 (0#32 : BitVec 32) : EReal) = 0 := by
    show (((0#32 : BitVec 32).toInt : ℝ) : EReal) = 0
    simp
  by_cases c : a = b
  · rw [if_pos c, ← h1]
    congr 1
    subst c
    simp [IntOp.cmpi]
  · rw [if_neg c, ← h0]
    congr 1
    have : (a == b) = false := by simpa using c
    simp [IntOp.cmpi, this]

/-- An edge's end among the graph's 256 nodes: its local number, from the rows of its subgraph on. -/
def endOf (v : BitVec 32) (e : Fin 512) : Fin 256 := ⟨32 * (e.val / 64) + v.toNat % 32, by have := e.isLt; omega⟩

/-- An edge's word plus 32 times its subgraph is the word of row `r` just when `r` is the edge's end. -/
theorem hot_end (v : BitVec 32) (hv : v.toNat < 32) (r : Fin 256) (e : Fin 512) :
    (BitVec.ofNat 32 r.val = IntOp.addi v (BitVec.ofNat 32 (32 * (e.val / 64)))) ↔ r = endOf v e := by
  have he := e.isLt
  have hr := r.isLt
  rw [Fin.ext_iff, ← BitVec.toNat_inj]
  simp only [IntOp.addi, endOf, BitVec.toNat_add, BitVec.toNat_ofNat, Nat.reducePow]
  omega

/-- Entry `(r, e)` of the matrix of sources is 1 if `r` is the source of edge `e`, else 0. -/
theorem srcs_at (v : Vec Ideal S1x1x512 .i32) (hv : ∀ e, (v (ix3 0 0 e)).toNat < 32) (r : Fin 256) (e : Fin 512) :
    k2_pay9 k2_pay4 k2_pay5 k2_pay6 k2_pay7 v (ix2 r e) = if r = endOf (v (ix3 0 0 e)) e then 1 else 0 := by
  have h : k2_pay9 k2_pay4 k2_pay5 k2_pay6 k2_pay7 v (ix2 r e)
      = FloatOps.sitofp (F := Ideal) .f32 (BitVec.setWidth 32 (IntOp.cmpi .eq (BitVec.ofNat 32 r.val)
          (IntOp.addi (v (ix3 0 0 e)) (k2_pay8 k2_pay4 k2_pay5 k2_pay6 k2_pay7 (ix2 0 e))))) := by
    pointwise [k2_pay9]
  rw [h, offs_word, hot_word]
  exact if_congr (hot_end _ (hv e) r e) rfl rfl

/-- Entry `(r, e)` of the matrix of targets is 1 if `r` is the target of edge `e`, else 0. -/
theorem dsts_at (v : Vec Ideal S1x1x512 .i32) (hv : ∀ e, (v (ix3 0 0 e)).toNat < 32) (r : Fin 256) (e : Fin 512) :
    k2_pay10 k2_pay4 k2_pay5 k2_pay6 k2_pay7 v (ix2 r e) = if r = endOf (v (ix3 0 0 e)) e then 1 else 0 := by
  have h : k2_pay10 k2_pay4 k2_pay5 k2_pay6 k2_pay7 v (ix2 r e)
      = FloatOps.sitofp (F := Ideal) .f32 (BitVec.setWidth 32 (IntOp.cmpi .eq (BitVec.ofNat 32 r.val)
          (IntOp.addi (v (ix3 0 0 e)) (k2_pay8 k2_pay4 k2_pay5 k2_pay6 k2_pay7 (ix2 0 e))))) := by
    pointwise [k2_pay10]
  rw [h, offs_word, hot_word]
  exact if_congr (hot_end _ (hv e) r e) rfl rfl

section

variable (x : Blocks Ideal)

/-- The rows of the graph's nodes as the encoder leaves them. -/
def row0 (r p : Fin 256) : EReal := relu (∑ k, x.gx (ix2 r k) * x.aw (ix2 k p) + x.ab (ix2 0 p))
/-- The rows of its edges. -/
def erow (e : Fin 512) (p : Fin 256) : EReal := ∑ k, x.ge (ix2 e k) * x.bw (ix2 k p) + x.bb (ix2 0 p)
/-- Layer `l` of the graph. -/
def step (l : Fin 3) (h : Fin 256 → Fin 256 → EReal) : Fin 256 → Fin 256 → EReal :=
  layer (fun e => endOf (x.sl (ix3 0 0 e)) e) (fun e => endOf (x.dl (ix3 0 0 e)) e) (erow x) (fun p q => x.w1 (ix3 l p q)) (fun q => x.b1 (ix3 l 0 q))
    (fun p q => x.w2 (ix3 l p q)) (fun q => x.b2 (ix3 l 0 q)) h

/-- The block's first node rows, entry by entry. -/
theorem nodes_at (r p : Fin 256) : x.nodes (ix2 r p) = row0 x r p := by
  pointwise [Blocks.nodes, k2_pay2, row0, relu]

/-- The block's edge rows, entry by entry. -/
theorem edges_at (e : Fin 512) (p : Fin 256) : x.edges (ix2 e p) = erow x e p := by
  pointwise [Blocks.edges, k2_pay3, erow]

variable (hs : ∀ e, (x.sl (ix3 0 0 e)).toNat < 32) (hd : ∀ e, (x.dl (ix3 0 0 e)).toNat < 32)

include hs in
/-- The matrix of sources, from the words that the body loads. -/
theorem ld_srcs (r : Fin 256) (e : Fin 512) :
    k2_pay9 k2_pay4 k2_pay5 k2_pay6 k2_pay7 (View.ld x.sl q1x1x512) (ix2 r e) = if r = endOf (x.sl (ix3 0 0 e)) e then 1 else 0 := by
  have hl : ∀ e : Fin 512, View.ld x.sl q1x1x512 (ix3 0 0 e) = x.sl (ix3 0 0 e) := fun e => by pointwise
  rw [srcs_at _ (fun e => by rw [hl]; exact hs e), hl]

include hd in
/-- The matrix of targets, from the words that the body loads. -/
theorem ld_dsts (r : Fin 256) (e : Fin 512) :
    k2_pay10 k2_pay4 k2_pay5 k2_pay6 k2_pay7 (View.ld x.dl q1x1x512) (ix2 r e) = if r = endOf (x.dl (ix3 0 0 e)) e then 1 else 0 := by
  have hl : ∀ e : Fin 512, View.ld x.dl q1x1x512 (ix3 0 0 e) = x.dl (ix3 0 0 e) := fun e => by pointwise
  rw [dsts_at _ (fun e => by rw [hl]; exact hd e), hl]

include hs hd in
/-- The first layer's hidden rows. -/
theorem hid_at (r q : Fin 256) : x.hid (ix2 r q) = hidden (fun p q => x.w1 (ix3 0 p q)) (fun q => x.b1 (ix3 0 0 q))
    (gathered (fun e => endOf (x.sl (ix3 0 0 e)) e) (fun e => endOf (x.dl (ix3 0 0 e)) e) (erow x) (row0 x)) r q := by
  pointwise [Blocks.hid, k2_pay11]
  simp only [ld_srcs x hs, ld_dsts x hd, nodes_at, edges_at, sum_hot, sum_where, hidden, gathered, relu]

include hs hd in
/-- The nodes after two layers. -/
theorem nodes2_at (r q : Fin 256) : x.nodes2 (ix2 r q) = step x 1 (step x 0 (row0 x)) r q := by
  have h9 : ∀ r e, x.srcs (ix2 r e) = if r = endOf (x.sl (ix3 0 0 e)) e then 1 else 0 := ld_srcs x hs
  have h10 : ∀ r e, x.dsts (ix2 r e) = if r = endOf (x.dl (ix3 0 0 e)) e then 1 else 0 := ld_dsts x hd
  have h1 : ∀ r q, row0 x r q + (∑ k, hidden (fun p q => x.w1 (ix3 0 p q)) (fun q => x.b1 (ix3 0 0 q))
      (gathered (fun e => endOf (x.sl (ix3 0 0 e)) e) (fun e => endOf (x.dl (ix3 0 0 e)) e) (erow x) (row0 x)) r k * x.w2 (ix3 0 k q) + x.b2 (ix3 0 0 q))
      = step x 0 (row0 x) r q := fun r q => rfl
  pointwise [Blocks.nodes2, k2_pay12]
  simp only [h9, h10, nodes_at, edges_at, hid_at x hs hd, sum_hot, sum_where, h1]
  generalize step x 0 (row0 x) = h
  simp only [step, layer, hidden, gathered, relu]

include hs hd in
/-- What the third layer's edges bring, added to the rows. -/
theorem msgs3_at (r q : Fin 256) : step x 1 (step x 0 (row0 x)) r q + x.msgs3 (ix2 r q)
    = gathered (fun e => endOf (x.sl (ix3 0 0 e)) e) (fun e => endOf (x.dl (ix3 0 0 e)) e) (erow x) (step x 1 (step x 0 (row0 x))) r q := by
  have h9 : ∀ r e, x.srcs (ix2 r e) = if r = endOf (x.sl (ix3 0 0 e)) e then 1 else 0 := ld_srcs x hs
  have h10 : ∀ r e, x.dsts (ix2 r e) = if r = endOf (x.dl (ix3 0 0 e)) e then 1 else 0 := ld_dsts x hd
  have hm : ∀ V : FVec Ideal S256x256 .f32, V = x.nodes2 →
      x.msgs3 (ix2 r q) = ∑ e, x.dsts (ix2 r e) * max (∑ k, x.srcs (ix2 k e) * V (ix2 k q) + x.edges (ix2 e q)) 0 := by
    intro V hV
    have h12 : k2_pay12 x.nodes x.edges x.srcs x.dsts x.hid (View.ld x.w2 qW0) (View.ld x.b2 qB0) (View.ld x.w1 qW1) (View.ld x.b1 qB1)
      (View.ld x.w2 qW1) (View.ld x.b2 qB1) = V := hV.symm
    pointwise [Blocks.msgs3, k2_pay13, h12]
  rw [hm _ rfl]
  simp only [h9, h10, nodes2_at x hs hd, edges_at, sum_hot, sum_where, gathered, relu]

include hs hd in
/-- The graph's mean row. -/
theorem mean_at (q : Fin 256) : x.mean (ix3 0 0 q) = (∑ r, step x 2 (step x 1 (step x 0 (row0 x))) r q) * Ideal.ofBits .f32 0x3B800000#32 := by
  pointwise [Blocks.mean, k2_pay14]
  simp only [nodes2_at x hs hd, msgs3_at x hs hd]
  generalize step x 1 (step x 0 (row0 x)) = h
  simp only [step, layer, hidden, relu]

end

end Cert.Proof.Gnn

end
-- ==== Proof.Tag.lean ====
/-
  The tag of a subgraph: its node numbers' sum modulo 128, as the dense kernel's body computes it, and the mean of the table's rows
  that eight subgraphs' tags name.
-/
module

public import proofs.«01_k».proof.Proof.BlockValue

@[expose] public section

noncomputable section

namespace Cert.Proof.Gnn

open Idealize.ShloMosaic Cert.KernelIdeal Cert.KernelIdeal.Gen

/-- A sum of words is the word of the sum. -/
theorem fold_words {ι : Type} (s : Finset ι) (w : ι → BitVec 32) :
    Finset.fold (IntOp.addi (w := 32)) (0#32) w s = BitVec.ofNat 32 (∑ k ∈ s, (w k).toNat) := by
  classical
  induction s using Finset.induction_on with
  | empty => simp
  | insert a s h ih =>
    rw [Finset.fold_insert h, ih, Finset.sum_insert h]
    apply BitVec.eq_of_toNat_eq
    simp [IntOp.addi]

/-- The remainder by 128 of a nonnegative word. -/
theorem rem_word {u : ArithUnit} (n : ℕ) (h : n < 2 ^ 31) : IntOp.remsi u (BitVec.ofNat 32 n) 128#32 = BitVec.ofNat 32 (n % 128) := by
  unfold IntOp.remsi
  rw [if_neg (by unfold IntOp.SDivCorner; simp)]
  have hm : (BitVec.ofNat 32 n).msb = false := by
    rw [BitVec.msb_eq_false_iff_two_mul_lt, BitVec.toNat_ofNat]; omega
  rw [BitVec.srem_eq, hm]
  show (BitVec.ofNat 32 n) % 128#32 = _
  apply BitVec.eq_of_toNat_eq
  rw [BitVec.toNat_umod, BitVec.toNat_ofNat, BitVec.toNat_ofNat, Nat.mod_eq_of_lt (show n < 2 ^ 32 by omega),
    BitVec.toNat_ofNat, Nat.mod_eq_of_lt (show n % 128 < 2 ^ 32 by omega)]

/-- The tag of 32 node numbers. -/
def tagOf (a : Fin 32 → BitVec 32) : Fin 128 := ⟨(∑ k, (a k).toNat) % 128, Nat.mod_lt _ (by decide)⟩

/-- A sum of 32 node numbers is small. -/
theorem nodes_sum (a : Fin 32 → BitVec 32) (h : ∀ k, (a k).toNat < 10000) : ∑ k, (a k).toNat < 320000 := by
  calc ∑ k, (a k).toNat < ∑ k : Fin 32, 10000 := Finset.sum_lt_sum_of_nonempty ⟨0, Finset.mem_univ _⟩ fun k _ => h k
    _ = 320000 := by simp

/-- The mean of the rows that eight tags name, of any node numbers and table. -/
theorem tag_pay (a : Vec Ideal S1x8x32 .i32) (b : Vec Ideal S136x64 .f32) (h : ∀ s k, (a (ix3 0 s k)).toNat < 10000) (p : Fin 64) :
    k2_pay1 (k2_pay15 a) b (ix3 0 0 p) = (∑ s : Fin 8, b (ix2 ((tagOf fun k => a (ix3 0 s k)).castLE (by decide)) p)) * Ideal.ofBits .f32 0x3E000000#32 := by
  generalize hR : (∑ s : Fin 8, b (ix2 ((tagOf fun k => a (ix3 0 s k)).castLE (by decide)) p)) = R
  pointwise [k2_pay1, k2_pay15]
  rw [← hR]
  refine congrArg (· * _) (Finset.sum_congr rfl fun s _ => ?_)
  have hs : ∑ k, (a (ix3 0 s k)).toNat < 320000 := nodes_sum (fun k => a (ix3 0 s k)) (h s)
  calc _ = ∑ v : Fin 136, (if v = (tagOf fun k => a (ix3 0 s k)).castLE (by decide) then (1 : EReal) else 0) * b (ix2 v p) := by
        refine Finset.sum_congr rfl fun v _ => ?_
        refine congrArg (· * _) ?_
        rw [hot_word, fold_words, rem_word _ (by omega)]
        refine if_congr ?_ rfl rfl
        constructor
        · intro e
          have := congrArg BitVec.toNat e
          simp only [BitVec.toNat_ofNat] at this
          apply Fin.ext
          show v.val = (∑ k, (a (ix3 0 s k)).toNat) % 128
          have := v.isLt
          omega
        · rintro rfl
          rfl
    _ = _ := by simp

/-- The first output at one channel: the mean of the tags' rows. -/
theorem tag_at (x : Blocks Ideal) (h : ∀ s k, (x.nd (ix3 0 s k)).toNat < 10000) (p : Fin 64) :
    x.tag (ix3 0 0 p) = (∑ s : Fin 8, x.wl (ix2 ((tagOf fun k => x.nd (ix3 0 s k)).castLE (by decide)) p)) * Ideal.ofBits .f32 0x3E000000#32 := by
  have hn : ∀ s k, View.ld x.nd q1x8x32 (ix3 0 s k) = x.nd (ix3 0 s k) := fun s k => by pointwise
  have hw : ∀ v p, View.ld x.wl q136x64 (ix2 v p) = x.wl (ix2 v p) := fun v p => by pointwise
  unfold Blocks.tag
  rw [tag_pay _ _ (fun s k => by rw [hn]; exact h s k)]
  simp only [hn, hw]

end Cert.Proof.Gnn

end
-- ==== Proof.Answer.lean ====
/-
  The answer as a function of the arguments: three layers of message passing over all 4096 stacked nodes and 8192 edges, and the means over each
  graph; and the kernel's result is that answer.
-/
module

public import proofs.«01_k».proof.Proof.Contents
public import proofs.«01_k».proof.Proof.Tag

@[expose] public section

noncomputable section

namespace Cert.Proof.Gnn

open Idealize.ShloMosaic Cert.KernelIdeal Cert.KernelIdeal.Gen Idealize.SL.Sem

section
variable (A : Args Ideal)

/-- The feature row of stacked node `r`. -/
def nodeOf (r : Fin 4096) : Fin 10000 :=
  rowOf 10000 (by decide) (A.nodes (ix2 (⟨r.val / 32, by have := r.isLt; omega⟩ : Fin 128) (⟨r.val % 32, by omega⟩ : Fin 32)))
/-- The feature row of edge `e`. -/
def edgeOf (e : Fin 8192) : Fin 160000 := rowOf 160000 (by decide) (A.edges (ix1 e))
/-- The stacked nodes, encoded. -/
def rows (r : Fin 4096) (p : Fin 256) : EReal := relu (∑ k, A.x (ix2 (nodeOf A r) k) * A.wIn (ix2 k p) + A.bIn (ix1 p))
/-- The edges, encoded. -/
def erows (e : Fin 8192) (p : Fin 256) : EReal := ∑ k, A.feats (ix2 (edgeOf A e) k) * A.wE (ix2 k p) + A.bE (ix1 p)
/-- End `b` of edge `e` among the stacked nodes. -/
def endIn (b : Fin 2) (e : Fin 8192) : Fin 4096 := ⟨32 * (e.val / 64) + (A.ends (ix2 b e)).toNat % 32, by have := e.isLt; omega⟩
/-- Layer `l`. -/
def lay (l : Fin 3) (h : Fin 4096 → Fin 256 → EReal) : Fin 4096 → Fin 256 → EReal :=
  layer (endIn A 0) (endIn A 1) (erows A) (fun p q => A.w1 (ix3 l p q)) (fun q => A.b1 (ix2 l q)) (fun p q => A.w2 (ix3 l p q)) (fun q => A.b2 (ix2 l q)) h
/-- The nodes after three layers. -/
def final : Fin 4096 → Fin 256 → EReal := lay A 2 (lay A 1 (lay A 0 (rows A)))
/-- The tag of subgraph `s`. -/
def tagIn (s : Fin 128) : Fin 128 := tagOf fun k => A.nodes (ix2 s k)

/-- The stacked node of graph `g`'s node `r`. -/
abbrev nodeAt (g : Fin 16) (r : Fin 256) : Fin 4096 := ⟨256 * g.val + r.val, by omega⟩
/-- The edge of graph `g`'s edge `e`. -/
abbrev edgeAt (g : Fin 16) (e : Fin 512) : Fin 8192 := ⟨512 * g.val + e.val, by omega⟩
/-- The subgraph of graph `g`'s subgraph `s`. -/
abbrev subAt (g : Fin 16) (s : Fin 8) : Fin 128 := ⟨8 * g.val + s.val, by omega⟩

/-- The mean over graph `g` of the tags' rows. -/
def tagMean (g : Fin 16) (p : Fin 64) : EReal := (∑ s : Fin 8, A.table (ix2 ((tagIn A (subAt g s)).castLE (by decide)) p)) * Ideal.ofBits .f32 0x3E000000#32
/-- The mean over graph `g` of its nodes. -/
def nodeMean (g : Fin 16) (q : Fin 256) : EReal := (∑ r : Fin 256, final A (nodeAt g r) q) * Ideal.ofBits .f32 0x3B800000#32
/-- The answer. -/
def answer (g : Fin 16) (j : Fin 320) : EReal := if h : j.val < 64 then tagMean A g ⟨j.val, h⟩ else nodeMean A g ⟨j.val - 64, by omega⟩

/-- A layer over the stacked nodes is, on graph `g`'s nodes, that layer over graph `g` alone. -/
theorem step_part (x : Blocks Ideal) (g : Fin 16)
    (hs : ∀ e, x.sl (ix3 0 0 e) = A.ends (ix2 0 (edgeAt g e))) (hd : ∀ e, x.dl (ix3 0 0 e) = A.ends (ix2 1 (edgeAt g e)))
    (he : ∀ e p, erow x e p = erows A (edgeAt g e) p) (l : Fin 3)
    (h1 : ∀ p q, x.w1 (ix3 l p q) = A.w1 (ix3 l p q)) (h2 : ∀ q, x.b1 (ix3 l 0 q) = A.b1 (ix2 l q))
    (h3 : ∀ p q, x.w2 (ix3 l p q) = A.w2 (ix3 l p q)) (h4 : ∀ q, x.b2 (ix3 l 0 q) = A.b2 (ix2 l q))
    (h : Fin 4096 → Fin 256 → EReal) (h' : Fin 256 → Fin 256 → EReal) (hh : ∀ r p, h' r p = h (nodeAt g r) p) (r j : Fin 256) :
    step x l h' r j = lay A l h (nodeAt g r) j := by
  unfold step lay
  simp only [h1, h2, h3, h4, hs, hd]
  refine layer_part (nodeAt g) (fun a b e => ?_) (edgeAt g) (fun a b e => ?_) _ _ _ _ (fun e => ?_) (fun e => ?_) (fun e hn r => ?_) _ _ he _ _ _ _ h h' hh r j
  · have := congrArg Fin.val e; simp only at this; apply Fin.ext; omega
  · have := congrArg Fin.val e; simp only at this; apply Fin.ext; omega
  · apply Fin.ext
    show 32 * ((512 * g.val + e.val) / 64) + _ % 32 = 256 * g.val + (32 * (e.val / 64) + _ % 32)
    omega
  · apply Fin.ext
    show 32 * ((512 * g.val + e.val) / 64) + _ % 32 = 256 * g.val + (32 * (e.val / 64) + _ % 32)
    omega
  · intro c
    have c' : 32 * (e.val / 64) + (A.ends (ix2 1 e)).toNat % 32 = 256 * g.val + r.val := congrArg Fin.val c
    have := r.isLt
    exact hn ⟨⟨e.val - 512 * g.val, by omega⟩, Fin.ext (by show 512 * g.val + (e.val - 512 * g.val) = e.val; omega)⟩

end

variable (m : (ℓ : Loc nD τ sig) → Buf (Elt Ideal) ℓ) (d : Dev nD)

/-- The encoded rows of a block. -/
theorem row0_of (g : Fin 16) (r p : Fin 256) : row0 (blocks (V4 m d) (pt g)) r p = rows (argsOf m d) (nodeAt g r) p := by
  have hx : ∀ k, (blocks (V4 m d) (pt g)).gx (ix2 r k) = (argsOf m d).x (ix2 (nodeOf (argsOf m d) (nodeAt g r)) k) := by
    intro k
    refine (in0 (V4 m d) g r k).trans ?_
    rw [V4_v1]
    show (argsOf m d).x (ix2 (rowOf 10000 _ (shapeCast S4096 (argsOf m d).nodes shapeCasts_S128x32_S4096 (ix1 (nodeAt g r)))) k) = _
    unfold nodeOf
    generalize (argsOf m d).nodes = a
    generalize nodeAt g r = i
    congr 3
    pointwise
  have hw : (blocks (V4 m d) (pt g)).aw = (argsOf m d).wIn := (in6 (V4 m d) g).trans (V4_arg m d main_arg8 (by decide))
  have hb : ∀ p, (blocks (V4 m d) (pt g)).ab (ix2 0 p) = (argsOf m d).bIn (ix1 p) := by
    intro p
    refine (congrFun ((in7 (V4 m d) g).trans (V4_v11 m d)) (ix2 0 p)).trans ?_
    generalize (argsOf m d).bIn = a
    pointwise
  unfold row0 rows
  simp only [hx, hw, hb]

/-- The encoded edges of a block. -/
theorem erow_of (g : Fin 16) (e : Fin 512) (p : Fin 256) : erow (blocks (V4 m d) (pt g)) e p = erows (argsOf m d) (edgeAt g e) p := by
  have hx : ∀ k, (blocks (V4 m d) (pt g)).ge (ix2 e k) = (argsOf m d).feats (ix2 (edgeOf (argsOf m d) (edgeAt g e)) k) := by
    intro k
    refine (in1 (V4 m d) g e k).trans ?_
    rw [V4_v2]
    rfl
  have hw : (blocks (V4 m d) (pt g)).bw = (argsOf m d).wE := (in8 (V4 m d) g).trans (V4_arg m d main_arg10 (by decide))
  have hb : ∀ p, (blocks (V4 m d) (pt g)).bb (ix2 0 p) = (argsOf m d).bE (ix1 p) := by
    intro p
    refine (congrFun ((in9 (V4 m d) g).trans (V4_v12 m d)) (ix2 0 p)).trans ?_
    generalize (argsOf m d).bE = a
    pointwise
  unfold erow erows
  simp only [hx, hw, hb]

/-- The sources of a block's edges. -/
theorem sl_of (g : Fin 16) (e : Fin 512) : (blocks (V4 m d) (pt g)).sl (ix3 0 0 e) = (argsOf m d).ends (ix2 0 (edgeAt g e)) := by
  refine (in2 (V4 m d) g e).trans ?_
  rw [V4_v5]
  generalize (argsOf m d).ends = a
  pointwise
  exact congrArg (fun i => a (ix2 _ i)) (Fin.ext (by show g.val * 512 + e.val = 512 * g.val + e.val; omega))

/-- The targets of a block's edges. -/
theorem dl_of (g : Fin 16) (e : Fin 512) : (blocks (V4 m d) (pt g)).dl (ix3 0 0 e) = (argsOf m d).ends (ix2 1 (edgeAt g e)) := by
  refine (in3 (V4 m d) g e).trans ?_
  rw [V4_v8]
  generalize (argsOf m d).ends = a
  pointwise
  exact congrArg (fun i => a (ix2 _ i)) (Fin.ext (by show g.val * 512 + e.val = 512 * g.val + e.val; omega))

/-- The node numbers of a block. -/
theorem nd_of (g : Fin 16) (s : Fin 8) (k : Fin 32) : (blocks (V4 m d) (pt g)).nd (ix3 0 s k) = (argsOf m d).nodes (ix2 (subAt g s) k) := by
  refine (in4 (V4 m d) g s k).trans ?_
  rw [V4_v9]
  generalize (argsOf m d).nodes = a
  pointwise
  exact congrArg (fun i => a (ix2 i k)) (Fin.ext (by show g.val * 8 + s.val = 8 * g.val + s.val; omega))

/-- The table's rows. -/
theorem wl_of (g : Fin 16) (v : Fin 128) (p : Fin 64) :
    (blocks (V4 m d) (pt g)).wl (ix2 (v.castLE (by decide)) p) = (argsOf m d).table (ix2 (v.castLE (by decide)) p) := by
  refine (congrFun ((in5 (V4 m d) g).trans (V4_v10 m d)) _).trans ?_
  generalize (argsOf m d).table = a
  pointwise
  exact dif_pos (by have := v.isLt; show v.val < 129; omega)

/-- The kernel's result is the answer. -/
theorem kernel_answer (hn : ∀ j, ((argsOf m d).nodes j).toNat < 10000) (hl : ∀ j, ((argsOf m d).ends j).toNat < 32) (g : Fin 16) (j : Fin 320) :
    (V6 m d (Proc.devRef .tc main_v18) : Vec Ideal S16x320 .f32) (ix2 g j) = answer (argsOf m d) g j := by
  rw [result_at m d g j]
  unfold answer
  have hsl := sl_of m d g
  have hdl := dl_of m d g
  by_cases h : j.val < 64
  · rw [dif_pos h, dif_pos h, tag_at _ (fun s k => by rw [nd_of]; exact hn _)]
    unfold tagMean tagIn
    simp only [nd_of, wl_of]
  · rw [dif_neg h, dif_neg h, mean_at _ (fun e => by rw [hsl]; exact hl _) (fun e => by rw [hdl]; exact hl _)]
    have h1 : (blocks (V4 m d) (pt g)).w1 = (argsOf m d).w1 := (in10 (V4 m d) g).trans (V4_arg m d main_arg12 (by decide))
    have h3 : (blocks (V4 m d) (pt g)).w2 = (argsOf m d).w2 := (in12 (V4 m d) g).trans (V4_arg m d main_arg14 (by decide))
    have h2 : ∀ l q, (blocks (V4 m d) (pt g)).b1 (ix3 l 0 q) = (argsOf m d).b1 (ix2 l q) := by
      intro l q
      refine (congrFun ((in11 (V4 m d) g).trans (V4_v13 m d)) _).trans ?_
      generalize (argsOf m d).b1 = a
      pointwise
    have h4 : ∀ l q, (blocks (V4 m d) (pt g)).b2 (ix3 l 0 q) = (argsOf m d).b2 (ix2 l q) := by
      intro l q
      refine (congrFun ((in13 (V4 m d) g).trans (V4_v14 m d)) _).trans ?_
      generalize (argsOf m d).b2 = a
      pointwise
    unfold nodeMean
    refine congrArg (· * _) (Finset.sum_congr rfl fun r _ => ?_)
    have st := fun l => step_part (argsOf m d) (blocks (V4 m d) (pt g)) g hsl hdl (erow_of m d g) l (fun p q => by rw [h1]) (h2 l) (fun p q => by rw [h3]) (h4 l)
    exact st 2 _ _ (fun r p => st 1 _ _ (fun r p => st 0 _ _ (fun r p => row0_of m d g r p) r p) r p) r _

end Cert.Proof.Gnn

end
-- ==== Proof.RefTools.lean ====
/-
  The reference's host operations in general form: rows added at row numbers, counts of row numbers, rows taken at row numbers within range,
  and the list of segment numbers that repeating consecutive numbers equally often gives.
-/
module

public import Idealize.ShloMosaic.Lib.Pointwise
public import Idealize.ShloMosaic.Lib.Routing.OpsSet
public import Idealize.ShloMosaic.Lib.Routing.OpsPair
public import Idealize.ShloMosaic.Lib.Routing.OpsOne
public import Idealize.ShloMosaic.Lib.Routing.Ops
public import Mathlib.Algebra.BigOperators.Fin
public import Mathlib.Algebra.BigOperators.Group.Finset.Piecewise

@[expose] public section

noncomputable section

namespace Cert.Proof.Gnn

open Idealize.ShloMosaic
open Idealize.ShloMosaic.Routing (shape0 shape1 shape2)

/-! ## Rows added at row numbers -/

/-- Where one element of the rows to add lands: in its row's column. -/
theorem lands_row {N M W : ℕ} (d : ScatterDims (shape2 N W) (shape2 M 1) (shape2 M W)) (huw : d.updateWindowDims = [1]) (hiw : d.insertedWindowDims = [0])
    (hsd : d.scatterDimsToOperandDims = [0]) (hivd : d.indexVectorDim = 1) (idx : IVec (shape2 M 1) 32) (e : Fin M) (q : Fin W) (r : Fin N) (p : Fin W) :
    d.resultIdx? (ix2 e q) idx = some (ix2 r p) ↔ (idx (ix2 e (0 : Fin 1))).toInt = (r.val : Int) ∧ q = p := by
  have hm : (0 : Fin 2) ∈ d.scatterDimsToOperandDims := by rw [hsd]; exact List.mem_singleton.2 rfl
  have hkept : d.sKept = [1] := by
    show (shape2 N W).kept d.insertedWindowDims = _
    rw [hiw]
    rfl
  have huk : d.uScatter = [0] := by
    show (shape2 M W).kept d.updateWindowDims = _
    rw [huw]
    rfl
  have hwin0 : d.window (ix2 e q) 0 = 0 := by
    unfold ScatterDims.window
    rw [dif_neg (by rw [hkept]; exact (by decide : (0 : Fin 2) ∉ ([1] : List (Fin 2))))]
  have hwin1 : d.window (ix2 e q) 1 = q.val := by
    unfold ScatterDims.window
    rw [dif_pos (by rw [hkept]; exact (by decide : (1 : Fin 2) ∈ ([1] : List (Fin 2))))]
    have h1 : ∀ X : Fin 2, X ∈ d.updateWindowDims → (ix2 e q X).val = q.val := fun X hX => by
      rw [huw] at hX
      obtain rfl := List.mem_singleton.1 hX
      rfl
    exact h1 _ (List.getElem_mem _)
  have hstart1 : d.start (ix2 e q) idx 1 = 0 := by
    unfold ScatterDims.start
    rw [dif_neg fun h => by rw [hsd] at h; exact absurd (List.mem_singleton.1 h) (by decide : (1 : Fin 2) ≠ 0)]
  have hstart0 : d.start (ix2 e q) idx 0 = (idx (ix2 e (0 : Fin 1))).toInt := by
    unfold ScatterDims.start
    rw [dif_pos hm]
    have hsi : d.siIdx (ix2 e q) ⟨d.scatterDimsToOperandDims.idxOf 0, List.idxOf_lt_length_iff.2 hm⟩ = ix2 e (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have h1 : ∀ X : Fin 2, X ∈ d.uScatter → (ix2 e q X).val = e.val := fun X hX => by
          rw [huk] at hX
          obtain rfl := List.mem_singleton.1 hX
          rfl
        exact h1 _ (List.getElem_mem _)
      | ⟨1, _⟩ =>
        unfold ScatterDims.siIdx
        rw [dif_pos (by rw [hivd])]
        show List.idxOf (0 : Fin 2) d.scatterDimsToOperandDims = 0
        rw [hsd]; simp
    rw [hsi]
  refine (Routing.resultIdx?_ix2 d (ix2 e q) idx r p).trans ?_
  rw [hstart0, hwin0, hstart1, hwin1, Fin.ext_iff]
  omega

/-- A sum over a matrix's elements. -/
theorem sum_shape2 {M W : ℕ} {α : Type} [AddCommMonoid α] (f : (shape2 M W).Idx → α) : ∑ j, f j = ∑ e : Fin M, ∑ q : Fin W, f (ix2 e q) := by
  rw [← Fintype.sum_prod_type']
  refine (Fintype.sum_equiv ⟨fun p : Fin M × Fin W => ix2 p.1 p.2, fun j => (j 0, j 1), fun p => rfl, fun j => ?_⟩ _ _ fun p => rfl).symm
  exact (ValueIdx.eq_ix2 j).symm

/-- A sum over a vector's elements. -/
theorem sum_shape1 {M : ℕ} {α : Type} [AddCommMonoid α] (f : (shape1 M).Idx → α) : ∑ j, f j = ∑ e : Fin M, f (ix1 e) := by
  refine (Fintype.sum_equiv ⟨fun p : Fin M => ix1 p, fun j => j 0, fun p => rfl, fun j => ?_⟩ _ _ fun p => rfl).symm
  exact (ValueIdx.eq_ix1 j).symm

/-- Rows added at row numbers: each row is what it was, plus the rows whose number is its own. -/
theorem scatter_rows {N M W : ℕ} (d : ScatterDims (shape2 N W) (shape2 M 1) (shape2 M W)) (huw : d.updateWindowDims = [1]) (hiw : d.insertedWindowDims = [0])
    (hsd : d.scatterDimsToOperandDims = [0]) (hivd : d.indexVectorDim = 1) (x : FVec Ideal (shape2 N W) .f32) (idx : IVec (shape2 M 1) 32)
    (upd : FVec Ideal (shape2 M W) .f32) (t : Fin M → Fin N) (ht : ∀ e, idx (ix2 e (0 : Fin 1)) = BitVec.ofNat 32 (t e).val) (hN : N < 2 ^ 31) (r : Fin N) (p : Fin W) :
    Host.scatterAdd d x idx upd (ix2 r p) = (x (ix2 r p) + ∑ e, if t e = r then upd (ix2 e p) else 0 : EReal) := by
  show (x (ix2 r p) + ∑ j ∈ Finset.univ.filter (fun j => d.resultIdx? j idx = some (ix2 r p)), upd j : EReal) = _
  congr 1
  rw [Finset.sum_filter, sum_shape2]
  refine Finset.sum_congr rfl fun e _ => ?_
  have hl : ∀ q, d.resultIdx? (ix2 e q) idx = some (ix2 r p) ↔ t e = r ∧ q = p := by
    intro q
    rw [lands_row d huw hiw hsd hivd, ht, StableHlo.Predicate.toInt_ofNat_small _ (by have := (t e).isLt; omega), Fin.ext_iff (a := t e)]
    omega
  simp only [hl]
  by_cases h : t e = r <;> simp [h]

/-! ## Numbers added at places -/

/-- Where one of the numbers to add lands. -/
theorem lands_one {N M : ℕ} (d : ScatterDims (shape1 N) (shape2 M 1) (shape1 M)) (hiw : d.insertedWindowDims = [0])
    (hsd : d.scatterDimsToOperandDims = [0]) (hivd : d.indexVectorDim = 1) (idx : IVec (shape2 M 1) 32) (e : Fin M) (r : Fin N) :
    d.resultIdx? (ix1 e) idx = some (ix1 r) ↔ (idx (ix2 e (0 : Fin 1))).toInt = (r.val : Int) := by
  have hm : (0 : Fin 1) ∈ d.scatterDimsToOperandDims := by rw [hsd]; exact List.mem_singleton.2 rfl
  have hwin : d.window (ix1 e) 0 = 0 := by
    unfold ScatterDims.window
    rw [dif_neg fun h => (of_decide_eq_true (List.mem_filter.1 h).2) (by rw [hiw]; exact List.mem_singleton.2 rfl)]
  have hstart : d.start (ix1 e) idx 0 = (idx (ix2 e (0 : Fin 1))).toInt := by
    unfold ScatterDims.start
    rw [dif_pos hm]
    have hsi : d.siIdx (ix1 e) ⟨d.scatterDimsToOperandDims.idxOf 0, List.idxOf_lt_length_iff.2 hm⟩ = ix2 e (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have h1 : ∀ X : Fin 1, (ix1 e X).val = e.val := fun X => by
          obtain rfl : X = 0 := Subsingleton.elim _ _
          rfl
        exact h1 _
      | ⟨1, _⟩ =>
        unfold ScatterDims.siIdx
        rw [dif_pos (by rw [hivd])]
        show List.idxOf (0 : Fin 1) d.scatterDimsToOperandDims = 0
        rw [hsd]; simp
    rw [hsi]
  refine (Routing.resultIdx?_ix1 d (ix1 e) idx r).trans ?_
  rw [hstart, hwin]
  omega

/-- Numbers added at places: each entry is what it was, plus the numbers whose place is its own. -/
theorem scatter_nums {N M : ℕ} (d : ScatterDims (shape1 N) (shape2 M 1) (shape1 M)) (hiw : d.insertedWindowDims = [0])
    (hsd : d.scatterDimsToOperandDims = [0]) (hivd : d.indexVectorDim = 1) (x : FVec Ideal (shape1 N) .f32) (idx : IVec (shape2 M 1) 32)
    (upd : FVec Ideal (shape1 M) .f32) (t : Fin M → Fin N) (ht : ∀ e, idx (ix2 e (0 : Fin 1)) = BitVec.ofNat 32 (t e).val) (hN : N < 2 ^ 31) (r : Fin N) :
    Host.scatterAdd d x idx upd (ix1 r) = (x (ix1 r) + ∑ e, if t e = r then upd (ix1 e) else 0 : EReal) := by
  show (x (ix1 r) + ∑ j ∈ Finset.univ.filter (fun j => d.resultIdx? j idx = some (ix1 r)), upd j : EReal) = _
  congr 1
  rw [Finset.sum_filter, sum_shape1]
  refine Finset.sum_congr rfl fun e _ => if_congr ?_ rfl rfl
  rw [lands_one d hiw hsd hivd, ht, StableHlo.Predicate.toInt_ofNat_small _ (by have := (t e).isLt; omega), Fin.ext_iff]
  omega

/-- Ones added at places, in words: each entry is the number of places that are its own. -/
theorem scatter_ones {N M : ℕ} (d : ScatterDims (shape1 N) (shape2 M 1) (shape1 M)) (hiw : d.insertedWindowDims = [0])
    (hsd : d.scatterDimsToOperandDims = [0]) (hivd : d.indexVectorDim = 1) (x : IVec (shape1 N) 32) (hx : ∀ r, x (ix1 r) = 0#32) (idx : IVec (shape2 M 1) 32)
    (upd : IVec (shape1 M) 32) (hupd : ∀ e, upd (ix1 e) = 1#32) (t : ℕ → ℕ) (ht : ∀ e : Fin M, idx (ix2 e (0 : Fin 1)) = BitVec.ofNat 32 (t e.val))
    (hs : ∀ e : Fin M, t e.val < 2 ^ 31) (r : Fin N) :
    Host.scatter d IntOp.addi x idx upd (ix1 r) = BitVec.ofNat 32 (Nat.count (fun e => t e = r.val) M) := by
  have hl : ∀ e : Fin M, d.resultIdx? (ix1 e) idx = some (ix1 r) ↔ t e.val = r.val := fun e => by
    rw [lands_one d hiw hsd hivd, ht, StableHlo.Predicate.toInt_ofNat_small _ (hs e)]
    omega
  unfold Host.scatter
  refine (Routing.foldl_count _ (ix1 r) (fun n => decide (t n.val = r.val)) (fun y n => ?_) _ x 0 (hx _)).trans ?_
  · rw [Routing.symm1]
    have hi := hl (n.cast (Routing.numel1 M))
    change _ ↔ t n.val = r.val at hi
    change d.resultIdx? (ValueIdx.ix1 (n.cast (Routing.numel1 M))) idx = some (ix1 r) ↔ _ at hi
    generalize d.resultIdx? (ValueIdx.ix1 (n.cast (Routing.numel1 M))) idx = o at hi ⊢
    cases o with
    | none =>
      dsimp only
      rw [if_neg fun h => by have := hi.2 (of_decide_eq_true h); cases this]
    | some k =>
      dsimp only
      by_cases e : t n.val = r.val
      · have hk : k = ix1 r := Option.some.inj (hi.2 e)
        rw [hk, if_pos rfl, if_pos (decide_eq_true e)]
        exact congrArg (IntOp.addi (y (ix1 r))) (hupd _)
      · rw [if_neg fun h : ix1 r = k => e (hi.1 (congrArg some h.symm)), if_neg fun h => e (of_decide_eq_true h)]
  · rw [Nat.zero_add, Routing.countP_finRange _ (fun i => t i = r.val), Routing.numel1]

/-! ## Segment numbers -/

/-- The starts of segments of length `L`. -/
theorem sum_starts (L j : ℕ) : ((List.range (j + 1)).map fun i => if i = 0 then 0 else L).sum = L * j := by
  induction j with
  | zero => simp
  | succ j ih => rw [List.range_succ, List.map_append, List.sum_append, ih]; simp; ring

/-- How many segments start at `x`. -/
theorem count_starts (L M x : ℕ) (hL : 0 < L) (hx : x < M * L) : Nat.count (fun i => L * i = x) M = if L ∣ x then 1 else 0 := by
  rw [Nat.count_eq_card_filter_range]
  by_cases h : L ∣ x
  · obtain ⟨k, rfl⟩ := h
    rw [if_pos ⟨k, rfl⟩, show (Finset.range M).filter (fun i => L * i = L * k) = {k} from ?_, Finset.card_singleton]
    ext i
    simp only [Finset.mem_filter, Finset.mem_range, Finset.mem_singleton]
    constructor
    · rintro ⟨_, e⟩; exact Nat.eq_of_mul_eq_mul_left hL e
    · rintro rfl; exact ⟨by rw [Nat.mul_comm] at hx; exact Nat.lt_of_mul_lt_mul_right hx, rfl⟩
  · rw [if_neg h, Finset.card_eq_zero, Finset.filter_eq_empty_iff]
    rintro i _ rfl
    exact h ⟨i, rfl⟩

/-- How many segments have started by `j`. -/
theorem sum_counts (L M j : ℕ) (hL : 0 < L) (hj : j < M * L) :
    ((List.range (j + 1)).map fun x => Nat.count (fun i => L * i = x) M).sum = j / L + 1 := by
  induction j with
  | zero =>
    rw [Nat.zero_div, List.range_succ, List.map_append, List.sum_append]
    simp only [List.range_zero, List.map_nil, List.map_cons, List.sum_cons, List.sum_nil, count_starts L M 0 hL hj, dvd_zero, if_true, Nat.add_zero, Nat.zero_add]
  | succ j ih =>
    rw [List.range_succ, List.map_append, List.sum_append, ih (by omega), Nat.succ_div]
    simp only [List.map_cons, List.map_nil, List.sum_cons, List.sum_nil, count_starts L M (j + 1) hL hj]
    omega

/-- The segments' starts in words: the running sum of the lengths, the first replaced by zero. -/
theorem start_words {M M1 L : ℕ} (hM : M1 + 1 = M) (d : ScatterDims (shape1 M) (shape1 1) shape0) (hiw : d.insertedWindowDims = [0])
    (hsd : d.scatterDimsToOperandDims = [0]) (x : IVec (shape1 M) 32) (hx : ∀ i, x (ix1 i) = BitVec.ofNat 32 L)
    (idx : IVec (shape1 1) 32) (hidx : idx (ix1 0) = 0#32) (upd : IVec shape0 32) (hupd : ∀ i, upd i = 0#32)
    (init : IVec shape0 32) (hinit : ∀ i, init i = 0#32) (h : (shape1 M).ReduceWindows (![M] : Fin 1 → ℕ) ![1] ![M1] ![0] (shape1 M)) (hu : 0 < shape0.numel) (j : Fin M) :
    Host.reduceWindow IntOp.addi ![M] ![1] ![M1] ![0] (Host.scatter d (fun _ b => b) x idx upd) init h hu (ix1 j) = BitVec.ofNat 32 (L * j.val) := by
  subst hM
  refine (Routing.cumsum1 rfl _ (fun i => if i = 0 then 0 else L) (fun i => ?_) init (hinit _) h hu j).trans (congrArg _ (sum_starts L j.val))
  rw [Routing.scatter_one d hiw hsd x idx upd (0 : Fin (M1 + 1)) (by show (0 : ℕ) < 2 ^ 31; decide) hidx i]
  by_cases e : i = 0
  · rw [if_pos e, if_pos (by rw [e]; rfl), hupd]
  · rw [if_neg e, if_neg (fun c : i.val = 0 => e (Fin.ext c))]
    exact hx i

/-- The segment numbers in words: the running count of starts, less one. -/
theorem segment_words {N N1 M L : ℕ} (hN : N1 + 1 = N) (hL : 0 < L) (hNM : N = M * L) (hsmall : N < 2 ^ 31)
    (d : ScatterDims (shape1 N) (shape2 M 1) (shape1 M)) (hiw : d.insertedWindowDims = [0])
    (hsd : d.scatterDimsToOperandDims = [0]) (hivd : d.indexVectorDim = 1) (x : IVec (shape1 N) 32) (hx : ∀ r, x (ix1 r) = 0#32) (idx : IVec (shape2 M 1) 32)
    (upd : IVec (shape1 M) 32) (hupd : ∀ e, upd (ix1 e) = 1#32) (ht : ∀ e : Fin M, idx (ix2 e (0 : Fin 1)) = BitVec.ofNat 32 (L * e.val))
    (init : IVec shape0 32) (hinit : ∀ i, init i = 0#32) (h : (shape1 N).ReduceWindows (![N] : Fin 1 → ℕ) ![1] ![N1] ![0] (shape1 N)) (hu : 0 < shape0.numel) (j : Fin N) :
    IntOp.subi (Host.reduceWindow IntOp.addi ![N] ![1] ![N1] ![0] (Host.scatter d IntOp.addi x idx upd) init h hu (ix1 j)) 1#32 = BitVec.ofNat 32 (j.val / L) := by
  have hs : ∀ e : Fin M, L * e.val < 2 ^ 31 := fun e => by
    have : L * e.val < L * M := Nat.mul_lt_mul_of_pos_left e.isLt hL
    rw [Nat.mul_comm L M] at this
    omega
  have hc := Routing.cumsum1 hN (Host.scatter d IntOp.addi x idx upd) (fun r => Nat.count (fun i => L * i = r) M)
    (fun r => scatter_ones d hiw hsd hivd x hx idx upd hupd (fun e => L * e) ht hs r) init (hinit _) h hu j
  rw [sum_counts L M j.val hL (by have := j.isLt; omega)] at hc
  refine (congrArg (IntOp.subi · 1#32) hc).trans ?_
  show BitVec.ofNat 32 (j.val / L + 1) - 1#32 = _
  rw [BitVec.ofNat_add]
  exact BitVec.add_sub_cancel _ _

end Cert.Proof.Gnn

end
-- ==== Proof.Take.lean ====
/-
  Rows and numbers taken by index words that are within range: the check passes, so what is taken is the row or number itself.
-/
module

public import proofs.«01_k».proof.Proof.RefTools
public import Idealize.ShloMosaic.Lib.ReduceAll

@[expose] public section

noncomputable section

namespace Cert.Proof.Gnn

open Idealize.ShloMosaic
open Idealize.ShloMosaic.Routing (shape0 shape1 shape2)

/-- A word that is a number below `N` passes the check against `N - 1`. -/
theorem in_check (N b : ℕ) (hb : b < N) (hN : N < 2 ^ 31) (a w : BitVec 32) (ha : a = BitVec.ofNat 32 b) (hw : w = BitVec.ofNat 32 (N - 1)) :
    IntOp.andi (IntOp.cmpi .sge a 0#32) (IntOp.cmpi .sle a w) = 1#1 := by
  subst ha hw
  have h1 : IntOp.cmpi .sge (BitVec.ofNat 32 b) 0#32 = 1#1 := IntOp.cmpi_sge.2 (by
    rw [StableHlo.Predicate.toInt_ofNat_small _ (by omega), StableHlo.Predicate.toInt_ofNat_small _ (by omega)]
    omega)
  have h2 : IntOp.cmpi .sle (BitVec.ofNat 32 b) (BitVec.ofNat 32 (N - 1)) = 1#1 := IntOp.cmpi_sle.2 (by
    rw [StableHlo.Predicate.toInt_ofNat_small _ (by omega), StableHlo.Predicate.toInt_ofNat_small _ (by omega)]
    omega)
  rw [h1, h2]; rfl

/-- The check of a column of index words that are all within range. -/
theorem check_one {M N : ℕ} (idx : IVec (shape2 M 1) 32) (b : Fin M → Fin N) (hb : ∀ e, idx (ix2 e (0 : Fin 1)) = BitVec.ofNat 32 (b e).val) (hN : N < 2 ^ 31)
    (w : BitVec 32) (hw : w = BitVec.ofNat 32 (N - 1))
    (h0 : shape0.BroadcastsInDim (shape2 M 1) (![] : Fin 0 → Fin (shape2 M 1).rank))
    (h1 : (shape2 1 1).BroadcastsInDim (shape2 M 1) (![0, 1] : Fin 2 → Fin (shape2 M 1).rank))
    (h2 : (shape1 1).BroadcastsInDim (shape2 1 1) (![1] : Fin 1 → Fin (shape2 1 1).rank))
    (hr : (shape2 M 1).ReducesTo [1] (shape1 M)) (hu : 0 < shape0.numel) (j : (shape1 M).Idx) :
    Host.reduce IntOp.andi (andi (cmpi .sge idx (broadcastInDim (shape2 M 1) ![] h0 (constantI shape0 32 0#32)))
      (cmpi .sle idx (broadcastInDim (shape2 M 1) ![0, 1] h1 (broadcastInDim (shape2 1 1) ![1] h2 (constantI (shape1 1) 32 w))))) (constantI shape0 1 1#1) hr hu j = 1#1 := by
  refine Host.reduce_andi_one _ _ _ _ j rfl fun i => ?_
  obtain ⟨e, rfl⟩ : ∃ e : Fin M, i = ix2 e (0 : Fin 1) := ⟨i 0, by
    refine (ValueIdx.eq_ix2 i).trans ?_
    rw [show i 1 = (0 : Fin 1) from Subsingleton.elim (α := Fin 1) _ _]
    rfl⟩
  exact in_check N (b e).val (b e).isLt hN _ _ (hb e) hw

/-- A row taken by an index word within range. -/
theorem take_row {F : Type} {N W M : ℕ} (d : GatherDims (shape2 N W) (shape2 M 1) (shape2 M W)) (hoff : d.offsetDims = [1])
    (hcoll : d.collapsedSliceDims = [0]) (hob : d.operandBatchingDims = []) (hsim : d.startIndexMap = [0]) (hivd : d.indexVectorDim = 1)
    (x : (shape2 N W).Idx → F) (nan : (shape2 M W).Idx → F)
    (idx : IVec (shape2 M 1) 32) (b : Fin M → Fin N) (hb : ∀ e, idx (ix2 e (0 : Fin 1)) = BitVec.ofNat 32 (b e).val) (hN : N < 2 ^ 31)
    (w : BitVec 32) (hw : w = BitVec.ofNat 32 (N - 1))
    (h0 : shape0.BroadcastsInDim (shape2 M 1) (![] : Fin 0 → Fin (shape2 M 1).rank))
    (h1 : (shape2 1 1).BroadcastsInDim (shape2 M 1) (![0, 1] : Fin 2 → Fin (shape2 M 1).rank))
    (h2 : (shape1 1).BroadcastsInDim (shape2 1 1) (![1] : Fin 1 → Fin (shape2 1 1).rank))
    (hr : (shape2 M 1).ReducesTo [1] (shape1 M)) (hu : 0 < shape0.numel)
    (h3 : (shape1 M).BroadcastsInDim (shape2 M W) (![0] : Fin 1 → Fin (shape2 M W).rank)) (e : Fin M) (p : Fin W) :
    select (broadcastInDim (shape2 M W) ![0] h3 (Host.reduce IntOp.andi (andi (cmpi .sge idx (broadcastInDim (shape2 M 1) ![] h0 (constantI shape0 32 0#32)))
      (cmpi .sle idx (broadcastInDim (shape2 M 1) ![0, 1] h1 (broadcastInDim (shape2 1 1) ![1] h2 (constantI (shape1 1) 32 w))))) (constantI shape0 1 1#1) hr hu))
      (Host.gather d x idx) nan (ix2 e p) = x (ix2 (b e) p) := by
  have hc : broadcastInDim (shape2 M W) ![0] h3 (Host.reduce IntOp.andi (andi (cmpi .sge idx (broadcastInDim (shape2 M 1) ![] h0 (constantI shape0 32 0#32)))
      (cmpi .sle idx (broadcastInDim (shape2 M 1) ![0, 1] h1 (broadcastInDim (shape2 1 1) ![1] h2 (constantI (shape1 1) 32 w))))) (constantI shape0 1 1#1) hr hu) (ix2 e p) = 1#1 :=
    check_one idx b hb hN w hw h0 h1 h2 hr hu _
  refine (if_pos (show _ = 1#1 from hc)).trans ?_
  exact Routing.gather_row d hoff hcoll hob hsim hivd x idx e p (b e) (hb e) hN

/-- A number taken by an index word within range. -/
theorem take_num {F : Type} {N M : ℕ} (d : GatherDims (shape1 N) (shape2 M 1) (shape1 M))
    (hcoll : d.collapsedSliceDims = [0]) (hob : d.operandBatchingDims = []) (hsim : d.startIndexMap = [0]) (hivd : d.indexVectorDim = 1)
    (x : (shape1 N).Idx → F) (nan : (shape1 M).Idx → F)
    (idx : IVec (shape2 M 1) 32) (b : Fin M → Fin N) (hb : ∀ e, idx (ix2 e (0 : Fin 1)) = BitVec.ofNat 32 (b e).val) (hN : N < 2 ^ 31)
    (w : BitVec 32) (hw : w = BitVec.ofNat 32 (N - 1))
    (h0 : shape0.BroadcastsInDim (shape2 M 1) (![] : Fin 0 → Fin (shape2 M 1).rank))
    (h1 : (shape2 1 1).BroadcastsInDim (shape2 M 1) (![0, 1] : Fin 2 → Fin (shape2 M 1).rank))
    (h2 : (shape1 1).BroadcastsInDim (shape2 1 1) (![1] : Fin 1 → Fin (shape2 1 1).rank))
    (hr : (shape2 M 1).ReducesTo [1] (shape1 M)) (hu : 0 < shape0.numel) (e : Fin M) :
    select (Host.reduce IntOp.andi (andi (cmpi .sge idx (broadcastInDim (shape2 M 1) ![] h0 (constantI shape0 32 0#32)))
      (cmpi .sle idx (broadcastInDim (shape2 M 1) ![0, 1] h1 (broadcastInDim (shape2 1 1) ![1] h2 (constantI (shape1 1) 32 w))))) (constantI shape0 1 1#1) hr hu)
      (Host.gather d x idx) nan (ix1 e) = x (ix1 (b e)) := by
  have hc := check_one idx b hb hN w hw h0 h1 h2 hr hu (ix1 e)
  refine (if_pos (show _ = 1#1 from hc)).trans ?_
  exact Routing.gather_take1 d hcoll hob hsim hivd x idx e (b e) (hb e) hN

/-- A vector laid along the rows of an array. -/
theorem along_rows {F : Type} {M W : ℕ} (h : (shape1 M).BroadcastsInDim (shape2 M W) (![0] : Fin 1 → Fin (shape2 M W).rank)) (x : (shape1 M).Idx → F)
    (e : Fin M) (p : Fin W) : broadcastInDim (shape2 M W) ![0] h x (ix2 e p) = x (ix1 e) := by
  unfold broadcastInDim
  refine congrArg x (funext fun a => Fin.ext ?_)
  obtain rfl : a = (0 : Fin 1) := Subsingleton.elim (α := Fin 1) _ _
  by_cases hM : (shape1 M).size 0 = 1
  · rw [dif_pos hM]
    have h1 : M = 1 := hM
    show 0 = e.val
    have := e.isLt
    omega
  · rw [dif_neg hM]
    rfl

/-- A column of index words, each with the extent added if negative, is the words where none is negative. -/
theorem column_at {M : ℕ} (a : IVec (shape1 M) 32) (h0 : shape0.BroadcastsInDim (shape1 M) (![] : Fin 0 → Fin (shape1 M).rank))
    (h1 : (shape1 M).BroadcastsInDim (shape2 M 1) (![0] : Fin 1 → Fin (shape2 M 1).rank)) (w : BitVec 32) (e : Fin M) (n : ℕ)
    (ha : a (ix1 e) = BitVec.ofNat 32 n) (hn : n < 2 ^ 31) :
    broadcastInDim (shape2 M 1) ![0] h1 (select (cmpi .slt a (broadcastInDim (shape1 M) ![] h0 (constantI shape0 32 0#32)))
      (addi a (broadcastInDim (shape1 M) ![] h0 (constantI shape0 32 w))) a) (ix2 e (0 : Fin 1)) = BitVec.ofNat 32 n := by
  rw [along_rows]
  show Scalar.select (IntOp.cmpi .slt (a (ix1 e)) 0#32) _ (a (ix1 e)) = _
  rw [ha]
  exact Routing.wrap_of_lt _ _ (by rw [BitVec.toNat_ofNat, Nat.mod_eq_of_lt (by omega)]; exact hn)

end Cert.Proof.Gnn
-- ==== Proof.RefIdx.lean ====
/-
  The reference's index words: the tags, the ends of the edges among the stacked nodes, the graph of each subgraph, and the rows taken.
-/
module

public import proofs.«01_k».proof.Proof.Answer
public import proofs.«01_k».proof.Proof.Take
public import proofs.«01_k».proof.Proof.Gen.ReferenceIdeal.Run

@[expose] public section

noncomputable section

namespace Cert.Proof.Gnn.Ref

open Idealize.ShloMosaic Cert.ReferenceIdeal Cert.ReferenceIdeal.Gen Cert.ReferenceIdeal.Value Idealize.SL.Sem

/-- The arguments of the reference. -/
abbrev refArgs (V0 : Valuation τ sig (Elt Ideal)) : Args Ideal where
  x := V0 (Proc.devRef .tc main_arg0)
  feats := V0 (Proc.devRef .tc main_arg1)
  nodes := V0 (Proc.devRef .tc main_arg2)
  ends := V0 (Proc.devRef .tc main_arg3)
  edges := V0 (Proc.devRef .tc main_arg6)
  table := V0 (Proc.devRef .tc main_arg7)
  wIn := V0 (Proc.devRef .tc main_arg8)
  bIn := V0 (Proc.devRef .tc main_arg9)
  wE := V0 (Proc.devRef .tc main_arg10)
  bE := V0 (Proc.devRef .tc main_arg11)
  w1 := V0 (Proc.devRef .tc main_arg12)
  b1 := V0 (Proc.devRef .tc main_arg13)
  w2 := V0 (Proc.devRef .tc main_arg14)
  b2 := V0 (Proc.devRef .tc main_arg15)

/-- What the claim assumes of the integer arguments. -/
structure Fits (V0 : Valuation τ sig (Elt Ideal)) : Prop where
  nodes : ∀ s k, ((refArgs V0).nodes (ix2 s k)).toNat < 10000
  ends : ∀ b e, ((refArgs V0).ends (ix2 b e)).toNat < 32
  eptr : ∀ j : Fin 129, (V0 (Proc.devRef .tc main_arg4) : IVec S129 32) (ix1 j) = BitVec.ofNat 32 (j.val * 64)
  sptr : ∀ j : Fin 17, (V0 (Proc.devRef .tc main_arg5) : IVec S17 32) (ix1 j) = BitVec.ofNat 32 (j.val * 8)
  edges : ∀ e, ((refArgs V0).edges (ix1 e)).toNat < 160000

/-- Consecutive multiples differ by the step. -/
theorem step_word (i l : ℕ) : IntOp.subi (BitVec.ofNat 32 ((i + 1) * l)) (BitVec.ofNat 32 (i * l)) = BitVec.ofNat 32 l := by
  show BitVec.ofNat 32 ((i + 1) * l) - BitVec.ofNat 32 (i * l) = _
  rw [Nat.succ_mul, Nat.add_comm, BitVec.ofNat_add]
  exact BitVec.add_sub_cancel _ _

/-- The larger of zero and a nonnegative word. -/
theorem max_zero (w : BitVec 32) (hw : w.toNat < 2 ^ 31) : IntOp.maxsi 0#32 w = w := by
  unfold IntOp.maxsi
  by_cases c : w.slt 0#32
  · exfalso
    rw [BitVec.slt, decide_eq_true_iff, BitVec.toInt_eq_toNat_of_lt (by omega)] at c
    exact absurd c (by rw [show (0#32 : BitVec 32).toInt = 0 from rfl]; omega)
  · rw [if_neg c]

variable (V0 : Valuation τ sig (Elt Ideal)) (h : Fits V0)
include h

/-- Every subgraph has 64 edges. -/
theorem edge_counts (i : Fin 128) : (res_main_v15 V0 : IVec S128 32) (ix1 i) = BitVec.ofNat 32 64 := by
  have e := h.eptr
  unfold res_main_v15
  generalize (V0 (Proc.devRef .tc main_arg4) : IVec S129 32) = a at e ⊢
  have h1 := e ⟨1 + i.val, by omega⟩
  have h2 := e ⟨i.val, by omega⟩
  generalize hR : BitVec.ofNat 32 64 = R
  pointwise
  rw [h1, h2, ← hR]
  refine Eq.trans ?_ (step_word i.val 64)
  exact congrArg (fun k => IntOp.subi (BitVec.ofNat 32 (k * 64)) _) (Nat.add_comm _ _)

/-- Every graph has 8 subgraphs. -/
theorem sub_counts (i : Fin 16) : (res_main_v153 V0 : IVec S16 32) (ix1 i) = BitVec.ofNat 32 8 := by
  have e := h.sptr
  unfold res_main_v153
  generalize (V0 (Proc.devRef .tc main_arg5) : IVec S17 32) = a at e ⊢
  have h1 := e ⟨1 + i.val, by omega⟩
  have h2 := e ⟨i.val, by omega⟩
  generalize hR : BitVec.ofNat 32 8 = R
  pointwise
  rw [h1, h2, ← hR]
  refine Eq.trans ?_ (step_word i.val 8)
  exact congrArg (fun k => IntOp.subi (BitVec.ofNat 32 (k * 8)) _) (Nat.add_comm _ _)

/-- Where the edges of each subgraph start. -/
theorem edge_starts (j : Fin 128) : (res_main_v20 V0 : IVec S128 32) (ix1 j) = BitVec.ofNat 32 (64 * j.val) := by
  have e := edge_counts V0 h
  unfold res_main_v20
  refine start_words rfl scatter_S128_S1_S__n_0_0_0 rfl rfl _ (fun i => ?_) _ ?_ _ (fun _ => rfl) _ (fun _ => rfl) reduceWindows_S128_S128_w128s1p127_0 h_S_ j
  · generalize (res_main_v15 V0 : IVec S128 32) = a at e ⊢
    generalize hR : BitVec.ofNat 32 64 = R at e ⊢
    pointwise
    split <;> exact e _
  · rfl

/-- The subgraph of each edge. -/
theorem edge_subs (e : Fin 8192) : (res_main_v32 V0 : IVec S8192 32) (ix1 e) = BitVec.ofNat 32 (e.val / 64) := by
  have hs := edge_starts V0 h
  unfold res_main_v32
  generalize (res_main_v20 V0 : IVec S128 32) = a at hs ⊢
  exact segment_words (M := 128) (L := 64) rfl (by decide) (by decide) (by decide) scatter_S8192_S128x1_S128_n_0_0_1 rfl rfl rfl _ (fun _ => rfl) _ _ (fun _ => rfl)
    (fun i => column_at a _ _ _ i _ (hs i) (by have := i.isLt; omega)) _ (fun _ => rfl) reduceWindows_S8192_S8192_w8192s1p8191_0 h_S_ e

/-- Where the subgraphs of each graph start. -/
theorem sub_starts (j : Fin 16) : (res_main_v158 V0 : IVec S16 32) (ix1 j) = BitVec.ofNat 32 (8 * j.val) := by
  have e := sub_counts V0 h
  unfold res_main_v158
  refine start_words rfl scatter_S16_S1_S__n_0_0_0 rfl rfl _ (fun i => ?_) _ ?_ _ (fun _ => rfl) _ (fun _ => rfl) reduceWindows_S16_S16_w16s1p15_0 h_S_ j
  · generalize (res_main_v153 V0 : IVec S16 32) = a at e ⊢
    generalize hR : BitVec.ofNat 32 8 = R at e ⊢
    pointwise
    split <;> exact e _
  · rfl

/-- The graph of each subgraph, before it is taken from the list of graphs. -/
theorem sub_graphs (s : Fin 128) : (res_main_v170 V0 : IVec S128 32) (ix1 s) = BitVec.ofNat 32 (s.val / 8) := by
  have hs := sub_starts V0 h
  unfold res_main_v170
  generalize (res_main_v158 V0 : IVec S16 32) = a at hs ⊢
  exact segment_words (M := 16) (L := 8) rfl (by decide) (by decide) (by decide) scatter_S128_S16x1_S16_n_0_0_1 rfl rfl rfl _ (fun _ => rfl) _ _ (fun _ => rfl)
    (fun i => column_at a _ _ _ i _ (hs i) (by have := i.isLt; omega)) _ (fun _ => rfl) reduceWindows_S128_S128_w128s1p127_0 h_S_ s

/-- The graph of each subgraph. -/
theorem graph_word (s : Fin 128) : (res_main_v171 V0 : IVec S128 32) (ix1 s) = BitVec.ofNat 32 (s.val / 8) := by
  have hs := sub_graphs V0 h
  have hc : ∀ e : Fin 128, (res_main_call22_v5 V0 : IVec S128x1 32) (ix2 e (0 : Fin 1)) = BitVec.ofNat 32 (⟨e.val / 8, by omega⟩ : Fin 16).val := fun e => by
    unfold res_main_call22_v5
    generalize (res_main_v170 V0 : IVec S128 32) = a at hs ⊢
    exact column_at a _ _ _ e _ (hs e) (by have := e.isLt; omega)
  unfold res_main_v171
  generalize (res_main_call22_v5 V0 : IVec S128x1 32) = idx at hc ⊢
  exact take_num gather_S16_S128x1_S128_n_0_n_n_0_1_1 rfl rfl rfl rfl _ _ idx (fun e => ⟨e.val / 8, by omega⟩) hc (by decide) 15#32 rfl
    bcast_S_S128x1 bcast_S1x1_S128x1_0_1 bcast_S1_S1x1_1 reducesTo_S128x1_S128_d1 h_S_ s

/-- The ends of the edges among the stacked nodes. -/
theorem end_word (b : Fin 2) (e : Fin 8192) : (res_main_v38 V0 : IVec S2x8192 32) (ix2 b e) = BitVec.ofNat 32 (endIn (refArgs V0) b e).val := by
  have hs := edge_subs V0 h
  have hl := h.ends b e
  have hc : ∀ e : Fin 8192, (res_main_call8_v5 V0 : IVec S8192x1 32) (ix2 e (0 : Fin 1)) = BitVec.ofNat 32 (⟨e.val / 64, by omega⟩ : Fin 128).val := fun e => by
    unfold res_main_call8_v5
    generalize (res_main_v32 V0 : IVec S8192 32) = a at hs ⊢
    exact column_at a _ _ _ e _ (hs e) (by have := e.isLt; omega)
  unfold res_main_v38
  generalize (res_main_call8_v5 V0 : IVec S8192x1 32) = idx at hc ⊢
  have ht := take_num gather_S128_S8192x1_S8192_n_0_n_n_0_1_1 rfl rfl rfl rfl (iotaInDim S128 32 0) (broadcastInDim S8192 ![] bcast_S_S8192 (constantI S_ 32 2147483648#32)) idx
    (fun e => ⟨e.val / 64, by omega⟩) hc (by decide) 127#32 rfl
    bcast_S_S8192x1 bcast_S1x1_S8192x1_0_1 bcast_S1_S1x1_1 reducesTo_S8192x1_S8192_d1 h_S_ e
  have ht' : (iotaInDim S128 32 0 : IVec S128 32) (ix1 (⟨e.val / 64, by omega⟩ : Fin 128)) = BitVec.ofNat 32 (e.val / 64) := rfl
  rw [ht'] at ht
  generalize hq : select _ (Host.gather _ _ _) _ = q at ht ⊢
  unfold endIn
  pointwise
  rw [ht]
  show (refArgs V0).ends (ix2 b e) + BitVec.ofNat 32 (e.val / 64) * BitVec.ofNat 32 32 = BitVec.ofNat 32 (32 * (e.val / 64) + ((refArgs V0).ends (ix2 b e)).toNat % 32)
  generalize (refArgs V0).ends (ix2 b e) = w at hl ⊢
  rw [Nat.mod_eq_of_lt hl, ← BitVec.ofNat_mul, BitVec.ofNat_add, BitVec.ofNat_toNat, BitVec.setWidth_eq, Nat.mul_comm 32, BitVec.add_comm]

/-- The stacked nodes' numbers. -/
theorem node_word (r : Fin 4096) : (res_main_v3 V0 : IVec S4096 32) (ix1 r) = (refArgs V0).nodes (ix2 (⟨r.val / 32, by have := r.isLt; omega⟩ : Fin 128) (⟨r.val % 32, by omega⟩ : Fin 32)) := by
  unfold res_main_v3
  show _ = (V0 (Proc.devRef .tc main_arg2) : IVec S128x32 32) _
  generalize (V0 (Proc.devRef .tc main_arg2) : IVec S128x32 32) = a
  pointwise

/-- The stacked nodes' rows. -/
theorem node_col (r : Fin 4096) : (res_main_call3_v5 V0 : IVec S4096x1 32) (ix2 r (0 : Fin 1)) = BitVec.ofNat 32 (nodeOf (refArgs V0) r).val := by
  have hb := h.nodes ⟨r.val / 32, by have := r.isLt; omega⟩ ⟨r.val % 32, by omega⟩
  have hv := node_word V0 h r
  unfold nodeOf
  generalize (refArgs V0).nodes _ = w at hv hb ⊢
  have hm : (res_main_v6 V0 : IVec S4096 32) (ix1 r) = w := by
    unfold res_main_v6
    generalize (res_main_v3 V0 : IVec S4096 32) = a at hv ⊢
    show IntOp.maxsi 0#32 (a (ix1 r)) = w
    rw [hv]
    exact max_zero w (by omega)
  unfold res_main_call3_v5
  generalize (res_main_v6 V0 : IVec S4096 32) = a at hm ⊢
  rw [rowOf_val]
  · exact column_at a _ _ _ r _ (hm.trans (by rw [BitVec.ofNat_toNat, BitVec.setWidth_eq])) (by omega)
  · exact hb

/-- The edges' rows. -/
theorem edge_col (e : Fin 8192) : (res_main_call4_v5 V0 : IVec S8192x1 32) (ix2 e (0 : Fin 1)) = BitVec.ofNat 32 (edgeOf (refArgs V0) e).val := by
  have hb := h.edges e
  unfold edgeOf
  unfold res_main_call4_v5
  change _ = BitVec.ofNat 32 (rowOf 160000 _ ((V0 (Proc.devRef .tc main_arg6) : IVec S8192 32) (ix1 e))).val
  change BitVec.toNat ((V0 (Proc.devRef .tc main_arg6) : IVec S8192 32) (ix1 e)) < _ at hb
  generalize (V0 (Proc.devRef .tc main_arg6) : IVec S8192 32) = a at hb ⊢
  rw [rowOf_val]
  · exact column_at a _ _ _ e _ (by rw [BitVec.ofNat_toNat, BitVec.setWidth_eq]) (by omega)
  · exact hb

/-- The tags. -/
theorem tag_word (s : Fin 128) : (res_main_v1 V0 : IVec S128 32) (ix1 s) = BitVec.ofNat 32 (tagIn (refArgs V0) s).val := by
  have hb := h.nodes s
  have hm : (res_main_call0_v4 V0 : IVec S128 32) (ix1 s) = BitVec.ofNat 32 (tagIn (refArgs V0) s).val := by
    unfold res_main_call0_v4 res_main_call0_v2 res_main_call0_v0 tagIn tagOf
    change ∀ k, BitVec.toNat ((V0 (Proc.devRef .tc main_arg2) : IVec S128x32 32) (ix2 s k)) < _ at hb
    show _ = BitVec.ofNat 32 ((∑ k, BitVec.toNat ((V0 (Proc.devRef .tc main_arg2) : IVec S128x32 32) (ix2 s k))) % 128)
    generalize (V0 (Proc.devRef .tc main_arg2) : IVec S128x32 32) = a at hb ⊢
    generalize hR : BitVec.ofNat 32 _ = R
    pointwise
    rw [← hR]
    refine Eq.trans (b := IntOp.remsi ArithUnit.host (Finset.fold IntOp.addi 0#32 a {i | reducesTo_S128x32_S128_d1.drop i = ix1 s}) 128#32) rfl ?_
    rw [fold_words, Finset.sum_filter]
    refine (congrArg (fun n => IntOp.remsi ArithUnit.host (BitVec.ofNat 32 n) 128#32) (sum_shape2 (M := 128) (W := 32) _)).trans ?_
    have hd : ∀ (r : Fin 128) (k : Fin 32), reducesTo_S128x32_S128_d1.drop (ix2 r k) = ix1 s ↔ r = s := fun r k => by
      have e : reducesTo_S128x32_S128_d1.drop (ix2 r k) = ix1 r := by
        funext b
        obtain rfl : b = (0 : Fin 1) := Subsingleton.elim (α := Fin 1) _ _
        rfl
      rw [e]
      exact ⟨fun c => congrFun c 0, fun c => by rw [c]⟩
    simp only [hd]
    rw [Finset.sum_comm]
    simp only [Finset.sum_ite_eq', Finset.mem_univ, if_true]
    exact rem_word _ ((nodes_sum (fun k => a (ix2 s k)) hb).trans (by decide))
  unfold res_main_v1 res_main_call0_v2 res_main_call0_v0
  generalize (res_main_call0_v4 V0 : IVec S128 32) = a at hm ⊢
  have hl := (tagIn (refArgs V0) s).isLt
  generalize (tagIn (refArgs V0) s).val = n at hm hl ⊢
  generalize hR : BitVec.ofNat 32 n = R
  pointwise
  rw [hm, hR]
  show Scalar.select (IntOp.andi (IntOp.cmpi CmpIPredicate.ne (IntOp.cmpi CmpIPredicate.slt R 0#32) 0#1) (IntOp.cmpi CmpIPredicate.ne R 0#32)) _ R = R
  have hz : IntOp.cmpi CmpIPredicate.slt R 0#32 = 0#1 := by
    rw [← hR]
    unfold IntOp.cmpi
    have : (BitVec.ofNat 32 n).slt 0#32 = false := by
      rw [BitVec.slt, decide_eq_false_iff_not, StableHlo.Predicate.toInt_ofNat_small _ (by omega), StableHlo.Predicate.toInt_ofNat_small _ (by omega)]
      omega
    show BitVec.ofBool ((BitVec.ofNat 32 n).slt 0#32) = _
    rw [this]; rfl
  rw [hz]
  refine if_neg ?_
  show ¬ IntOp.andi 0#1 (IntOp.cmpi CmpIPredicate.ne R 0#32) = 1#1
  generalize IntOp.cmpi CmpIPredicate.ne R 0#32 = q
  revert q
  decide

end Cert.Proof.Gnn.Ref
-- ==== Proof.RefVal.lean ====
/-
  The reference's values: its encoded nodes and edges, its three layers, and its means are the answer's.
-/
module

public import proofs.«01_k».proof.Proof.RefIdx

@[expose] public section

noncomputable section

namespace Cert.Proof.Gnn.Ref

open Idealize.ShloMosaic Cert.ReferenceIdeal Cert.ReferenceIdeal.Gen Cert.ReferenceIdeal.Value Idealize.SL.Sem

/-- A dense map of the edges' features. -/
theorem edge_dense (q : FVec Ideal S8192x16 .f32) (w : FVec Ideal S16x256 .f32) (b : FVec Ideal S256 .f32) (e : Fin 8192) (p : Fin 256)
    (x : Fin 16 → EReal) (hx : ∀ k, q (ix2 e k) = x k) :
    addf (Host.dotGeneral dot_S8192x16_S16x256_S8192x256_1_0_0_1_n_n none q w) (broadcastInDim S8192x256 ![0, 1] bcast_S1x256_S8192x256_0_1 (broadcastInDim S1x256 ![1] bcast_S256_S1x256_1 b)) (ix2 e p)
      = (∑ k, x k * w (ix2 k p) + b (ix1 p) : EReal) := by
  simp only [← hx]
  generalize hR : (∑ k, q (ix2 e k) * w (ix2 k p) + b (ix1 p) : EReal) = R
  pointwise
  rw [← hR]

/-- A dense map of the nodes' features, of the nodes that are valid. -/
theorem node_dense (q : FVec Ideal S4096x128 .f32) (n : IVec S4096 32) (w : FVec Ideal S128x256 .f32) (b : FVec Ideal S256 .f32) (r : Fin 4096) (p : Fin 256)
    (hn : (n (ix1 r)).toNat < 2 ^ 31) (x : Fin 128 → EReal) (hx : ∀ k, q (ix2 r k) = x k) :
    maximumf (addf (Host.dotGeneral dot_S4096x128_S128x256_S4096x256_1_0_0_1_n_n none (mulf q (broadcastInDim S4096x128 ![0, 1] bcast_S4096x1_S4096x128_0_1 (uitofp .f32 (broadcastInDim S4096x1 ![0] bcast_S4096_S4096x1_0 (cmpi .sge n (broadcastInDim S4096 ![] bcast_S_S4096 (constantI S_ 32 0#32))))))) w) (broadcastInDim S4096x256 ![0, 1] bcast_S1x256_S4096x256_0_1 (broadcastInDim S1x256 ![1] bcast_S256_S1x256_1 b))) (broadcastInDim S4096x256 ![] bcast_S_S4096x256 (constant S_ .f32 0x00000000#32)) (ix2 r p)
      = relu (∑ k, x k * w (ix2 k p) + b (ix1 p)) := by
  simp only [← hx]
  have h1 : IntOp.cmpi .sge (n (ix1 r)) 0#32 = 1#1 := IntOp.cmpi_sge.2 (by
    rw [BitVec.toInt_eq_toNat_of_lt (x := n (ix1 r)) (by omega)]; exact Int.natCast_nonneg _)
  generalize hR : relu (∑ k, q (ix2 r k) * w (ix2 k p) + b (ix1 p)) = R
  pointwise
  rw [h1]
  have hu : (FloatOps.uitofp (F := Ideal) .f32 (1#1 : BitVec 1) : EReal) = 1 := by
    show (((1#1 : BitVec 1).toNat : ℝ) : EReal) = 1
    simp
  simp only [hu, mul_one]
  exact hR

/-- The two dense maps of a layer, as the reference computes them. -/
def laid (h s : FVec Ideal S4096x256 .f32) (a1 : FVec Ideal S256x256 .f32) (c1 : FVec Ideal S256 .f32) (a2 : FVec Ideal S256x256 .f32) (c2 : FVec Ideal S256 .f32) : FVec Ideal S4096x256 .f32 :=
  addf h (addf (Host.dotGeneral dot_S4096x256_S256x256_S4096x256_1_0_0_1_n_n none (maximumf (addf (Host.dotGeneral dot_S4096x256_S256x256_S4096x256_1_0_0_1_n_n none (addf h s) a1) (broadcastInDim S4096x256 ![0, 1] bcast_S1x256_S4096x256_0_1 (broadcastInDim S1x256 ![1] bcast_S256_S1x256_1 c1))) (broadcastInDim S4096x256 ![] bcast_S_S4096x256 (constant S_ .f32 0x00000000#32))) a2) (broadcastInDim S4096x256 ![0, 1] bcast_S1x256_S4096x256_0_1 (broadcastInDim S1x256 ![1] bcast_S256_S1x256_1 c2)))

/-- The two dense maps of a layer, of any rows `s` that the edges brought. -/
theorem layer_dense (h s : FVec Ideal S4096x256 .f32) (a1 : FVec Ideal S256x256 .f32) (c1 : FVec Ideal S256 .f32) (a2 : FVec Ideal S256x256 .f32) (c2 : FVec Ideal S256 .f32) (r : Fin 4096) (j : Fin 256) :
    laid h s a1 c1 a2 c2 (ix2 r j)
      = (h (ix2 r j) + (∑ q, hidden (fun p q => a1 (ix2 p q)) (fun q => c1 (ix1 q)) (fun r p => h (ix2 r p) + s (ix2 r p)) r q * a2 (ix2 q j) + c2 (ix1 j)) : EReal) := by
  unfold hidden relu laid
  generalize hR : (h (ix2 r j) + _ : EReal) = R
  pointwise
  exact hR

/-- The messages added at the edges' targets, as the reference computes them. -/
def bring (h : FVec Ideal S4096x256 .f32) (ef : FVec Ideal S8192x256 .f32) (idx : IVec S8192x1 32) (dst : IVec S8192 32) : FVec Ideal S4096x256 .f32 :=
  Host.scatterAdd scatter_S4096x256_S8192x1_S8192x256_1_0_0_1 (broadcastInDim S4096x256 ![] bcast_S_S4096x256 (constant S_ .f32 0x00000000#32)) (broadcastInDim S8192x1 ![0] bcast_S8192_S8192x1_0 (select (cmpi .slt dst (broadcastInDim S8192 ![] bcast_S_S8192 (constantI S_ 32 0#32))) (addi dst (broadcastInDim S8192 ![] bcast_S_S8192 (constantI S_ 32 4096#32))) dst)) (maximumf (addf (select (broadcastInDim S8192x256 ![0] bcast_S8192_S8192x256_0 (Host.reduce IntOp.andi (andi (cmpi .sge idx (broadcastInDim S8192x1 ![] bcast_S_S8192x1 (constantI S_ 32 0#32))) (cmpi .sle idx (broadcastInDim S8192x1 ![0, 1] bcast_S1x1_S8192x1_0_1 (broadcastInDim S1x1 ![1] bcast_S1_S1x1_1 (constantI S1 32 4095#32))))) (constantI S_ 1 1#1) reducesTo_S8192x1_S8192_d1 h_S_)) (Host.gather gather_S4096x256_S8192x1_S8192x256_1_0_n_n_0_1_1256 h idx) (broadcastInDim S8192x256 ![] bcast_S_S8192x256 (constant S_ .f32 0x7FC00000#32))) ef) (broadcastInDim S8192x256 ![] bcast_S_S8192x256 (constant S_ .f32 0x00000000#32)))

/-- The messages added at the edges' targets, for any rows and any ends. -/
theorem brought (h : FVec Ideal S4096x256 .f32) (ef : FVec Ideal S8192x256 .f32) (idx : IVec S8192x1 32) (dst : IVec S8192 32) (s t : Fin 8192 → Fin 4096)
    (hs : ∀ e, idx (ix2 e (0 : Fin 1)) = BitVec.ofNat 32 (s e).val) (ht : ∀ e, dst (ix1 e) = BitVec.ofNat 32 (t e).val) (r : Fin 4096) (p : Fin 256) :
    bring h ef idx dst (ix2 r p)
      = ∑ e, if t e = r then relu (h (ix2 (s e) p) + ef (ix2 e p)) else 0 := by
  unfold bring
  refine (scatter_rows scatter_S4096x256_S8192x1_S8192x256_1_0_0_1 rfl rfl rfl rfl _ _ _ t (fun e => column_at dst _ _ _ e _ (ht e) (by have := (t e).isLt; omega)) (by decide) r p).trans ?_
  have hz : (broadcastInDim S4096x256 ![] bcast_S_S4096x256 (constant (F := Ideal) S_ .f32 0x00000000#32)) (ix2 r p) = (0 : EReal) := by pointwise
  rw [hz, zero_add]
  refine Finset.sum_congr rfl fun e _ => ?_
  have hg := take_row (F := Ideal .f32) gather_S4096x256_S8192x1_S8192x256_1_0_n_n_0_1_1256 rfl rfl rfl rfl rfl h
    (broadcastInDim S8192x256 ![] bcast_S_S8192x256 (constant (F := Ideal) S_ .f32 0x7FC00000#32)) idx s hs (by decide) 4095#32 rfl
    bcast_S_S8192x1 bcast_S1x1_S8192x1_0_1 bcast_S1_S1x1_1 reducesTo_S8192x1_S8192_d1 h_S_ bcast_S8192_S8192x256_0 e p
  generalize select _ (Host.gather _ _ _) _ = q at hg ⊢
  rw [← hg]
  refine if_congr Iff.rfl ?_ rfl
  unfold relu
  pointwise

/-- One layer's weights out of the three layers'. -/
theorem weights_of (l : Fin 3) (a : FVec Ideal S3x256x256 .f32) (hs : S3x256x256.Slices ![l.val, 0, 0] S1x256x256) (p q : Fin 256) :
    shapeCast S256x256 (extractStridedSlice S1x256x256 ![l.val, 0, 0] a hs) shapeCasts_S1x256x256_S256x256 (ix2 p q) = a (ix3 l p q) := by
  fin_cases l <;> pointwise

/-- One layer's offsets out of the three layers'. -/
theorem offsets_of (l : Fin 3) (a : FVec Ideal S3x256 .f32) (hs : S3x256.Slices ![l.val, 0] S1x256) (q : Fin 256) :
    shapeCast S256 (extractStridedSlice S1x256 ![l.val, 0] a hs) shapeCasts_S1x256_S256 (ix1 q) = a (ix2 l q) := by
  fin_cases l <;> pointwise

/-- The nodes after the last layer, as the reference computes them. -/
def last (V0 : Valuation τ sig (Elt Ideal)) : FVec Ideal S4096x256 .f32 :=
  laid (res_main_v114 V0) (bring (res_main_v114 V0) (res_main_v50 V0) (res_main_call16_v5 V0) (res_main_v54 V0))
    (shapeCast _ (extractStridedSlice S1x256x256 ![2, 0, 0] (V0 (Proc.devRef .tc main_arg12)) slices_S3x256x256_S1x256x256_2_0_0) shapeCasts_S1x256x256_S256x256)
    (shapeCast _ (extractStridedSlice S1x256 ![2, 0] (V0 (Proc.devRef .tc main_arg13)) slices_S3x256_S1x256_2_0) shapeCasts_S1x256_S256)
    (shapeCast _ (extractStridedSlice S1x256x256 ![2, 0, 0] (V0 (Proc.devRef .tc main_arg14)) slices_S3x256x256_S1x256x256_2_0_0) shapeCasts_S1x256x256_S256x256)
    (shapeCast _ (extractStridedSlice S1x256 ![2, 0] (V0 (Proc.devRef .tc main_arg15)) slices_S3x256_S1x256_2_0) shapeCasts_S1x256_S256)

section
variable (V0 : Valuation τ sig (Elt Ideal)) (h : Fits V0)
include h

/-- The encoded edges. -/
theorem erows_at (e : Fin 8192) (p : Fin 256) : (res_main_v50 V0 : FVec Ideal S8192x256 .f32) (ix2 e p) = erows (refArgs V0) e p := by
  unfold res_main_v50
  exact edge_dense _ (V0 (Proc.devRef .tc main_arg10)) (V0 (Proc.devRef .tc main_arg11)) e p (fun k => (refArgs V0).feats (ix2 (edgeOf (refArgs V0) e) k)) fun k => take_row (F := Ideal .f32) gather_S160000x16_S8192x1_S8192x16_1_0_n_n_0_1_116 rfl rfl rfl rfl rfl (V0 (Proc.devRef .tc main_arg1))
    _ (res_main_call4_v5 V0)
    (edgeOf (refArgs V0)) (edge_col V0 h) (by decide) 159999#32 rfl bcast_S_S8192x1 bcast_S1x1_S8192x1_0_1 bcast_S1_S1x1_1 reducesTo_S8192x1_S8192_d1 h_S_ bcast_S8192_S8192x16_0 e k

/-- The encoded nodes. -/
theorem rows_at (r : Fin 4096) (p : Fin 256) : (res_main_v46 V0 : FVec Ideal S4096x256 .f32) (ix2 r p) = rows (refArgs V0) r p := by
  have hb := h.nodes ⟨r.val / 32, by have := r.isLt; omega⟩ ⟨r.val % 32, by omega⟩
  rw [← node_word V0 h r] at hb
  unfold res_main_v46
  exact node_dense _ (res_main_v3 V0) (V0 (Proc.devRef .tc main_arg8)) (V0 (Proc.devRef .tc main_arg9)) r p (lt_trans hb (by decide)) (fun k => (refArgs V0).x (ix2 (nodeOf (refArgs V0) r) k)) fun k => take_row (F := Ideal .f32) gather_S10000x128_S4096x1_S4096x128_1_0_n_n_0_1_1128 rfl rfl rfl rfl rfl (V0 (Proc.devRef .tc main_arg0))
    _ (res_main_call3_v5 V0)
    (nodeOf (refArgs V0)) (node_col V0 h) (by decide) 9999#32 rfl bcast_S_S4096x1 bcast_S1x1_S4096x1_0_1 bcast_S1_S1x1_1 reducesTo_S4096x1_S4096_d1 h_S_ bcast_S4096_S4096x128_0 r k

/-- The sources, and the targets, of the edges. -/
theorem source_word (e : Fin 8192) : (res_main_v52 V0 : IVec S8192 32) (ix1 e) = BitVec.ofNat 32 (endIn (refArgs V0) 0 e).val := by
  have hw := end_word V0 h 0 e
  unfold res_main_v52
  generalize (endIn (refArgs V0) 0 e).val = n at hw ⊢
  generalize (res_main_v38 V0 : IVec S2x8192 32) = a at hw ⊢
  rw [← hw]
  pointwise

/-- The targets of the edges. -/
theorem target_word (e : Fin 8192) : (res_main_v54 V0 : IVec S8192 32) (ix1 e) = BitVec.ofNat 32 (endIn (refArgs V0) 1 e).val := by
  have hw := end_word V0 h 1 e
  unfold res_main_v54
  generalize (endIn (refArgs V0) 1 e).val = n at hw ⊢
  generalize (res_main_v38 V0 : IVec S2x8192 32) = a at hw ⊢
  rw [← hw]
  pointwise

/-- The sources as a column. -/
theorem source_col (e : Fin 8192) : (broadcastInDim S8192x1 ![0] bcast_S8192_S8192x1_0 (select (cmpi .slt (res_main_v52 V0) (broadcastInDim S8192 ![] bcast_S_S8192 (constantI S_ 32 0#32))) (addi (res_main_v52 V0) (broadcastInDim S8192 ![] bcast_S_S8192 (constantI S_ 32 4096#32))) (res_main_v52 V0)) : IVec S8192x1 32) (ix2 e (0 : Fin 1)) = BitVec.ofNat 32 (endIn (refArgs V0) 0 e).val :=
  column_at _ _ _ _ e _ (source_word V0 h e) (by have := (endIn (refArgs V0) 0 e).isLt; omega)

/-- A layer of the reference is the answer's layer. -/
theorem layer_at (l : Fin 3) (y : FVec Ideal S4096x256 .f32) (Y : Fin 4096 → Fin 256 → EReal) (hy : ∀ r p, y (ix2 r p) = Y r p) (idx : IVec S8192x1 32)
    (hidx : ∀ e, idx (ix2 e (0 : Fin 1)) = BitVec.ofNat 32 (endIn (refArgs V0) 0 e).val) (a1 : FVec Ideal S256x256 .f32) (c1 : FVec Ideal S256 .f32) (a2 : FVec Ideal S256x256 .f32) (c2 : FVec Ideal S256 .f32)
    (h1 : ∀ p q, a1 (ix2 p q) = (refArgs V0).w1 (ix3 l p q)) (h2 : ∀ q, c1 (ix1 q) = (refArgs V0).b1 (ix2 l q))
    (h3 : ∀ p q, a2 (ix2 p q) = (refArgs V0).w2 (ix3 l p q)) (h4 : ∀ q, c2 (ix1 q) = (refArgs V0).b2 (ix2 l q)) (r : Fin 4096) (j : Fin 256) :
    laid y (bring y (res_main_v50 V0) idx (res_main_v54 V0)) a1 c1 a2 c2 (ix2 r j) = lay (refArgs V0) l Y r j := by
  have hb := brought y (res_main_v50 V0) idx (res_main_v54 V0) _ _ hidx (target_word V0 h)
  have he := erows_at V0 h
  refine (layer_dense y _ a1 c1 a2 c2 r j).trans ?_
  unfold lay layer
  have hg : (fun (r : Fin 4096) (p : Fin 256) => (y (ix2 r p) + bring y (res_main_v50 V0) idx (res_main_v54 V0) (ix2 r p) : EReal))
      = gathered (endIn (refArgs V0) 0) (endIn (refArgs V0) 1) (erows (refArgs V0)) Y := by
    funext r p
    unfold gathered
    rw [hb, hy]
    refine congrArg (Y r p + ·) (Finset.sum_congr rfl fun e _ => ?_)
    rw [hy, he]
  rw [hg, hy]
  simp only [h1, h2, h3, h4]

/-- The first layer. -/
theorem layer0 (r : Fin 4096) (j : Fin 256) : (res_main_v84 V0 : FVec Ideal S4096x256 .f32) (ix2 r j) = lay (refArgs V0) 0 (rows (refArgs V0)) r j := by
  unfold res_main_v84
  exact layer_at V0 h 0 (res_main_v46 V0) _ (rows_at V0 h) (res_main_call10_v5 V0) (source_col V0 h) _ _ _ _
    (weights_of 0 (V0 (Proc.devRef .tc main_arg12)) _) (offsets_of 0 (V0 (Proc.devRef .tc main_arg13)) _)
    (weights_of 0 (V0 (Proc.devRef .tc main_arg14)) _) (offsets_of 0 (V0 (Proc.devRef .tc main_arg15)) _) r j

/-- The second layer. -/
theorem layer1 (r : Fin 4096) (j : Fin 256) : (res_main_v114 V0 : FVec Ideal S4096x256 .f32) (ix2 r j) = lay (refArgs V0) 1 (lay (refArgs V0) 0 (rows (refArgs V0))) r j := by
  unfold res_main_v114
  exact layer_at V0 h 1 (res_main_v84 V0) _ (layer0 V0 h) (res_main_call13_v5 V0) (source_col V0 h) _ _ _ _
    (weights_of 1 (V0 (Proc.devRef .tc main_arg12)) _) (offsets_of 1 (V0 (Proc.devRef .tc main_arg13)) _)
    (weights_of 1 (V0 (Proc.devRef .tc main_arg14)) _) (offsets_of 1 (V0 (Proc.devRef .tc main_arg15)) _) r j

/-- The third layer. -/
theorem layer2 (r : Fin 4096) (j : Fin 256) : last V0 (ix2 r j) = final (refArgs V0) r j := by
  unfold last
  exact layer_at V0 h 2 (res_main_v114 V0) _ (layer1 V0 h) (res_main_call16_v5 V0) (source_col V0 h) _ _ _ _
    (weights_of 2 (V0 (Proc.devRef .tc main_arg12)) _) (offsets_of 2 (V0 (Proc.devRef .tc main_arg13)) _)
    (weights_of 2 (V0 (Proc.devRef .tc main_arg14)) _) (offsets_of 2 (V0 (Proc.devRef .tc main_arg15)) _) r j

end

end Cert.Proof.Gnn.Ref
-- ==== Proof.RefMean.lean ====
/-
  The reference's means: over each subgraph's nodes, and over each graph's subgraphs; and the reference's result is the answer.
-/
module

public import proofs.«01_k».proof.Proof.RefVal

@[expose] public section

noncomputable section

namespace Cert.Proof.Gnn.Ref

open Idealize.ShloMosaic Cert.ReferenceIdeal Cert.ReferenceIdeal.Gen Cert.ReferenceIdeal.Value Idealize.SL.Sem

/-- The pattern of 32. -/
theorem bits_32 : Ideal.ofBits .f32 0x42000000#32 = ((32 : ℝ) : EReal) := by
  simp [Ideal.ofBits, Ideal.ieee, -EReal.coe_mul]; norm_num
/-- The pattern of an eighth. -/
theorem bits_8th : Ideal.ofBits .f32 0x3E000000#32 = ((1 / 8 : ℝ) : EReal) := by
  simp [Ideal.ofBits, Ideal.ieee, -EReal.coe_mul]; norm_num
/-- The pattern of a two hundred and fifty-sixth. -/
theorem bits_256th : Ideal.ofBits .f32 0x3B800000#32 = ((1 / 256 : ℝ) : EReal) := by
  simp [Ideal.ofBits, Ideal.ieee, -EReal.coe_mul]; norm_num

/-- The sum over the members of a segment. -/
theorem sum_segment {N M L : ℕ} (hN : N = M * L) (hL : 0 < L) (t : Fin N → Fin M) (ht : ∀ r, (t r).val = r.val / L) (s : Fin M) (f : Fin N → EReal) (κ : Fin L → Fin N) (hκ : ∀ k, (κ k).val = L * s.val + k.val) :
    (∑ r, if t r = s then f r else 0) = ∑ k, f (κ k) := by
  refine (Fintype.sum_of_injective (M := EReal) κ (fun a b e => ?_) (fun k => f (κ k)) (fun r => if t r = s then f r else 0) (fun r hr => if_neg fun c => hr ?_) fun k => (if_pos ?_).symm).symm
  · have := congrArg Fin.val e
    rw [hκ, hκ] at this
    exact Fin.ext (by omega)
  · have hq : r.val / L = s.val := by rw [← ht, c]
    have hm := Nat.div_add_mod r.val L
    rw [hq] at hm
    exact ⟨⟨r.val % L, Nat.mod_lt _ hL⟩, Fin.ext (by rw [hκ]; exact hm)⟩
  · apply Fin.ext
    rw [ht, hκ, Nat.mul_add_div hL, Nat.div_eq_of_lt k.isLt, Nat.add_zero]

/-- The number of a stacked node's subgraph. -/
theorem sub_of (r : Fin 4096) : (broadcastInDim S4096x1 ![0] bcast_S4096_S4096x1_0 (shapeCast _ (broadcastInDim S128x32 ![0] bcast_S128_S128x32_0 (iotaInDim S128 32 0)) shapeCasts_S128x32_S4096) : IVec S4096x1 32) (ix2 r (0 : Fin 1))
    = BitVec.ofNat 32 (⟨r.val / 32, by have := r.isLt; omega⟩ : Fin 128).val := by
  pointwise

/-- The means over the subgraphs' nodes. -/
theorem pool_at (y : FVec Ideal S4096x256 .f32) (s : Fin 128) (q : Fin 256) :
    Host.divf (Host.scatterAdd scatter_S128x256_S4096x1_S4096x256_1_0_0_1 (broadcastInDim S128x256 ![] bcast_S_S128x256 (constant S_ .f32 0x00000000#32)) (broadcastInDim S4096x1 ![0] bcast_S4096_S4096x1_0 (shapeCast _ (broadcastInDim S128x32 ![0] bcast_S128_S128x32_0 (iotaInDim S128 32 0)) shapeCasts_S128x32_S4096)) y) (broadcastInDim S128x256 ![] bcast_S_S128x256 (constant S_ .f32 0x42000000#32)) (ix2 s q)
      = (∑ k : Fin 32, y (ix2 (⟨32 * s.val + k.val, by omega⟩ : Fin 4096) q) : EReal) * ((1 / 32 : ℝ) : EReal) := by
  have hs := scatter_rows scatter_S128x256_S4096x1_S4096x256_1_0_0_1 rfl rfl rfl rfl (broadcastInDim S128x256 ![] bcast_S_S128x256 (constant (F := Ideal) S_ .f32 0x00000000#32)) _ y _ sub_of (by decide) s q
  have hz : (broadcastInDim S128x256 ![] bcast_S_S128x256 (constant (F := Ideal) S_ .f32 0x00000000#32)) (ix2 s q) = (0 : EReal) := by pointwise
  rw [hz, zero_add, sum_segment (M := 128) (L := 32) (by decide) (by decide) _ (fun _ => rfl) s (fun r => y (ix2 r q)) (fun k => ⟨32 * s.val + k.val, by omega⟩) (fun _ => rfl)] at hs
  show Ideal.div (Host.scatterAdd scatter_S128x256_S4096x1_S4096x256_1_0_0_1 _ _ y (ix2 s q)) (Ideal.ofBits .f32 0x42000000#32) = _
  rw [hs, bits_32]
  exact Ideal.div_coe (y := (32 : ℝ)) (by norm_num) _

section
variable (V0 : Valuation τ sig (Elt Ideal)) (h : Fits V0)
include h

/-- The graphs of the subgraphs, as a column. -/
theorem graph_col (s : Fin 128) : (broadcastInDim S128x1 ![0] bcast_S128_S128x1_0 (res_main_v171 V0) : IVec S128x1 32) (ix2 s (0 : Fin 1)) = BitVec.ofNat 32 (⟨s.val / 8, by omega⟩ : Fin 16).val :=
  (along_rows _ _ s 0).trans (graph_word V0 h s)

/-- The means over the graphs' subgraphs, of any rows. -/
theorem mean_at (y : FVec Ideal S128x320 .f32) (g : Fin 16) (j : Fin 320) :
    Host.divf (Host.scatterAdd scatter_S16x320_S128x1_S128x320_1_0_0_1 (broadcastInDim S16x320 ![] bcast_S_S16x320 (constant S_ .f32 0x00000000#32)) (broadcastInDim S128x1 ![0] bcast_S128_S128x1_0 (res_main_v171 V0)) y)
      (broadcastInDim S16x320 ![0, 1] bcast_S16x1_S16x320_0_1 (broadcastInDim S16x1 ![0] bcast_S16_S16x1_0 (maximumf (broadcastInDim S16 ![] bcast_S_S16 (id (constant S_ .f32 0x3F800000#32))) (Host.scatterAdd scatter_S16_S128x1_S128_n_0_0_1 (broadcastInDim S16 ![] bcast_S_S16 (constant S_ .f32 0x00000000#32)) (broadcastInDim S128x1 ![0] bcast_S128_S128x1_0 (res_main_v171 V0)) (broadcastInDim S128 ![] bcast_S_S128 (constant S_ .f32 0x3F800000#32)))))) (ix2 g j)
      = (∑ s : Fin 8, y (ix2 (subAt g s) j) : EReal) * ((1 / 8 : ℝ) : EReal) := by
  have hs := scatter_rows scatter_S16x320_S128x1_S128x320_1_0_0_1 rfl rfl rfl rfl (broadcastInDim S16x320 ![] bcast_S_S16x320 (constant (F := Ideal) S_ .f32 0x00000000#32)) _ y _ (graph_col V0 h) (by decide) g j
  have hz : (broadcastInDim S16x320 ![] bcast_S_S16x320 (constant (F := Ideal) S_ .f32 0x00000000#32)) (ix2 g j) = (0 : EReal) := by pointwise
  rw [hz, zero_add, sum_segment (M := 16) (L := 8) (by decide) (by decide) _ (fun _ => rfl) g (fun r => y (ix2 r j)) (subAt g) (fun _ => rfl)] at hs
  have hc := scatter_nums scatter_S16_S128x1_S128_n_0_0_1 rfl rfl rfl (broadcastInDim S16 ![] bcast_S_S16 (constant (F := Ideal) S_ .f32 0x00000000#32)) _ (broadcastInDim S128 ![] bcast_S_S128 (constant S_ .f32 0x3F800000#32)) _ (graph_col V0 h) (by decide) g
  have hz' : (broadcastInDim S16 ![] bcast_S_S16 (constant (F := Ideal) S_ .f32 0x00000000#32)) (ix1 g) = (0 : EReal) := by pointwise
  have ho : ∀ s, (broadcastInDim S128 ![] bcast_S_S128 (constant (F := Ideal) S_ .f32 0x3F800000#32)) (ix1 s) = (1 : EReal) := fun s => by pointwise
  simp only [ho] at hc
  rw [hz', zero_add, sum_segment (M := 16) (L := 8) (by decide) (by decide) _ (fun _ => rfl) g (fun r => (1 : EReal)) (subAt g) (fun _ => rfl)] at hc
  generalize Host.scatterAdd (F := Ideal) scatter_S16x320_S128x1_S128x320_1_0_0_1 _ _ y = a at hs ⊢
  generalize Host.scatterAdd (F := Ideal) scatter_S16_S128x1_S128_n_0_0_1 _ _ _ = n at hc ⊢
  generalize hR : (∑ s : Fin 8, y (ix2 (subAt g s) j) : EReal) = R at hs ⊢
  pointwise
  rw [hs, hc]
  have h1 : (id (constant (F := Ideal) S_ FTy.f32 0x3F800000#32) ix0 : EReal) = 1 := Ideal.ofBits_one_f32
  have h8 : (∑ k : Fin 8, (1 : EReal)) = ((8 : ℝ) : EReal) := by
    simp only [Fin.sum_univ_succ, Fin.sum_univ_zero]
    rw [show (1 : EReal) = ((1 : ℝ) : EReal) from rfl, show (0 : EReal) = ((0 : ℝ) : EReal) from rfl]
    simp only [← EReal.coe_add]
    norm_num
  rw [h8]
  refine (congrArg (Ideal.div R) (max_eq_right ?_)).trans (Ideal.div_coe (y := (8 : ℝ)) (by norm_num) R)
  rw [h1]
  exact_mod_cast (by norm_num : (1 : ℝ) ≤ 8)

/-- The reference's result, over its last layer. -/
def refOut (V0 : Valuation τ sig (Elt Ideal)) : FVec Ideal S16x320 .f32 :=
  Host.divf (Host.scatterAdd scatter_S16x320_S128x1_S128x320_1_0_0_1 (broadcastInDim S16x320 ![] bcast_S_S16x320 (constant S_ .f32 0x00000000#32)) (broadcastInDim S128x1 ![0] bcast_S128_S128x1_0 (res_main_v171 V0)) (concatenate S128x320 1 [⟨S128x64, (select (broadcastInDim S128x64 ![0] bcast_S128_S128x64_0 (Host.reduce IntOp.andi (andi (cmpi .sge (res_main_call1_v5 V0) (broadcastInDim S128x1 ![] bcast_S_S128x1 (constantI S_ 32 0#32))) (cmpi .sle (res_main_call1_v5 V0) (broadcastInDim S128x1 ![0, 1] bcast_S1x1_S128x1_0_1 (broadcastInDim S1x1 ![1] bcast_S1_S1x1_1 (constantI S1 32 128#32))))) (constantI S_ 1 1#1) reducesTo_S128x1_S128_d1 h_S_)) (Host.gather gather_S129x64_S128x1_S128x64_1_0_n_n_0_1_164 (V0 (Proc.devRef .tc main_arg7)) (res_main_call1_v5 V0)) (broadcastInDim S128x64 ![] bcast_S_S128x64 (constant S_ .f32 0x7FC00000#32)))⟩, ⟨S128x256, (Host.divf (Host.scatterAdd scatter_S128x256_S4096x1_S4096x256_1_0_0_1 (broadcastInDim S128x256 ![] bcast_S_S128x256 (constant S_ .f32 0x00000000#32)) (broadcastInDim S4096x1 ![0] bcast_S4096_S4096x1_0 (shapeCast _ (broadcastInDim S128x32 ![0] bcast_S128_S128x32_0 (iotaInDim S128 32 0)) shapeCasts_S128x32_S4096)) (last V0)) (broadcastInDim S128x256 ![] bcast_S_S128x256 (constant S_ .f32 0x42000000#32)))⟩] concatenates_S128x64_S128x256_S128x320_d1)) (broadcastInDim S16x320 ![0, 1] bcast_S16x1_S16x320_0_1 (broadcastInDim S16x1 ![0] bcast_S16_S16x1_0 (maximumf (broadcastInDim S16 ![] bcast_S_S16 (id (constant S_ .f32 0x3F800000#32))) (Host.scatterAdd scatter_S16_S128x1_S128_n_0_0_1 (broadcastInDim S16 ![] bcast_S_S16 (constant S_ .f32 0x00000000#32)) (broadcastInDim S128x1 ![0] bcast_S128_S128x1_0 (res_main_v171 V0)) (broadcastInDim S128 ![] bcast_S_S128 (constant S_ .f32 0x3F800000#32))))))

/-- The tags' rows. -/
theorem tag_row (s : Fin 128) (p : Fin 64) :
    (select (broadcastInDim S128x64 ![0] bcast_S128_S128x64_0 (Host.reduce IntOp.andi (andi (cmpi .sge (res_main_call1_v5 V0) (broadcastInDim S128x1 ![] bcast_S_S128x1 (constantI S_ 32 0#32))) (cmpi .sle (res_main_call1_v5 V0) (broadcastInDim S128x1 ![0, 1] bcast_S1x1_S128x1_0_1 (broadcastInDim S1x1 ![1] bcast_S1_S1x1_1 (constantI S1 32 128#32))))) (constantI S_ 1 1#1) reducesTo_S128x1_S128_d1 h_S_)) (Host.gather gather_S129x64_S128x1_S128x64_1_0_n_n_0_1_164 (V0 (Proc.devRef .tc main_arg7)) (res_main_call1_v5 V0)) (broadcastInDim S128x64 ![] bcast_S_S128x64 (constant S_ .f32 0x7FC00000#32)) : FVec Ideal S128x64 .f32) (ix2 s p)
      = (refArgs V0).table (ix2 ((tagIn (refArgs V0) s).castLE (by decide)) p) := by
  have hc : ∀ s : Fin 128, (res_main_call1_v5 V0 : IVec S128x1 32) (ix2 s (0 : Fin 1)) = BitVec.ofNat 32 ((tagIn (refArgs V0) s).castLE (by decide) : Fin 129).val := fun s => by
    unfold res_main_call1_v5
    exact column_at _ _ _ _ s _ (tag_word V0 h s) (by have := (tagIn (refArgs V0) s).isLt; omega)
  exact take_row (F := Ideal .f32) gather_S129x64_S128x1_S128x64_1_0_n_n_0_1_164 rfl rfl rfl rfl rfl (V0 (Proc.devRef .tc main_arg7))
    _ (res_main_call1_v5 V0) (fun s => (tagIn (refArgs V0) s).castLE (by decide)) hc (by decide) 128#32 rfl bcast_S_S128x1 bcast_S1x1_S128x1_0_1 bcast_S1_S1x1_1 reducesTo_S128x1_S128_d1 h_S_ bcast_S128_S128x64_0 s p

omit h in
/-- The two parts of a row side by side. -/
theorem beside (a : FVec Ideal S128x64 .f32) (b : FVec Ideal S128x256 .f32) (s : Fin 128) (j : Fin 320) :
    (concatenate S128x320 1 [⟨S128x64, a⟩, ⟨S128x256, b⟩] concatenates_S128x64_S128x256_S128x320_d1 : FVec Ideal S128x320 .f32) (ix2 s j)
      = if hj : j.val < 64 then a (ix2 s ⟨j.val, hj⟩) else b (ix2 s ⟨j.val - 64, by omega⟩) := by
  pointwise

/-- The reference's result is the answer. -/
theorem reference_answer (g : Fin 16) (j : Fin 320) : refOut V0 (ix2 g j) = answer (refArgs V0) g j := by
  unfold refOut
  refine (mean_at V0 h _ g j).trans ?_
  unfold answer
  by_cases hj : j.val < 64
  · rw [dif_pos hj]
    unfold tagMean
    rw [bits_8th]
    refine congrArg (fun z : EReal => z * ((1 / 8 : ℝ) : EReal)) (Finset.sum_congr rfl fun s _ => ?_)
    rw [beside, dif_pos hj]
    exact tag_row V0 h (subAt g s) ⟨j.val, hj⟩
  · rw [dif_neg hj]
    unfold nodeMean
    have hl := layer2 V0 h
    generalize last V0 = y at hl ⊢
    generalize final (refArgs V0) = Y at hl ⊢
    refine Eq.trans (congrArg (fun z : EReal => z * ((1 / 8 : ℝ) : EReal)) (Finset.sum_congr rfl fun s _ => ((beside _ _ (subAt g s) j).trans (dif_neg hj)).trans
      ((pool_at y (subAt g s) ⟨j.val - 64, by omega⟩).trans (congrArg (fun z : EReal => z * ((1 / 32 : ℝ) : EReal)) (Finset.sum_congr rfl fun k _ => hl _ _))))) ?_
    dsimp only
    rw [sum_mul_pos _ _ _ (by exact_mod_cast (by norm_num : (0 : ℝ) ≤ 1 / 32)) (EReal.coe_ne_top _), mul_assoc, ← EReal.coe_mul, bits_256th,
      show ((1 / 32 : ℝ) * (1 / 8)) = 1 / 256 by norm_num]
    refine congrArg (fun z : EReal => z * ((1 / 256 : ℝ) : EReal)) ?_
    rw [← Fintype.sum_prod_type']
    refine Fintype.sum_equiv finProdFinEquiv _ _ fun p => ?_
    refine congrArg (fun i => Y i _) (Fin.ext ?_)
    show 32 * (8 * g.val + p.1.val) + p.2.val = 256 * g.val + (p.2.val + 32 * p.1.val)
    omega

end

end Cert.Proof.Gnn.Ref
-- ==== Proof.Value.lean ====
/-
  The value claim: the kernel and the reference, from memories that agree on the arguments, both end with the answer.
-/
module

public import proofs.«01_k».proof.Proof.Frames
public import proofs.«01_k».proof.Proof.RefMean

@[expose] public section

noncomputable section

namespace Cert.Proof.Gnn

open Idealize.ShloMosaic Idealize.SL.Sem

/-- The word of a multiple. -/
theorem times_word (a b : ℕ) : BitVec.ofNat 32 a * BitVec.ofNat 32 b = BitVec.ofNat 32 (a * b) := (BitVec.ofNat_mul a b).symm

/-- `Cert.algebraic_KernelIdeal_ReferenceIdeal`. -/
theorem same_values : Cert.algebraic_KernelIdeal_ReferenceIdeal := by
  intro m g m' g' hpre hargs
  have hr := ranges_ideal m hpre
  have hA : ∀ c, Ref.refArgs (StableHlo.launchContents m' c) = argsOf m c := by
    intro c
    obtain ⟨h0, h1, h2, h3, h4, h5, h6, h7, h8, h9, h10, h11, h12, h13, h14, h15⟩ := hargs c
    unfold Ref.refArgs argsOf
    congr 1
  have hF : ∀ c, Ref.Fits (StableHlo.launchContents m' c) := by
    intro c
    obtain ⟨h0, h1, h2, h3, h4, h5, h6, h7, h8, h9, h10, h11, h12, h13, h14, h15⟩ := hargs c
    refine ⟨fun s k => ?_, fun b e => ?_, fun j => ?_, fun j => ?_, fun e => ?_⟩
    · rw [hA c]; exact (hr c).nodes _
    · rw [hA c]; exact (hr c).local' _
    · exact (congrFun h4 (ix1 j)).trans (((hr c).eptr _).trans (times_word _ _))
    · exact (congrFun h5 (ix1 j)).trans (((hr c).sptr _).trans (times_word _ _))
    · rw [hA c]; exact (hr c).src _
  refine ⟨fun c => V6 m c (Proc.devRef .tc Cert.KernelIdeal.main_v18), ?_, ?_⟩
  · exact (θ_run Cert.KernelIdeal.defs _ _).mono (fun r h c => ⟨h.1 c _ (mem_all Cert.KernelIdeal.main_v18 rfl), all_kept m r h c⟩)
      (run_main (F := Ideal) m g (inRange_ideal m hpre))
  · refine (θ_run Cert.ReferenceIdeal.defs _ _).mono (fun r h c => ⟨(h c).1.trans ?_, (h c).2⟩) (Cert.ReferenceIdeal.Value.run (F := Ideal) m' g')
    show Ref.refOut (StableHlo.launchContents m' c) = (V6 m c (Proc.devRef .tc Cert.KernelIdeal.main_v18) : Vec Ideal Cert.KernelIdeal.S16x320 .f32)
    funext i
    obtain ⟨a, b, rfl⟩ : ∃ (a : Fin 16) (b : Fin 320), i = ix2 a b := ⟨i 0, i 1, ValueIdx.eq_ix2 i⟩
    refine (Ref.reference_answer _ (hF c) a b).trans ?_
    rw [hA c]
    exact (kernel_answer m c (fun j => (hr c).nodes j) (fun j => (hr c).local' j) a b).symm

end Cert.Proof.Gnn
-- ==== Proof.lean ====
/- The claim, from its parts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_setup_ranges
public import proofs.«01_k».proof.Proof.Gen.ReferenceIdeal.Run
public import Idealize.ShloMosaic.Adequacy
public import Idealize.ShloMosaic.Init
public import proofs.«01_k».proof.Proof.Frames
public import proofs.«01_k».proof.Proof.Value

@[expose] public section

noncomputable section

namespace Cert.Proof

open Idealize.ShloMosaic Idealize.SL.Sem Cert.Kernel

/-- The claim: the frames of the programs, that no operation was replaced, and that the kernel and the reference give the same values. -/
theorem claim : Cert.Claim := ⟨Cert.Kernel.Gen.facts, Cert.KernelIdeal.Gen.facts, Cert.ReferenceIdeal.Gen.facts, Cert.Pre_setup_ranges.Gen.facts, Gnn.frame_bits, Gnn.frame_ideal, Gnn.frame_ref, Gnn.frame_ref', trivial, Gnn.same_values⟩

end Cert.Proof

end
